-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 2048, 8, 128]⟩ ⟨4, ![1, 32768, 8, 128]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 2048, 8, 128]⟩ ⟨4, ![1, 32768, 8, 128]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x2048x8x128 : S_.BroadcastsInDim S1x2048x8x128 (![] : Fin 0 → Fin S1x2048x8x128.rank)
  reducesTo_S1x2048x8x128_S_d0_1_2_3 : S1x2048x8x128.ReducesTo [0, 1, 2, 3] S_

variable [Facts]

def fn {F : FTy → Type} [FloatOps F] (main_arg0 : FVec F S1x2048x1024 .f32) (main_arg1 : FVec F S1024x1024 .f32) (main_arg2 : FVec F S1x2048x8x128 .f32) (main_arg3 : FVec F S1x2048x8x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x2048x8x128 .f32 := Host.absf main_arg2
  let main_cst_2 : FVec F S_ .f32 := constant S_ .f32 0x7F800000#32
  let main_v10 : FVec F S1x2048x8x128 .f32 := broadcastInDim S1x2048x8x128 ![] bcast_S_S1x2048x8x128 main_cst_2
  let main_v11 : IVec S1x2048x8x128 1 := cmpf .olt main_v9 main_v10
  let main_c_3 : IVec S_ 1 := constantI S_ 1 1#1
  let main_v12 : IVec S_ 1 := (fun x v => Host.reduce IntOp.andi x v reducesTo_S1x2048x8x128_S_d0_1_2_3 h_S_) main_v11 main_c_3
  let main_v13 : IVec S_ 1 := andi main_v8 main_v12
  main_v13
-- ==== Pre_scores_finite_ReferenceIdeal.lean ====
abbrev S1x2048x1024 : Shape := ⟨3, ![1, 2048, 1024]⟩
abbrev S1024x1024 : Shape := ⟨2, ![1024, 1024]⟩
abbrev S1x32768x8x128 : Shape := ⟨4, ![1, 32768, 8, 128]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x32768x8x128 : S_.BroadcastsInDim S1x32768x8x128 (![] : Fin 0 → Fin S1x32768x8x128.rank)
  reducesTo_S1x32768x8x128_S_d0_1_2_3 : S1x32768x8x128.ReducesTo [0, 1, 2, 3] S_

variable [Facts]

def fn {F : FTy → Type} [FloatOps F] (main_arg0 : FVec F S1x2048x1024 .f32) (main_arg1 : FVec F S1024x1024 .f32) (main_arg2 : FVec F S1x32768x8x128 .f32) (main_arg3 : FVec F S1x32768x8x128 .f32) (main_arg4 : FVec F S1024x1024 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x32768x8x128 .f32 := Host.absf main_arg2
  let main_cst_2 : FVec F S_ .f32 := constant S_ .f32 0x7F800000#32
  let main_v10 : FVec F S1x32768x8x128 .f32 := broadcastInDim S1x32768x8x128 ![] bcast_S_S1x32768x8x128 main_cst_2
  let main_v11 : IVec S1x32768x8x128 1 := cmpf .olt main_v9 main_v10
  let main_c_3 : IVec S_ 1 := constantI S_ 1 1#1
  let main_v12 : IVec S_ 1 := (fun x v => Host.reduce IntOp.andi x v reducesTo_S1x32768x8x128_S_d0_1_2_3 h_S_) main_v11 main_c_3
  let main_v13 : IVec S_ 1 := andi main_v8 main_v12
  main_v13
-- ==== Kernel.lean ====
abbrev S1x2048x1024 : Shape := ⟨3, ![1, 2048, 1024]⟩
abbrev S1024x1024 : Shape := ⟨2, ![1024, 1024]⟩
abbrev S1x2048x8x128 : Shape := ⟨4, ![1, 2048, 8, 128]⟩
abbrev S16x8x128x128 : Shape := ⟨4, ![16, 8, 128, 128]⟩
abbrev S16x2x8x128 : Shape := ⟨4, ![16, 2, 8, 128]⟩
abbrev S2x8x128x128 : Shape := ⟨4, ![2, 8, 128, 128]⟩
abbrev S2x2x8x128 : Shape := ⟨4, ![2, 2, 8, 128]⟩
abbrev S2048x128 : Shape := ⟨2, ![2048, 128]⟩
abbrev S2 : Shape := ⟨1, ![2]⟩
abbrev S15 : Shape := ⟨1, ![15]⟩
abbrev S_ : Shape := ⟨0, ![]⟩
abbrev S2048x1024 : Shape := ⟨2, ![2048, 1024]⟩
abbrev S1 : Shape := ⟨1, ![1]⟩
abbrev S1x2048x1x128 : Shape := ⟨4, ![1, 2048, 1, 128]⟩
abbrev S1024x128 : Shape := ⟨2, ![1024, 128]⟩
abbrev S128x128 : Shape := ⟨2, ![128, 128]⟩
abbrev S128x2048 : Shape := ⟨2, ![128, 2048]⟩
abbrev S128 : Shape := ⟨1, ![128]⟩
abbrev S128x1 : Shape := ⟨2, ![128, 1]⟩
abbrev S1x128x128 : Shape := ⟨3, ![1, 128, 128]⟩
abbrev S1x1x128x128 : Shape := ⟨4, ![1, 1, 128, 128]⟩
abbrev S1x128 : Shape := ⟨2, ![1, 128]⟩
abbrev S1x1x1x128 : Shape := ⟨4, ![1, 1, 1, 128]⟩
abbrev S1x8x128x128 : Shape := ⟨4, ![1, 8, 128, 128]⟩
abbrev S8x128x128 : Shape := ⟨3, ![8, 128, 128]⟩
abbrev S1x2x8x128 : Shape := ⟨4, ![1, 2, 8, 128]⟩
abbrev S2x8x128 : Shape := ⟨3, ![2, 8, 128]⟩
abbrev S1x1x8x128 : Shape := ⟨4, ![1, 1, 8, 128]⟩
abbrev S8x128 : Shape := ⟨2, ![8, 128]⟩
abbrev S8x128x1 : Shape := ⟨3, ![8, 128, 1]⟩
abbrev S128x1024 : Shape := ⟨2, ![128, 1024]⟩
abbrev S1x128x1024 : Shape := ⟨3, ![1, 128, 1024]⟩

abbrev nBuf : Space → Nat
  | .hbm => 6
  | .vmem => 11
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x2048x8x128, .f32⟩
  | .hbm, ⟨3, _⟩ => ⟨S1x2048x8x128, .f32⟩
  | .hbm, ⟨4, _⟩ => ⟨S1024x1024, .f32⟩
  | .hbm, ⟨5, _⟩ => ⟨S1x2048x1024, .f32⟩
  | .local _ .vmem, ⟨0, _⟩ => ⟨S1x2048x1024, .f32⟩
  | .local _ .vmem, ⟨1, _⟩ => ⟨S1024x1024, .f32⟩
  | .local _ .vmem, ⟨2, _⟩ => ⟨S1024x1024, .f32⟩
  | .local _ .vmem, ⟨3, _⟩ => ⟨S1x2048x1024, .f32⟩
  | .local _ .vmem, ⟨4, _⟩ => ⟨S16x8x128x128, .f32⟩
  | .local _ .vmem, ⟨5, _⟩ => ⟨S16x2x8x128, .f32⟩
  | .local _ .vmem, ⟨6, _⟩ => ⟨S2x8x128x128, .f32⟩
  | .local _ .vmem, ⟨7, _⟩ => ⟨S2x2x8x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 2 → Bool
  | ⟨0, _⟩ => true
  | ⟨1, _⟩ => false
  | _ => false

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  (ofTc nBuf bufTy 2 96 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 1

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_6 : BitVec 32 := 1#32
  let v9 : BitVec 32 := Scalar.muli v7 c1_i32_6
  let v10 : BitVec 32 := Scalar.addi c0_i32 v9
  v10.toNat
@[reducible] def k0_t1_loop : Scf.Loop 32 :=
  let c0_i32_38 : BitVec 32 := 0#32
  let c16_i32_39 : BitVec 32 := 16#32
  let v37 : BitVec 32 := Scalar.addi c0_i32_38 c16_i32_39
  let c1_i32_40 : BitVec 32 := 1#32
  ⟨c0_i32_38, v37, c1_i32_40⟩
def k0_off1 (k0_t1 : Fin k0_t1_loop.trips) : Fin 2 → Nat :=
  let c0_i32_38 : BitVec 32 := 0#32
  let c1_i32_40 : BitVec 32 := 1#32
  let arg21 : BitVec 32 := Scf.iv c0_i32_38 c1_i32_40 k0_t1
  let c128_i32_2272 : BitVec 32 := 128#32
  let v2179 : BitVec 32 := Scalar.muli arg21 c128_i32_2272
  let v2180 : Index := Scalar.indexCast v2179
  let c0_2273 : Index := 0#32
  ![v2180.toNat, 0]
def k0_off2 (k0_t1 : Fin k0_t1_loop.trips) : Fin 4 → Nat :=
  let c0_i32_38 : BitVec 32 := 0#32
  let c1_i32_40 : BitVec 32 := 1#32
  let arg21 : BitVec 32 := Scf.iv c0_i32_38 c1_i32_40 k0_t1
  let v2260 : Index := Scalar.indexCast arg21
  let c0_2296 : Index := 0#32
  let c0_2297 : Index := 0#32
  let c0_2298 : Index := 0#32
  ![v2260.toNat, 0, 0, 0]
def k0_off3 (k0_t1 : Fin k0_t1_loop.trips) : Fin 4 → Nat :=
  let c0_i32_38 : BitVec 32 := 0#32
  let c1_i32_40 : BitVec 32 := 1#32
  let arg21 : BitVec 32 := Scf.iv c0_i32_38 c1_i32_40 k0_t1
  let v2265 : Index := Scalar.indexCast arg21
  let c0_2299 : Index := 0#32
  let c0_2300 : Index := 0#32
  let c0_2301 : Index := 0#32
  ![v2265.toNat, 0, 0, 0]
def k0_off4 (k0_t1 : Fin k0_t1_loop.trips) : Fin 4 → Nat :=
  let c0_i32_38 : BitVec 32 := 0#32
  let c1_i32_40 : BitVec 32 := 1#32
  let arg21 : BitVec 32 := Scf.iv c0_i32_38 c1_i32_40 k0_t1
  let v2270 : Index := Scalar.indexCast arg21
  let c1_2302 : Index := 1#32
  let c0_2303 : Index := 0#32
  let c0_2304 : Index := 0#32
  ![v2270.toNat, 1, 0, 0]
@[reducible] def k0_t2_loop : Scf.Loop 32 :=
  let c0_i32_70 : BitVec 32 := 0#32
  let c16_i32_71 : BitVec 32 := 16#32
  let v62 : BitVec 32 := Scalar.addi c0_i32_70 c16_i32_71
  let c1_i32_72 : BitVec 32 := 1#32
  ⟨c0_i32_70, v62, c1_i32_72⟩
def k0_off5 (k0_t2 : Fin k0_t2_loop.trips) : Fin 2 → Nat :=
  let c0_i32_70 : BitVec 32 := 0#32
  let c1_i32_72 : BitVec 32 := 1#32
  let arg21 : BitVec 32 := Scf.iv c0_i32_70 c1_i32_72 k0_t2
  let c128_i32_2272 : BitVec 32 := 128#32
  let v2179 : BitVec 32 := Scalar.muli arg21 c128_i32_2272
  let v2180 : Index := Scalar.indexCast v2179
  let c0_2273 : Index := 0#32
  ![v2180.toNat, 0]
def k0_off6 (k0_t2 : Fin k0_t2_loop.trips) : Fin 4 → Nat :=
  let c0_i32_70 : BitVec 32 := 0#32
  let c1_i32_72 : BitVec 32 := 1#32
  let arg21 : BitVec 32 := Scf.iv c0_i32_70 c1_i32_72 k0_t2
  let v2260 : Index := Scalar.indexCast arg21
  let c1_2296 : Index := 1#32
  let c0_2297 : Index := 0#32
  let c0_2298 : Index := 0#32
  ![v2260.toNat, 1, 0, 0]
def k0_off7 (k0_t2 : Fin k0_t2_loop.trips) : Fin 4 → Nat :=
  let c0_i32_70 : BitVec 32 := 0#32
  let c1_i32_72 : BitVec 32 := 1#32
  let arg21 : BitVec 32 := Scf.iv c0_i32_70 c1_i32_72 k0_t2
  let v2265 : Index := Scalar.indexCast arg21
  let c0_2299 : Index := 0#32
  let c1_2300 : Index := 1#32
  let c0_2301 : Index := 0#32
  ![v2265.toNat, 0, 1, 0]
def k0_off8 (k0_t2 : Fin k0_t2_loop.trips) : Fin 4 → Nat :=
  let c0_i32_70 : BitVec 32 := 0#32
  let c1_i32_72 : BitVec 32 := 1#32
  let arg21 : BitVec 32 := Scf.iv c0_i32_70 c1_i32_72 k0_t2
  let v2270 : Index := Scalar.indexCast arg21
  let c1_2302 : Index := 1#32
  let c1_2303 : Index := 1#32
  let c0_2304 : Index := 0#32
  ![v2270.toNat, 1, 1, 0]
@[reducible] def k0_t3_loop : Scf.Loop 32 :=
  let c0_i32_101 : BitVec 32 := 0#32
  let c16_i32_102 : BitVec 32 := 16#32
  let v87 : BitVec 32 := Scalar.addi c0_i32_101 c16_i32_102
  let c1_i32_103 : BitVec 32 := 1#32
  ⟨c0_i32_101, v87, c1_i32_103⟩
def k0_off9 (k0_t3 : Fin k0_t3_loop.trips) : Fin 2 → Nat :=
  let c0_i32_101 : BitVec 32 := 0#32
  let c1_i32_103 : BitVec 32 := 1#32
  let arg21 : BitVec 32 := Scf.iv c0_i32_101 c1_i32_103 k0_t3
  let c128_i32_2272 : BitVec 32 := 128#32
  let v2179 : BitVec 32 := Scalar.muli arg21 c128_i32_2272
  let v2180 : Index := Scalar.indexCast v2179
  let c0_2273 : Index := 0#32
  ![v2180.toNat, 0]
def k0_off10 (k0_t3 : Fin k0_t3_loop.trips) : Fin 4 → Nat :=
  let c0_i32_101 : BitVec 32 := 0#32
  let c1_i32_103 : BitVec 32 := 1#32
  let arg21 : BitVec 32 := Scf.iv c0_i32_101 c1_i32_103 k0_t3
  let v2260 : Index := Scalar.indexCast arg21
  let c2 : Index := 2#32
  let c0_2296 : Index := 0#32
  let c0_2297 : Index := 0#32
  ![v2260.toNat, 2, 0, 0]
def k0_off11 (k0_t3 : Fin k0_t3_loop.trips) : Fin 4 → Nat :=
  let c0_i32_101 : BitVec 32 := 0#32
  let c1_i32_103 : BitVec 32 := 1#32
  let arg21 : BitVec 32 := Scf.iv c0_i32_101 c1_i32_103 k0_t3
  let v2265 : Index := Scalar.indexCast arg21
  let c0_2298 : Index := 0#32
  let c2_2299 : Index := 2#32
  let c0_2300 : Index := 0#32
  ![v2265.toNat, 0, 2, 0]
def k0_off12 (k0_t3 : Fin k0_t3_loop.trips) : Fin 4 → Nat :=
  let c0_i32_101 : BitVec 32 := 0#32
  let c1_i32_103 : BitVec 32 := 1#32
  let arg21 : BitVec 32 := Scf.iv c0_i32_101 c1_i32_103 k0_t3
  let v2270 : Index := Scalar.indexCast arg21
  let c1_2301 : Index := 1#32
  let c2_2302 : Index := 2#32
  let c0_2303 : Index := 0#32
  ![v2270.toNat, 1, 2, 0]
@[reducible] def k0_t4_loop : Scf.Loop 32 :=
  let c0_i32_132 : BitVec 32 := 0#32
  let c16_i32_133 : BitVec 32 := 16#32
  let v112 : BitVec 32 := Scalar.addi c0_i32_132 c16_i32_133
  let c1_i32_134 : BitVec 32 := 1#32
  ⟨c0_i32_132, v112, c1_i32_134⟩
def k0_off13 (k0_t4 : Fin k0_t4_loop.trips) : Fin 2 → Nat :=
  let c0_i32_132 : BitVec 32 := 0#32
  let c1_i32_134 : BitVec 32 := 1#32
  let arg21 : BitVec 32 := Scf.iv c0_i32_132 c1_i32_134 k0_t4
  let c128_i32_2272 : BitVec 32 := 128#32
  let v2179 : BitVec 32 := Scalar.muli arg21 c128_i32_2272
  let v2180 : Index := Scalar.indexCast v2179
  let c0_2273 : Index := 0#32
  ![v2180.toNat, 0]
def k0_off14 (k0_t4 : Fin k0_t4_loop.trips) : Fin 4 → Nat :=
  let c0_i32_132 : BitVec 32 := 0#32
  let c1_i32_134 : BitVec 32 := 1#32
  let arg21 : BitVec 32 := Scf.iv c0_i32_132 c1_i32_134 k0_t4
  let v2260 : Index := Scalar.indexCast arg21
  let c3 : Index := 3#32
  let c0_2296 : Index := 0#32
  let c0_2297 : Index := 0#32
  ![v2260.toNat, 3, 0, 0]
def k0_off15 (k0_t4 : Fin k0_t4_loop.trips) : Fin 4 → Nat :=
  let c0_i32_132 : BitVec 32 := 0#32
  let c1_i32_134 : BitVec 32 := 1#32
  let arg21 : BitVec 32 := Scf.iv c0_i32_132 c1_i32_134 k0_t4
  let v2265 : Index := Scalar.indexCast arg21
  let c0_2298 : Index := 0#32
  let c3_2299 : Index := 3#32
  let c0_2300 : Index := 0#32
  ![v2265.toNat, 0, 3, 0]
def k0_off16 (k0_t4 : Fin k0_t4_loop.trips) : Fin 4 → Nat :=
  let c0_i32_132 : BitVec 32 := 0#32
  let c1_i32_134 : BitVec 32 := 1#32
  let arg21 : BitVec 32 := Scf.iv c0_i32_132 c1_i32_134 k0_t4
  let v2270 : Index := Scalar.indexCast arg21
  let c1_2301 : Index := 1#32
  let c3_2302 : Index := 3#32
  let c0_2303 : Index := 0#32
  ![v2270.toNat, 1, 3, 0]
@[reducible] def k0_t5_loop : Scf.Loop 32 :=
  let c0_i32_163 : BitVec 32 := 0#32
  let c16_i32_164 : BitVec 32 := 16#32
  let v137 : BitVec 32 := Scalar.addi c0_i32_163 c16_i32_164
  let c1_i32_165 : BitVec 32 := 1#32
  ⟨c0_i32_163, v137, c1_i32_165⟩
def k0_off17 (k0_t5 : Fin k0_t5_loop.trips) : Fin 2 → Nat :=
  let c0_i32_163 : BitVec 32 := 0#32
  let c1_i32_165 : BitVec 32 := 1#32
  let arg21 : BitVec 32 := Scf.iv c0_i32_163 c1_i32_165 k0_t5
  let c128_i32_2272 : BitVec 32 := 128#32
  let v2179 : BitVec 32 := Scalar.muli arg21 c128_i32_2272
  let v2180 : Index := Scalar.indexCast v2179
  let c0_2273 : Index := 0#32
  ![v2180.toNat, 0]
def k0_off18 (k0_t5 : Fin k0_t5_loop.trips) : Fin 4 → Nat :=
  let c0_i32_163 : BitVec 32 := 0#32
  let c1_i32_165 : BitVec 32 := 1#32
  let arg21 : BitVec 32 := Scf.iv c0_i32_163 c1_i32_165 k0_t5
  let v2260 : Index := Scalar.indexCast arg21
  let c4 : Index := 4#32
  let c0_2296 : Index := 0#32
  let c0_2297 : Index := 0#32
  ![v2260.toNat, 4, 0, 0]
def k0_off19 (k0_t5 : Fin k0_t5_loop.trips) : Fin 4 → Nat :=
  let c0_i32_163 : BitVec 32 := 0#32
  let c1_i32_165 : BitVec 32 := 1#32
  let arg21 : BitVec 32 := Scf.iv c0_i32_163 c1_i32_165 k0_t5
  let v2265 : Index := Scalar.indexCast arg21
  let c0_2298 : Index := 0#32
  let c4_2299 : Index := 4#32
  let c0_2300 : Index := 0#32
  ![v2265.toNat, 0, 4, 0]
def k0_off20 (k0_t5 : Fin k0_t5_loop.trips) : Fin 4 → Nat :=
  let c0_i32_163 : BitVec 32 := 0#32
  let c1_i32_165 : BitVec 32 := 1#32
  let arg21 : BitVec 32 := Scf.iv c0_i32_163 c1_i32_165 k0_t5
  let v2270 : Index := Scalar.indexCast arg21
  let c1_2301 : Index := 1#32
  let c4_2302 : Index := 4#32
  let c0_2303 : Index := 0#32
  ![v2270.toNat, 1, 4, 0]
@[reducible] def k0_t6_loop : Scf.Loop 32 :=
  let c0_i32_194 : BitVec 32 := 0#32
  let c16_i32_195 : BitVec 32 := 16#32
  let v162 : BitVec 32 := Scalar.addi c0_i32_194 c16_i32_195
  let c1_i32_196 : BitVec 32 := 1#32
  ⟨c0_i32_194, v162, c1_i32_196⟩
def k0_off21 (k0_t6 : Fin k0_t6_loop.trips) : Fin 2 → Nat :=
  let c0_i32_194 : BitVec 32 := 0#32
  let c1_i32_196 : BitVec 32 := 1#32
  let arg21 : BitVec 32 := Scf.iv c0_i32_194 c1_i32_196 k0_t6
  let c128_i32_2272 : BitVec 32 := 128#32
  let v2179 : BitVec 32 := Scalar.muli arg21 c128_i32_2272
  let v2180 : Index := Scalar.indexCast v2179
  let c0_2273 : Index := 0#32
  ![v2180.toNat, 0]
def k0_off22 (k0_t6 : Fin k0_t6_loop.trips) : Fin 4 → Nat :=
  let c0_i32_194 : BitVec 32 := 0#32
  let c1_i32_196 : BitVec 32 := 1#32
  let arg21 : BitVec 32 := Scf.iv c0_i32_194 c1_i32_196 k0_t6
  let v2260 : Index := Scalar.indexCast arg21
  let c5 : Index := 5#32
  let c0_2296 : Index := 0#32
  let c0_2297 : Index := 0#32
  ![v2260.toNat, 5, 0, 0]
def k0_off23 (k0_t6 : Fin k0_t6_loop.trips) : Fin 4 → Nat :=
  let c0_i32_194 : BitVec 32 := 0#32
  let c1_i32_196 : BitVec 32 := 1#32
  let arg21 : BitVec 32 := Scf.iv c0_i32_194 c1_i32_196 k0_t6
  let v2265 : Index := Scalar.indexCast arg21
  let c0_2298 : Index := 0#32
  let c5_2299 : Index := 5#32
  let c0_2300 : Index := 0#32
  ![v2265.toNat, 0, 5, 0]
def k0_off24 (k0_t6 : Fin k0_t6_loop.trips) : Fin 4 → Nat :=
  let c0_i32_194 : BitVec 32 := 0#32
  let c1_i32_196 : BitVec 32 := 1#32
  let arg21 : BitVec 32 := Scf.iv c0_i32_194 c1_i32_196 k0_t6
  let v2270 : Index := Scalar.indexCast arg21
  let c1_2301 : Index := 1#32
  let c5_2302 : Index := 5#32
  let c0_2303 : Index := 0#32
  ![v2270.toNat, 1, 5, 0]
@[reducible] def k0_t7_loop : Scf.Loop 32 :=
  let c0_i32_225 : BitVec 32 := 0#32
  let c16_i32_226 : BitVec 32 := 16#32
  let v187 : BitVec 32 := Scalar.addi c0_i32_225 c16_i32_226
  let c1_i32_227 : BitVec 32 := 1#32
  ⟨c0_i32_225, v187, c1_i32_227⟩
def k0_off25 (k0_t7 : Fin k0_t7_loop.trips) : Fin 2 → Nat :=
  let c0_i32_225 : BitVec 32 := 0#32
  let c1_i32_227 : BitVec 32 := 1#32
  let arg21 : BitVec 32 := Scf.iv c0_i32_225 c1_i32_227 k0_t7
  let c128_i32_2272 : BitVec 32 := 128#32
  let v2179 : BitVec 32 := Scalar.muli arg21 c128_i32_2272
  let v2180 : Index := Scalar.indexCast v2179
  let c0_2273 : Index := 0#32
  ![v2180.toNat, 0]
def k0_off26 (k0_t7 : Fin k0_t7_loop.trips) : Fin 4 → Nat :=
  let c0_i32_225 : BitVec 32 := 0#32
  let c1_i32_227 : BitVec 32 := 1#32
  let arg21 : BitVec 32 := Scf.iv c0_i32_225 c1_i32_227 k0_t7
  let v2260 : Index := Scalar.indexCast arg21
  let c6 : Index := 6#32
  let c0_2296 : Index := 0#32
  let c0_2297 : Index := 0#32
  ![v2260.toNat, 6, 0, 0]
def k0_off27 (k0_t7 : Fin k0_t7_loop.trips) : Fin 4 → Nat :=
  let c0_i32_225 : BitVec 32 := 0#32
  let c1_i32_227 : BitVec 32 := 1#32
  let arg21 : BitVec 32 := Scf.iv c0_i32_225 c1_i32_227 k0_t7
  let v2265 : Index := Scalar.indexCast arg21
  let c0_2298 : Index := 0#32
  let c6_2299 : Index := 6#32
  let c0_2300 : Index := 0#32
  ![v2265.toNat, 0, 6, 0]
def k0_off28 (k0_t7 : Fin k0_t7_loop.trips) : Fin 4 → Nat :=
  let c0_i32_225 : BitVec 32 := 0#32
  let c1_i32_227 : BitVec 32 := 1#32
  let arg21 : BitVec 32 := Scf.iv c0_i32_225 c1_i32_227 k0_t7
  let v2270 : Index := Scalar.indexCast arg21
  let c1_2301 : Index := 1#32
  let c6_2302 : Index := 6#32
  let c0_2303 : Index := 0#32
  ![v2270.toNat, 1, 6, 0]
@[reducible] def k0_t8_loop : Scf.Loop 32 :=
  let c0_i32_256 : BitVec 32 := 0#32
  let c16_i32_257 : BitVec 32 := 16#32
  let v212 : BitVec 32 := Scalar.addi c0_i32_256 c16_i32_257
  let c1_i32_258 : BitVec 32 := 1#32
  ⟨c0_i32_256, v212, c1_i32_258⟩
def k0_off29 (k0_t8 : Fin k0_t8_loop.trips) : Fin 2 → Nat :=
  let c0_i32_256 : BitVec 32 := 0#32
  let c1_i32_258 : BitVec 32 := 1#32
  let arg21 : BitVec 32 := Scf.iv c0_i32_256 c1_i32_258 k0_t8
  let c128_i32_2272 : BitVec 32 := 128#32
  let v2179 : BitVec 32 := Scalar.muli arg21 c128_i32_2272
  let v2180 : Index := Scalar.indexCast v2179
  let c0_2273 : Index := 0#32
  ![v2180.toNat, 0]
def k0_off30 (k0_t8 : Fin k0_t8_loop.trips) : Fin 4 → Nat :=
  let c0_i32_256 : BitVec 32 := 0#32
  let c1_i32_258 : BitVec 32 := 1#32
  let arg21 : BitVec 32 := Scf.iv c0_i32_256 c1_i32_258 k0_t8
  let v2260 : Index := Scalar.indexCast arg21
  let c7 : Index := 7#32
  let c0_2296 : Index := 0#32
  let c0_2297 : Index := 0#32
  ![v2260.toNat, 7, 0, 0]
def k0_off31 (k0_t8 : Fin k0_t8_loop.trips) : Fin 4 → Nat :=
  let c0_i32_256 : BitVec 32 := 0#32
  let c1_i32_258 : BitVec 32 := 1#32
  let arg21 : BitVec 32 := Scf.iv c0_i32_256 c1_i32_258 k0_t8
  let v2265 : Index := Scalar.indexCast arg21
  let c0_2298 : Index := 0#32
  let c7_2299 : Index := 7#32
  let c0_2300 : Index := 0#32
  ![v2265.toNat, 0, 7, 0]
def k0_off32 (k0_t8 : Fin k0_t8_loop.trips) : Fin 4 → Nat :=
  let c0_i32_256 : BitVec 32 := 0#32
  let c1_i32_258 : BitVec 32 := 1#32
  let arg21 : BitVec 32 := Scf.iv c0_i32_256 c1_i32_258 k0_t8
  let v2270 : Index := Scalar.indexCast arg21
  let c1_2301 : Index := 1#32
  let c7_2302 : Index := 7#32
  let c0_2303 : Index := 0#32
  ![v2270.toNat, 1, 7, 0]
def k0_off33 (d0 : Dev nD) (c0_i32_260 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v213 : BitVec 32 := Scalar.subi v2 c0_i32_260
  let c16_i32_261 : BitVec 32 := 16#32
  let v214 : BitVec 32 := Scalar.addi v213 c16_i32_261
  let c16_i32_262 : BitVec 32 := 16#32
  let v215 : BitVec 32 := Scalar.remsi v214 c16_i32_262
  let c0_i32_271 : BitVec 32 := 0#32
  let c0_i32_272 : BitVec 32 := 0#32
  let c0_i32_273 : BitVec 32 := 0#32
  ![v215.toNat, 0, 0, 0]
def k0_dev2 (d0 : Dev nD) : Nat :=
  let c0_i32_267 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_266 : BitVec 32 := 1#32
  let v216 : BitVec 32 := Scalar.muli v4 c1_i32_266
  let v217 : BitVec 32 := Scalar.addi c0_i32_267 v216
  v217.toNat
def k0_off34 (d0 : Dev nD) (c0_i32_260 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v213 : BitVec 32 := Scalar.subi v2 c0_i32_260
  let c16_i32_261 : BitVec 32 := 16#32
  let v214 : BitVec 32 := Scalar.addi v213 c16_i32_261
  let c16_i32_262 : BitVec 32 := 16#32
  let v215 : BitVec 32 := Scalar.remsi v214 c16_i32_262
  let c0_i32_282 : BitVec 32 := 0#32
  let c0_i32_283 : BitVec 32 := 0#32
  let c0_i32_284 : BitVec 32 := 0#32
  ![v215.toNat, 0, 0, 0]
def k0_dev3 (d0 : Dev nD) : Nat :=
  let c0_i32_278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_277 : BitVec 32 := 1#32
  let v226 : BitVec 32 := Scalar.muli v4 c1_i32_277
  let v227 : BitVec 32 := Scalar.addi c0_i32_278 v226
  v227.toNat
def k0_off35 (d0 : Dev nD) (c0_i32_328 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_327 : BitVec 32 := 1#32
  let v264 : BitVec 32 := Scalar.subi v2 c1_i32_327
  let v265 : BitVec 32 := Scalar.subi v264 c0_i32_328
  let c16_i32_329 : BitVec 32 := 16#32
  let v266 : BitVec 32 := Scalar.addi v265 c16_i32_329
  let c16_i32_330 : BitVec 32 := 16#32
  let v267 : BitVec 32 := Scalar.remsi v266 c16_i32_330
  let v268 : Index := Scalar.indexCast v267
  let c0_331 : Index := 0#32
  let c0_332 : Index := 0#32
  let c0_333 : Index := 0#32
  ![v268.toNat, 0, 0, 0]
def k0_off36 (d0 : Dev nD) (c0_i32_328 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_327 : BitVec 32 := 1#32
  let v264 : BitVec 32 := Scalar.subi v2 c1_i32_327
  let v265 : BitVec 32 := Scalar.subi v264 c0_i32_328
  let c16_i32_329 : BitVec 32 := 16#32
  let v266 : BitVec 32 := Scalar.addi v265 c16_i32_329
  let c16_i32_330 : BitVec 32 := 16#32
  let v267 : BitVec 32 := Scalar.remsi v266 c16_i32_330
  let v271 : Index := Scalar.indexCast v267
  let c1 : Index := 1#32
  let c0_334 : Index := 0#32
  let c0_335 : Index := 0#32
  ![v271.toNat, 1, 0, 0]
def k0_off37 (d0 : Dev nD) (c0_i32_328 : BitVec 32) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_327 : BitVec 32 := 1#32
  let v264 : BitVec 32 := Scalar.subi v2 c1_i32_327
  let v265 : BitVec 32 := Scalar.subi v264 c0_i32_328
  let c16_i32_329 : BitVec 32 := 16#32
  let v266 : BitVec 32 := Scalar.addi v265 c16_i32_329
  let c16_i32_330 : BitVec 32 := 16#32
  let v267 : BitVec 32 := Scalar.remsi v266 c16_i32_330
  let v295 : Index := Scalar.indexCast v267
  let c0_350 : Index := 0#32
  let c0_351 : Index := 0#32
  let c0_352 : Index := 0#32
  ![v295.toNat, 0, 0, 0]
def k0_dev4 (d0 : Dev nD) : Nat :=
  let c0_i32_362 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_361 : BitVec 32 := 1#32
  let v310 : BitVec 32 := Scalar.muli v7 c1_i32_361
  let v311 : BitVec 32 := Scalar.addi c0_i32_362 v310
  v311.toNat
def k0_dev5 (d0 : Dev nD) : Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_369 : BitVec 32 := 1#32
  let v315 : BitVec 32 := Scalar.muli v4 c1_i32_369
  let v316 : BitVec 32 := Scalar.addi c0_i32_370 v315
  v316.toNat
def k0_dev6 (d0 : Dev nD) : Nat :=
  let c0_i32_381 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_380 : BitVec 32 := 1#32
  let v325 : BitVec 32 := Scalar.muli v4 c1_i32_380
  let v326 : BitVec 32 := Scalar.addi c0_i32_381 v325
  v326.toNat
def k0_dev7 (d0 : Dev nD) : Nat :=
  let c0_i32_466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_465 : BitVec 32 := 1#32
  let v409 : BitVec 32 := Scalar.muli v7 c1_i32_465
  let v410 : BitVec 32 := Scalar.addi c0_i32_466 v409
  v410.toNat
def k0_dev8 (d0 : Dev nD) : Nat :=
  let c0_i32_476 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_475 : BitVec 32 := 1#32
  let v414 : BitVec 32 := Scalar.muli v4 c1_i32_475
  let v415 : BitVec 32 := Scalar.addi c0_i32_476 v414
  v415.toNat
def k0_dev9 (d0 : Dev nD) : Nat :=
  let c0_i32_487 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_486 : BitVec 32 := 1#32
  let v424 : BitVec 32 := Scalar.muli v4 c1_i32_486
  let v425 : BitVec 32 := Scalar.addi c0_i32_487 v424
  v425.toNat
def k0_dev10 (d0 : Dev nD) : Nat :=
  let c0_i32_572 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_571 : BitVec 32 := 1#32
  let v508 : BitVec 32 := Scalar.muli v7 c1_i32_571
  let v509 : BitVec 32 := Scalar.addi c0_i32_572 v508
  v509.toNat
def k0_dev11 (d0 : Dev nD) : Nat :=
  let c0_i32_582 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_581 : BitVec 32 := 1#32
  let v513 : BitVec 32 := Scalar.muli v4 c1_i32_581
  let v514 : BitVec 32 := Scalar.addi c0_i32_582 v513
  v514.toNat
def k0_dev12 (d0 : Dev nD) : Nat :=
  let c0_i32_593 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_592 : BitVec 32 := 1#32
  let v523 : BitVec 32 := Scalar.muli v4 c1_i32_592
  let v524 : BitVec 32 := Scalar.addi c0_i32_593 v523
  v524.toNat
def k0_dev13 (d0 : Dev nD) : Nat :=
  let c0_i32_678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_677 : BitVec 32 := 1#32
  let v607 : BitVec 32 := Scalar.muli v7 c1_i32_677
  let v608 : BitVec 32 := Scalar.addi c0_i32_678 v607
  v608.toNat
def k0_dev14 (d0 : Dev nD) : Nat :=
  let c0_i32_688 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_687 : BitVec 32 := 1#32
  let v612 : BitVec 32 := Scalar.muli v4 c1_i32_687
  let v613 : BitVec 32 := Scalar.addi c0_i32_688 v612
  v613.toNat
def k0_dev15 (d0 : Dev nD) : Nat :=
  let c0_i32_699 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_698 : BitVec 32 := 1#32
  let v622 : BitVec 32 := Scalar.muli v4 c1_i32_698
  let v623 : BitVec 32 := Scalar.addi c0_i32_699 v622
  v623.toNat
def k0_dev16 (d0 : Dev nD) : Nat :=
  let c0_i32_784 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_783 : BitVec 32 := 1#32
  let v706 : BitVec 32 := Scalar.muli v7 c1_i32_783
  let v707 : BitVec 32 := Scalar.addi c0_i32_784 v706
  v707.toNat
def k0_dev17 (d0 : Dev nD) : Nat :=
  let c0_i32_794 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_793 : BitVec 32 := 1#32
  let v711 : BitVec 32 := Scalar.muli v4 c1_i32_793
  let v712 : BitVec 32 := Scalar.addi c0_i32_794 v711
  v712.toNat
def k0_dev18 (d0 : Dev nD) : Nat :=
  let c0_i32_805 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_804 : BitVec 32 := 1#32
  let v721 : BitVec 32 := Scalar.muli v4 c1_i32_804
  let v722 : BitVec 32 := Scalar.addi c0_i32_805 v721
  v722.toNat
def k0_dev19 (d0 : Dev nD) : Nat :=
  let c0_i32_890 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_889 : BitVec 32 := 1#32
  let v805 : BitVec 32 := Scalar.muli v7 c1_i32_889
  let v806 : BitVec 32 := Scalar.addi c0_i32_890 v805
  v806.toNat
def k0_dev20 (d0 : Dev nD) : Nat :=
  let c0_i32_900 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_899 : BitVec 32 := 1#32
  let v810 : BitVec 32 := Scalar.muli v4 c1_i32_899
  let v811 : BitVec 32 := Scalar.addi c0_i32_900 v810
  v811.toNat
def k0_dev21 (d0 : Dev nD) : Nat :=
  let c0_i32_911 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_910 : BitVec 32 := 1#32
  let v820 : BitVec 32 := Scalar.muli v4 c1_i32_910
  let v821 : BitVec 32 := Scalar.addi c0_i32_911 v820
  v821.toNat
def k0_dev22 (d0 : Dev nD) : Nat :=
  let c0_i32_996 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_995 : BitVec 32 := 1#32
  let v904 : BitVec 32 := Scalar.muli v7 c1_i32_995
  let v905 : BitVec 32 := Scalar.addi c0_i32_996 v904
  v905.toNat
def k0_dev23 (d0 : Dev nD) : Nat :=
  let c0_i32_1006 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1005 : BitVec 32 := 1#32
  let v909 : BitVec 32 := Scalar.muli v4 c1_i32_1005
  let v910 : BitVec 32 := Scalar.addi c0_i32_1006 v909
  v910.toNat
def k0_dev24 (d0 : Dev nD) : Nat :=
  let c0_i32_1017 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1016 : BitVec 32 := 1#32
  let v919 : BitVec 32 := Scalar.muli v4 c1_i32_1016
  let v920 : BitVec 32 := Scalar.addi c0_i32_1017 v919
  v920.toNat
def k0_dev25 (d0 : Dev nD) : Nat :=
  let c0_i32_1102 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1101 : BitVec 32 := 1#32
  let v1003 : BitVec 32 := Scalar.muli v7 c1_i32_1101
  let v1004 : BitVec 32 := Scalar.addi c0_i32_1102 v1003
  v1004.toNat
def k0_dev26 (d0 : Dev nD) : Nat :=
  let c0_i32_1111 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1110 : BitVec 32 := 1#32
  let v1008 : BitVec 32 := Scalar.muli v4 c1_i32_1110
  let v1009 : BitVec 32 := Scalar.addi c0_i32_1111 v1008
  v1009.toNat
def k0_dev27 (d0 : Dev nD) : Nat :=
  let c0_i32_1122 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1121 : BitVec 32 := 1#32
  let v1018 : BitVec 32 := Scalar.muli v4 c1_i32_1121
  let v1019 : BitVec 32 := Scalar.addi c0_i32_1122 v1018
  v1019.toNat
def k0_dev28 (d0 : Dev nD) : Nat :=
  let c0_i32_1207 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1206 : BitVec 32 := 1#32
  let v1102 : BitVec 32 := Scalar.muli v7 c1_i32_1206
  let v1103 : BitVec 32 := Scalar.addi c0_i32_1207 v1102
  v1103.toNat
def k0_dev29 (d0 : Dev nD) : Nat :=
  let c0_i32_1216 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1215 : BitVec 32 := 1#32
  let v1107 : BitVec 32 := Scalar.muli v4 c1_i32_1215
  let v1108 : BitVec 32 := Scalar.addi c0_i32_1216 v1107
  v1108.toNat
def k0_dev30 (d0 : Dev nD) : Nat :=
  let c0_i32_1227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1226 : BitVec 32 := 1#32
  let v1117 : BitVec 32 := Scalar.muli v4 c1_i32_1226
  let v1118 : BitVec 32 := Scalar.addi c0_i32_1227 v1117
  v1118.toNat
def k0_dev31 (d0 : Dev nD) : Nat :=
  let c0_i32_1312 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1311 : BitVec 32 := 1#32
  let v1201 : BitVec 32 := Scalar.muli v7 c1_i32_1311
  let v1202 : BitVec 32 := Scalar.addi c0_i32_1312 v1201
  v1202.toNat
def k0_dev32 (d0 : Dev nD) : Nat :=
  let c0_i32_1321 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1320 : BitVec 32 := 1#32
  let v1206 : BitVec 32 := Scalar.muli v4 c1_i32_1320
  let v1207 : BitVec 32 := Scalar.addi c0_i32_1321 v1206
  v1207.toNat
def k0_dev33 (d0 : Dev nD) : Nat :=
  let c0_i32_1332 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1331 : BitVec 32 := 1#32
  let v1216 : BitVec 32 := Scalar.muli v4 c1_i32_1331
  let v1217 : BitVec 32 := Scalar.addi c0_i32_1332 v1216
  v1217.toNat
def k0_dev34 (d0 : Dev nD) : Nat :=
  let c0_i32_1417 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1416 : BitVec 32 := 1#32
  let v1300 : BitVec 32 := Scalar.muli v7 c1_i32_1416
  let v1301 : BitVec 32 := Scalar.addi c0_i32_1417 v1300
  v1301.toNat
def k0_dev35 (d0 : Dev nD) : Nat :=
  let c0_i32_1426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1425 : BitVec 32 := 1#32
  let v1305 : BitVec 32 := Scalar.muli v4 c1_i32_1425
  let v1306 : BitVec 32 := Scalar.addi c0_i32_1426 v1305
  v1306.toNat
def k0_dev36 (d0 : Dev nD) : Nat :=
  let c0_i32_1437 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1436 : BitVec 32 := 1#32
  let v1315 : BitVec 32 := Scalar.muli v4 c1_i32_1436
  let v1316 : BitVec 32 := Scalar.addi c0_i32_1437 v1315
  v1316.toNat
def k0_dev37 (d0 : Dev nD) : Nat :=
  let c0_i32_1522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1521 : BitVec 32 := 1#32
  let v1399 : BitVec 32 := Scalar.muli v7 c1_i32_1521
  let v1400 : BitVec 32 := Scalar.addi c0_i32_1522 v1399
  v1400.toNat
def k0_dev38 (d0 : Dev nD) : Nat :=
  let c0_i32_1531 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1530 : BitVec 32 := 1#32
  let v1404 : BitVec 32 := Scalar.muli v4 c1_i32_1530
  let v1405 : BitVec 32 := Scalar.addi c0_i32_1531 v1404
  v1405.toNat
def k0_dev39 (d0 : Dev nD) : Nat :=
  let c0_i32_1542 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1541 : BitVec 32 := 1#32
  let v1414 : BitVec 32 := Scalar.muli v4 c1_i32_1541
  let v1415 : BitVec 32 := Scalar.addi c0_i32_1542 v1414
  v1415.toNat
def k0_dev40 (d0 : Dev nD) : Nat :=
  let c0_i32_1627 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v5 : BitVec 32 := Scalar.subi v2 c1_i32_2
  let c16_i32_3 : BitVec 32 := 16#32
  let v6 : BitVec 32 := Scalar.addi v5 c16_i32_3
  let c16_i32_4 : BitVec 32 := 16#32
  let v7 : BitVec 32 := Scalar.remsi v6 c16_i32_4
  let c1_i32_1626 : BitVec 32 := 1#32
  let v1498 : BitVec 32 := Scalar.muli v7 c1_i32_1626
  let v1499 : BitVec 32 := Scalar.addi c0_i32_1627 v1498
  v1499.toNat
def k0_dev41 (d0 : Dev nD) : Nat :=
  let c0_i32_1636 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1635 : BitVec 32 := 1#32
  let v1503 : BitVec 32 := Scalar.muli v4 c1_i32_1635
  let v1504 : BitVec 32 := Scalar.addi c0_i32_1636 v1503
  v1504.toNat
def k0_dev42 (d0 : Dev nD) : Nat :=
  let c0_i32_1647 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1646 : BitVec 32 := 1#32
  let v1513 : BitVec 32 := Scalar.muli v4 c1_i32_1646
  let v1514 : BitVec 32 := Scalar.addi c0_i32_1647 v1513
  v1514.toNat
def k0_dev43 (d0 : Dev nD) : Nat :=
  let c0_i32_1738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1737 : BitVec 32 := 1#32
  let v1600 : BitVec 32 := Scalar.muli v4 c1_i32_1737
  let v1601 : BitVec 32 := Scalar.addi c0_i32_1738 v1600
  v1601.toNat
def k0_dev44 (d0 : Dev nD) : Nat :=
  let c0_i32_1749 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1748 : BitVec 32 := 1#32
  let v1610 : BitVec 32 := Scalar.muli v4 c1_i32_1748
  let v1611 : BitVec 32 := Scalar.addi c0_i32_1749 v1610
  v1611.toNat
def k0_off38 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1832 : BitVec 32 := 1#32
  let v1694 : BitVec 32 := Scalar.addi v2 c1_i32_1832
  let c16_i32_1833 : BitVec 32 := 16#32
  let v1695 : BitVec 32 := Scalar.remsi v1694 c16_i32_1833
  let v1696 : Index := Scalar.indexCast v1695
  let c1_1834 : Index := 1#32
  let c0_1835 : Index := 0#32
  let c0_1836 : Index := 0#32
  ![v1696.toNat, 1, 0, 0]
def k0_off39 (d0 : Dev nD) : Fin 4 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1832 : BitVec 32 := 1#32
  let v1694 : BitVec 32 := Scalar.addi v2 c1_i32_1832
  let c16_i32_1833 : BitVec 32 := 16#32
  let v1695 : BitVec 32 := Scalar.remsi v1694 c16_i32_1833
  let v1699 : Index := Scalar.indexCast v1695
  let c0_1837 : Index := 0#32
  let c0_1838 : Index := 0#32
  let c0_1839 : Index := 0#32
  ![v1699.toNat, 0, 0, 0]
def k0_off40 (d0 : Dev nD) : Fin 3 → Nat :=
  let c0_1865 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1832 : BitVec 32 := 1#32
  let v1694 : BitVec 32 := Scalar.addi v2 c1_i32_1832
  let c16_i32_1833 : BitVec 32 := 16#32
  let v1695 : BitVec 32 := Scalar.remsi v1694 c16_i32_1833
  let c128_i32 : BitVec 32 := 128#32
  let v1754 : BitVec 32 := Scalar.muli v1695 c128_i32
  let v1755 : Index := Scalar.indexCast v1754
  let c0_1866 : Index := 0#32
  ![0, v1755.toNat, 0]
def k0_off41 (d0 : Dev nD) (c0_i32_1867 : BitVec 32) : Fin 3 → Nat :=
  let c0_i32_1872 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1832 : BitVec 32 := 1#32
  let v1694 : BitVec 32 := Scalar.addi v2 c1_i32_1832
  let c16_i32_1833 : BitVec 32 := 16#32
  let v1695 : BitVec 32 := Scalar.remsi v1694 c16_i32_1833
  let v1759 : BitVec 32 := Scalar.subi v1695 c0_i32_1867
  let c16_i32_1868 : BitVec 32 := 16#32
  let v1760 : BitVec 32 := Scalar.addi v1759 c16_i32_1868
  let c16_i32_1869 : BitVec 32 := 16#32
  let v1761 : BitVec 32 := Scalar.remsi v1760 c16_i32_1869
  let c128_i32_1870 : BitVec 32 := 128#32
  let v1762 : BitVec 32 := Scalar.muli v1761 c128_i32_1870
  let c0_i32_1877 : BitVec 32 := 0#32
  ![0, v1762.toNat, 0]
def k0_dev45 (d0 : Dev nD) : Nat :=
  let c0_i32_1876 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1875 : BitVec 32 := 1#32
  let v1763 : BitVec 32 := Scalar.muli v4 c1_i32_1875
  let v1764 : BitVec 32 := Scalar.addi c0_i32_1876 v1763
  v1764.toNat
def k0_dev46 (d0 : Dev nD) : Nat :=
  let c0_i32_1903 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1902 : BitVec 32 := 1#32
  let v1791 : BitVec 32 := Scalar.muli v4 c1_i32_1902
  let v1792 : BitVec 32 := Scalar.addi c0_i32_1903 v1791
  v1792.toNat
def k0_dev47 (d0 : Dev nD) : Nat :=
  let c0_i32_1930 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1929 : BitVec 32 := 1#32
  let v1819 : BitVec 32 := Scalar.muli v4 c1_i32_1929
  let v1820 : BitVec 32 := Scalar.addi c0_i32_1930 v1819
  v1820.toNat
def k0_dev48 (d0 : Dev nD) : Nat :=
  let c0_i32_1957 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1956 : BitVec 32 := 1#32
  let v1847 : BitVec 32 := Scalar.muli v4 c1_i32_1956
  let v1848 : BitVec 32 := Scalar.addi c0_i32_1957 v1847
  v1848.toNat
def k0_dev49 (d0 : Dev nD) : Nat :=
  let c0_i32_1984 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_1983 : BitVec 32 := 1#32
  let v1875 : BitVec 32 := Scalar.muli v4 c1_i32_1983
  let v1876 : BitVec 32 := Scalar.addi c0_i32_1984 v1875
  v1876.toNat
def k0_dev50 (d0 : Dev nD) : Nat :=
  let c0_i32_2011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2010 : BitVec 32 := 1#32
  let v1903 : BitVec 32 := Scalar.muli v4 c1_i32_2010
  let v1904 : BitVec 32 := Scalar.addi c0_i32_2011 v1903
  v1904.toNat
def k0_dev51 (d0 : Dev nD) : Nat :=
  let c0_i32_2038 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2037 : BitVec 32 := 1#32
  let v1931 : BitVec 32 := Scalar.muli v4 c1_i32_2037
  let v1932 : BitVec 32 := Scalar.addi c0_i32_2038 v1931
  v1932.toNat
def k0_dev52 (d0 : Dev nD) : Nat :=
  let c0_i32_2065 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2064 : BitVec 32 := 1#32
  let v1959 : BitVec 32 := Scalar.muli v4 c1_i32_2064
  let v1960 : BitVec 32 := Scalar.addi c0_i32_2065 v1959
  v1960.toNat
def k0_dev53 (d0 : Dev nD) : Nat :=
  let c0_i32_2092 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2091 : BitVec 32 := 1#32
  let v1987 : BitVec 32 := Scalar.muli v4 c1_i32_2091
  let v1988 : BitVec 32 := Scalar.addi c0_i32_2092 v1987
  v1988.toNat
def k0_dev54 (d0 : Dev nD) : Nat :=
  let c0_i32_2119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2118 : BitVec 32 := 1#32
  let v2015 : BitVec 32 := Scalar.muli v4 c1_i32_2118
  let v2016 : BitVec 32 := Scalar.addi c0_i32_2119 v2015
  v2016.toNat
def k0_dev55 (d0 : Dev nD) : Nat :=
  let c0_i32_2146 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2145 : BitVec 32 := 1#32
  let v2043 : BitVec 32 := Scalar.muli v4 c1_i32_2145
  let v2044 : BitVec 32 := Scalar.addi c0_i32_2146 v2043
  v2044.toNat
def k0_dev56 (d0 : Dev nD) : Nat :=
  let c0_i32_2173 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2172 : BitVec 32 := 1#32
  let v2071 : BitVec 32 := Scalar.muli v4 c1_i32_2172
  let v2072 : BitVec 32 := Scalar.addi c0_i32_2173 v2071
  v2072.toNat
def k0_dev57 (d0 : Dev nD) : Nat :=
  let c0_i32_2200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2199 : BitVec 32 := 1#32
  let v2099 : BitVec 32 := Scalar.muli v4 c1_i32_2199
  let v2100 : BitVec 32 := Scalar.addi c0_i32_2200 v2099
  v2100.toNat
def k0_dev58 (d0 : Dev nD) : Nat :=
  let c0_i32_2227 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2226 : BitVec 32 := 1#32
  let v2127 : BitVec 32 := Scalar.muli v4 c1_i32_2226
  let v2128 : BitVec 32 := Scalar.addi c0_i32_2227 v2127
  v2128.toNat
def k0_dev59 (d0 : Dev nD) : Nat :=
  let c0_i32_2254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v3 : BitVec 32 := Scalar.addi v2 c1_i32_0
  let c16_i32_1 : BitVec 32 := 16#32
  let v4 : BitVec 32 := Scalar.remsi v3 c16_i32_1
  let c1_i32_2253 : BitVec 32 := 1#32
  let v2155 : BitVec 32 := Scalar.muli v4 c1_i32_2253
  let v2156 : BitVec 32 := Scalar.addi c0_i32_2254 v2155
  v2156.toNat
abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1x2048x1024 : Shape := ⟨3, ![1, 2048, 1024]⟩
abbrev S1024x1024 : Shape := ⟨2, ![1024, 1024]⟩
abbrev S1x32768x8x128 : Shape := ⟨4, ![1, 32768, 8, 128]⟩
abbrev S1x2048x8x128 : Shape := ⟨4, ![1, 2048, 8, 128]⟩
abbrev S2048 : Shape := ⟨1, ![2048]⟩
abbrev S_ : Shape := ⟨0, ![]⟩
abbrev S2048x1 : Shape := ⟨2, ![2048, 1]⟩
abbrev S32768 : Shape := ⟨1, ![32768]⟩
abbrev S1x32768 : Shape := ⟨2, ![1, 32768]⟩
abbrev S2048x32768 : Shape := ⟨2, ![2048, 32768]⟩
abbrev S1x8x2048x32768 : Shape := ⟨4, ![1, 8, 2048, 32768]⟩
abbrev S1x1x2048x32768 : Shape := ⟨4, ![1, 1, 2048, 32768]⟩
abbrev S1x8x2048 : Shape := ⟨3, ![1, 8, 2048]⟩
abbrev S1x8x2048x1 : Shape := ⟨4, ![1, 8, 2048, 1]⟩
abbrev S1x1x2048x1 : Shape := ⟨4, ![1, 1, 2048, 1]⟩
abbrev S1x8x128x2048 : Shape := ⟨4, ![1, 8, 128, 2048]⟩

abbrev nBuf : Space → Nat
  | .hbm => 123
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S1024x1024, .f32⟩
  | .hbm, ⟨2, _⟩ => ⟨S1x32768x8x128, .f32⟩
  | .hbm, ⟨3, _⟩ => ⟨S1x32768x8x128, .f32⟩
  | .hbm, ⟨4, _⟩ => ⟨S1024x1024, .f32⟩
  | .hbm, ⟨5, _⟩ => ⟨S1x2048x1024, .f32⟩
  | .hbm, ⟨6, _⟩ => ⟨S1x2048x8x128, .f32⟩
  | .hbm, ⟨7, _⟩ => ⟨S2048, .i32⟩
  | .hbm, ⟨8, _⟩ => ⟨S_, .i32⟩
  | .hbm, ⟨9, _⟩ => ⟨S_, .i32⟩
  | .hbm, ⟨10, _⟩ => ⟨S2048, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i1⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i1⟩
  | .hbm, ⟨22, _⟩ => ⟨S_, .i32⟩
  | .hbm, ⟨23, _⟩ => ⟨S2048, .i32⟩
  | .hbm, ⟨24, _⟩ => ⟨S2048, .i32⟩
  | .hbm, ⟨25, _⟩ => ⟨S2048, .i32⟩
  | .hbm, ⟨26, _⟩ => ⟨S2048x1, .i32⟩
  | .hbm, ⟨27, _⟩ => ⟨S32768, .i32⟩
  | .hbm, ⟨28, _⟩ => ⟨S_, .i32⟩
  | .hbm, ⟨29, _⟩ => ⟨S_, .i32⟩
  | .hbm, ⟨30, _⟩ => ⟨S32768, .i32⟩
  | .hbm, ⟨31, _⟩ => ⟨S32768, .i32⟩
  | .hbm, ⟨32, _⟩ => ⟨S32768, .i32⟩
  | .hbm, ⟨33, _⟩ => ⟨S_, .i32⟩
  | .hbm, ⟨34, _⟩ => ⟨S32768, .i32⟩
  | .hbm, ⟨35, _⟩ => ⟨S32768, .i1⟩
  | .hbm, ⟨36, _⟩ => ⟨S32768, .i32⟩
  | .hbm, ⟨37, _⟩ => ⟨S32768, .i32⟩
  | .hbm, ⟨38, _⟩ => ⟨S_, .i32⟩
  | .hbm, ⟨39, _⟩ => ⟨S32768, .i32⟩
  | .hbm, ⟨40, _⟩ => ⟨S32768, .i1⟩
  | .hbm, ⟨41, _⟩ => ⟨S32768, .i1⟩
  | .hbm, ⟨42, _⟩ => ⟨S_, .i32⟩
  | .hbm, ⟨43, _⟩ => ⟨S32768, .i32⟩
  | .hbm, ⟨44, _⟩ => ⟨S32768, .i32⟩
  | .hbm, ⟨45, _⟩ => ⟨S32768, .i32⟩
  | .hbm, ⟨46, _⟩ => ⟨S1x32768, .i32⟩
  | .hbm, ⟨47, _⟩ => ⟨S2048x32768, .i32⟩
  | .hbm, ⟨48, _⟩ => ⟨S2048x32768, .i32⟩
  | .hbm, ⟨49, _⟩ => ⟨S2048x32768, .i1⟩
  | .hbm, ⟨50, _⟩ => ⟨S_, .i32⟩
  | .hbm, ⟨51, _⟩ => ⟨S1x32768, .i32⟩
  | .hbm, ⟨52, _⟩ => ⟨S1x32768, .i1⟩
  | .hbm, ⟨53, _⟩ => ⟨S2048x32768, .i1⟩
  | .hbm, ⟨54, _⟩ => ⟨S2048x32768, .i1⟩
  | .hbm, ⟨55, _⟩ => ⟨S2048x32768, .i32⟩
  | .hbm, ⟨56, _⟩ => ⟨S2048x32768, .i32⟩
  | .hbm, ⟨57, _⟩ => ⟨S2048x32768, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i1⟩
  | .hbm, ⟨62, _⟩ => ⟨S_, .i32⟩
  | .hbm, ⟨63, _⟩ => ⟨S_, .i32⟩
  | .hbm, ⟨64, _⟩ => ⟨S2048x32768, .i32⟩
  | .hbm, ⟨65, _⟩ => ⟨S2048x32768, .i32⟩
  | .hbm, ⟨66, _⟩ => ⟨S_, .i32⟩
  | .hbm, ⟨67, _⟩ => ⟨S2048x32768, .i32⟩
  | .hbm, ⟨68, _⟩ => ⟨S2048x32768, .i1⟩
  | .hbm, ⟨69, _⟩ => ⟨S_, .i32⟩
  | .hbm, ⟨70, _⟩ => ⟨S2048x32768, .i32⟩
  | .hbm, ⟨71, _⟩ => ⟨S2048x32768, .i1⟩
  | .hbm, ⟨72, _⟩ => ⟨S_, .i32⟩
  | .hbm, ⟨73, _⟩ => ⟨S_, .i1⟩
  | .hbm, ⟨74, _⟩ => ⟨S2048x32768, .i1⟩
  | .hbm, ⟨75, _⟩ => ⟨S2048x32768, .i1⟩
  | .hbm, ⟨76, _⟩ => ⟨S2048x32768, .i1⟩
  | .hbm, ⟨77, _⟩ => ⟨S2048x32768, .i32⟩
  | .hbm, ⟨78, _⟩ => ⟨S2048x32768, .i32⟩
  | .hbm, ⟨79, _⟩ => ⟨S2048x32768, .i32⟩
  | .hbm, ⟨80, _⟩ => ⟨S_, .i32⟩
  | .hbm, ⟨81, _⟩ => ⟨S2048x32768, .i32⟩
  | .hbm, ⟨82, _⟩ => ⟨S2048x32768, .i1⟩
  | .hbm, ⟨83, _⟩ => ⟨S2048x32768, .i1⟩
  | .hbm, ⟨84, _⟩ => ⟨S1x8x2048x32768, .f32⟩
  | .hbm, ⟨85, _⟩ => ⟨S_, .f32⟩
  | .hbm, ⟨86, _⟩ => ⟨S1x8x2048x32768, .f32⟩
  | .hbm, ⟨87, _⟩ => ⟨S1x8x2048x32768, .f32⟩
  | .hbm, ⟨88, _⟩ => ⟨S1x1x2048x32768, .i1⟩
  | .hbm, ⟨89, _⟩ => ⟨S_, .f32⟩
  | .hbm, ⟨90, _⟩ => ⟨S_, .f32⟩
  | .hbm, ⟨91, _⟩ => ⟨S1x8x2048x32768, .i1⟩
  | .hbm, ⟨92, _⟩ => ⟨S1x8x2048x32768, .f32⟩
  | .hbm, ⟨93, _⟩ => ⟨S1x8x2048x32768, .f32⟩
  | .hbm, ⟨94, _⟩ => ⟨S_, .f32⟩
  | .hbm, ⟨95, _⟩ => ⟨S1x8x2048, .f32⟩
  | .hbm, ⟨96, _⟩ => ⟨S1x8x2048x1, .f32⟩
  | .hbm, ⟨97, _⟩ => ⟨S1x8x2048x32768, .f32⟩
  | .hbm, ⟨98, _⟩ => ⟨S1x8x2048x32768, .f32⟩
  | .hbm, ⟨99, _⟩ => ⟨S1x8x2048x32768, .f32⟩
  | .hbm, ⟨100, _⟩ => ⟨S_, .i1⟩
  | .hbm, ⟨101, _⟩ => ⟨S2048, .i1⟩
  | .hbm, ⟨102, _⟩ => ⟨S1x1x2048x1, .i1⟩
  | .hbm, ⟨103, _⟩ => ⟨S_, .f32⟩
  | .hbm, ⟨104, _⟩ => ⟨S1x8x2048, .f32⟩
  | .hbm, ⟨105, _⟩ => ⟨S1x8x2048x1, .f32⟩
  | .hbm, ⟨106, _⟩ => ⟨S_, .f32⟩
  | .hbm, ⟨107, _⟩ => ⟨S_, .f32⟩
  | .hbm, ⟨108, _⟩ => ⟨S1x8x2048x1, .i1⟩
  | .hbm, ⟨109, _⟩ => ⟨S1x8x2048x1, .f32⟩
  | .hbm, ⟨110, _⟩ => ⟨S1x8x2048x1, .f32⟩
  | .hbm, ⟨111, _⟩ => ⟨S1x8x2048x32768, .f32⟩
  | .hbm, ⟨112, _⟩ => ⟨S1x8x2048x32768, .f32⟩
  | .hbm, ⟨113, _⟩ => ⟨S1x1x2048x1, .i1⟩
  | .hbm, ⟨114, _⟩ => ⟨S_, .f32⟩
  | .hbm, ⟨115, _⟩ => ⟨S_, .f32⟩
  | .hbm, ⟨116, _⟩ => ⟨S1x8x2048x32768, .i1⟩
  | .hbm, ⟨117, _⟩ => ⟨S1x8x2048x32768, .f32⟩
  | .hbm, ⟨118, _⟩ => ⟨S1x8x2048x32768, .f32⟩
  | .hbm, ⟨119, _⟩ => ⟨S1x8x128x2048, .f32⟩
  | .hbm, ⟨120, _⟩ => ⟨S1x2048x8x128, .f32⟩
  | .hbm, ⟨121, _⟩ => ⟨S1x2048x1024, .f32⟩
  | .hbm, ⟨122, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_c_2 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_c_1 : Ref sig .tc := ⟨.hbm, 66, rfl⟩
abbrev main_call2_v5 : Ref sig .tc := ⟨.hbm, 67, rfl⟩
abbrev main_call2_v6 : Ref sig .tc := ⟨.hbm, 68, rfl⟩
abbrev main_call2_c_2 : Ref sig .tc := ⟨.hbm, 69, rfl⟩
abbrev main_call2_v7 : Ref sig .tc := ⟨.hbm, 70, rfl⟩
abbrev main_call2_v8 : Ref sig .tc := ⟨.hbm, 71, rfl⟩
abbrev main_call2_c_3 : Ref sig .tc := ⟨.hbm, 72, rfl⟩
abbrev main_call2_v9 : Ref sig .tc := ⟨.hbm, 73, rfl⟩
abbrev main_call2_v10 : Ref sig .tc := ⟨.hbm, 74, rfl⟩
abbrev main_call2_v11 : Ref sig .tc := ⟨.hbm, 75, rfl⟩
abbrev main_call2_v12 : Ref sig .tc := ⟨.hbm, 76, rfl⟩
abbrev main_call2_v13 : Ref sig .tc := ⟨.hbm, 77, rfl⟩
abbrev main_call2_v14 : Ref sig .tc := ⟨.hbm, 78, rfl⟩
abbrev main_v18 : Ref sig .tc := ⟨.hbm, 79, rfl⟩
abbrev main_c_3 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_cst_4 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v26 : Ref sig .tc := ⟨.hbm, 93, rfl⟩
abbrev main_cst_5 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_6 : Ref sig .tc := ⟨.hbm, 100, rfl⟩
abbrev main_v32 : Ref sig .tc := ⟨.hbm, 101, rfl⟩
abbrev main_v33 : Ref sig .tc := ⟨.hbm, 102, rfl⟩
abbrev main_cst_7 : Ref sig .tc := ⟨.hbm, 103, rfl⟩
abbrev main_v34 : Ref sig .tc := ⟨.hbm, 104, rfl⟩
abbrev main_v35 : Ref sig .tc := ⟨.hbm, 105, rfl⟩
abbrev main_cst_8 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v36 : Ref sig .tc := ⟨.hbm, 110, rfl⟩
abbrev main_v37 : Ref sig .tc := ⟨.hbm, 111, rfl⟩
abbrev main_v38 : Ref sig .tc := ⟨.hbm, 112, rfl⟩
abbrev main_v39 : Ref sig .tc := ⟨.hbm, 113, rfl⟩
abbrev main_cst_9 : Ref sig .tc := ⟨.hbm, 114, rfl⟩
abbrev main_call5_v0 : Ref sig .tc := ⟨.hbm, 115, rfl⟩
abbrev main_call5_v1 : Ref sig .tc := ⟨.hbm, 116, rfl⟩
abbrev main_call5_v2 : Ref sig .tc := ⟨.hbm, 117, rfl⟩
abbrev main_v40 : Ref sig .tc := ⟨.hbm, 118, rfl⟩
abbrev main_v41 : Ref sig .tc := ⟨.hbm, 119, rfl⟩
abbrev main_v42 : Ref sig .tc := ⟨.hbm, 120, rfl⟩
abbrev main_v43 : Ref sig .tc := ⟨.hbm, 121, rfl⟩
abbrev main_v44 : Ref sig .tc := ⟨.hbm, 122, rfl⟩

abbrev nD : Nat := 1
abbrev τ : Topo := Topo.v7x

variable {F : FTy → Type} [FloatOps F]
-- ==== Proof.FragBase.lean ====
module

public import proofs.«01_k».proof.Proof.Gen.KernelIdeal.Frame
public import proofs.«01_k».proof.Proof.Gen.KernelIdeal.Loops

@[expose] public section

noncomputable section

namespace Cert.KernelIdeal.Ring

open Idealize.ShloMosaic Idealize.ShloMosaic.TcCoe Idealize.SL Idealize.SL.Sem
open Cert.KernelIdeal Cert.KernelIdeal.Gen

variable {F : FTy → Type} [FloatOps F]

/-! ## The buffers the body works on -/

abbrev xM : Memref sig .tc .vmem S1x2048x1024 .f32 := Memref.whole cc0_stg0_0
abbrev wqM : Memref sig .tc .vmem S1024x1024 .f32 := Memref.whole cc0_stg1_0
abbrev woM : Memref sig .tc .vmem S1024x1024 .f32 := Memref.whole cc0_stg2_0
abbrev outM : Memref sig .tc .vmem S1x2048x1024 .f32 := Memref.whole cc0_stg3_0
abbrev kM : Memref sig .tc .hbm S1x2048x8x128 .f32 := Memref.whole main_arg2
abbrev vM : Memref sig .tc .hbm S1x2048x8x128 .f32 := Memref.whole main_arg3
abbrev ctxM : Memref sig .tc .vmem S16x8x128x128 .f32 := Memref.whole cc0_scratch0
abbrev msM : Memref sig .tc .vmem S16x2x8x128 .f32 := Memref.whole cc0_scratch1
abbrev ctxR : Memref sig .tc .vmem S2x8x128x128 .f32 := Memref.whole cc0_scratch2
abbrev msR : Memref sig .tc .vmem S2x2x8x128 .f32 := Memref.whole cc0_scratch3
abbrev khM : Memref sig .tc .vmem S2048x128 .f32 := Memref.whole cc0_scratch4
abbrev vhM : Memref sig .tc .vmem S2048x128 .f32 := Memref.whole cc0_scratch5
abbrev qM : Memref sig .tc .vmem S2048x128 .f32 := Memref.whole cc0_scratch6

abbrev P (F : FTy → Type) [FloatOps F] (α : Type) := Prog (TpuEff nD τ sig (Elt F) Λ₀ .tc) α

theorem inb15 (t : Fin 15) : ∀ a, (![t.val] : Fin 1 → ℕ) a + S1.size a ≤ S15.size a := by
  revert t; decide
theorem inb2 (t : Fin 2) : ∀ a, (![t.val] : Fin 1 → ℕ) a + S1.size a ≤ S2.size a := by
  revert t; decide

/-- Cell `t` of a row of fifteen DMA semaphores. -/
def sem15 (a : DmaSems sig S15) (t : Fin 15) : DmaSem sig :=
  ((a.slice (Rect.unit (s := S15) ![t.val] S1.size (inb15 t))).squeeze S_ squeezes_S1_S_).sem
/-- Cell `t` of the pair of DMA semaphores of the local copies. -/
def sem2 (t : Fin 2) : DmaSem sig :=
  ((cc0_scratch7.slice (Rect.unit (s := S2) ![t.val] S1.size (inb2 t))).squeeze S_ squeezes_S1_S_).sem

/-- A chunk of the context accumulator. -/
abbrev ctxC (o : Fin 4 → ℕ) (ho : ∀ a, o a + S1x8x128x128.size a ≤ S16x8x128x128.size a) : Memref sig .tc .vmem S8x128x128 .f32 :=
  (ctxM.slice (Rect.unit (s := S16x8x128x128) o S1x8x128x128.size ho) (fun _ => rfl)).squeeze S8x128x128 squeezes_S1x8x128x128_S8x128x128
abbrev msC (o : Fin 4 → ℕ) (ho : ∀ a, o a + S1x2x8x128.size a ≤ S16x2x8x128.size a) : Memref sig .tc .vmem S2x8x128 .f32 :=
  (msM.slice (Rect.unit (s := S16x2x8x128) o S1x2x8x128.size ho) (fun _ => rfl)).squeeze S2x8x128 squeezes_S1x2x8x128_S2x8x128

theorem inbCtxR (p : Fin 2) : ∀ a, (![p.val, 0, 0, 0] : Fin 4 → ℕ) a + S1x8x128x128.size a ≤ S2x8x128x128.size a := by
  revert p; decide
theorem inbMsR (p : Fin 2) : ∀ a, (![p.val, 0, 0, 0] : Fin 4 → ℕ) a + S1x2x8x128.size a ≤ S2x2x8x128.size a := by
  revert p; decide
theorem inbMsR1 (p q : Fin 2) : ∀ a, (![p.val, q.val, 0, 0] : Fin 4 → ℕ) a + S1x1x8x128.size a ≤ S2x2x8x128.size a := by
  revert p q; decide

/-- Receive slot `p` of the contexts. -/
abbrev ctxS (p : Fin 2) : Memref sig .tc .vmem S8x128x128 .f32 :=
  (ctxR.slice (Rect.unit (s := S2x8x128x128) ![p.val, 0, 0, 0] S1x8x128x128.size (inbCtxR p)) (fun _ => rfl)).squeeze S8x128x128 squeezes_S1x8x128x128_S8x128x128
abbrev msS (p : Fin 2) : Memref sig .tc .vmem S2x8x128 .f32 :=
  (msR.slice (Rect.unit (s := S2x2x8x128) ![p.val, 0, 0, 0] S1x2x8x128.size (inbMsR p)) (fun _ => rfl)).squeeze S2x8x128 squeezes_S1x2x8x128_S2x8x128

/-- A slice of the result. -/
abbrev outC (o : Fin 3 → ℕ) (ho : ∀ a, o a + S1x128x1024.size a ≤ S1x2048x1024.size a) : Memref sig .tc .vmem S128x1024 .f32 :=
  (outM.slice (Rect.unit (s := S1x2048x1024) o S1x128x1024.size ho) (fun _ => rfl)).squeeze S128x1024 squeezes_S1x128x1024_S128x1024

/-- A head's slice of the keys or the values. -/
abbrev headC (a : Memref sig .tc .hbm S1x2048x8x128 .f32) (o : Fin 4 → ℕ) (ho : ∀ a, o a + S1x2048x1x128.size a ≤ S1x2048x8x128.size a) : Memref sig .tc .hbm S2048x128 .f32 :=
  (a.slice (Rect.unit (s := S1x2048x8x128) o S1x2048x1x128.size ho) (fun _ => rfl)).squeeze S2048x128 squeezes_S1x2048x1x128_S2048x128

theorem inbHead (h : Fin 8) : ∀ a, (![0, 0, h.val, 0] : Fin 4 → ℕ) a + S1x2048x1x128.size a ≤ S1x2048x8x128.size a := by
  revert h; decide
theorem inbWq (h : Fin 8) : ∀ a, (![0, 128 * h.val] : Fin 2 → ℕ) a + S1024x128.size a ≤ S1024x1024.size a := by
  revert h; decide
theorem inbWo (h : Fin 8) : ∀ a, (![128 * h.val, 0] : Fin 2 → ℕ) a + S128x1024.size a ≤ S1024x1024.size a := by
  revert h; decide

/-! ## The pieces of the body -/

/-- The device's place on the ring, as the body computes it. -/
abbrev w2 (d : Dev nD) : BitVec 32 := Scalar.remsi (Scalar.divsi (Dev.word d) 1#32) 16#32

/-- The handshake: tell the left neighbour, wait for the right one; then read `x`. -/
def handshake (l : Dev nD) : P F (FVec F S2048x1024 .f32) := do
  semSignalWord l (SemArray.scalar (sig.barrier 0 rfl) : Sems sig S_).sem 1#32
  semWaitWord (SemArray.scalar (sig.barrier 0 rfl) : Sems sig S_).sem 1#32
  let v11 : Vec F S1x2048x1024 .f32 ← Prog.lift (.load xM (Rect.unit (s := S1x2048x1024) ![0, 0, 0] S1x2048x1024.size inb_S1x2048x1024_S1x2048x1024_0_0_0).toLoadRect (View.loadsAt_vmem h_S1x2048x1024))
  pure (k0_pay81 v11)

abbrev Trip := Fin k0_t1_loop.trips

/-- One query tile of one head. -/
def tile (v2 : BitVec 32) (k v : Vec F S2048x128 .f32) (i : Fin k0_t1_loop.trips)
    (o1 : Fin 2 → ℕ) (h1 : ∀ a, o1 a + S128x128.size a ≤ S2048x128.size a)
    (o2 : Fin 4 → ℕ) (h2 : ∀ a, o2 a + S1x1x128x128.size a ≤ S16x8x128x128.size a)
    (o3 : Fin 4 → ℕ) (h3 : ∀ a, o3 a + S1x1x1x128.size a ≤ S16x2x8x128.size a)
    (o4 : Fin 4 → ℕ) (h4 : ∀ a, o4 a + S1x1x1x128.size a ≤ S16x2x8x128.size a) : P F Unit := do
  let q : Vec F S128x128 .f32 ← Prog.lift (.load qM (Rect.unit (s := S2048x128) o1 S128x128.size h1).toLoadRect (View.loadsAt_vmem h_S128x128))
  let _ : Vec F S1x1x128x128 .f32 ← Prog.lift (.load ctxM (Rect.unit (s := S16x8x128x128) o2 S1x1x128x128.size h2).toLoadRect (View.loadsAt_vmem h_S1x1x128x128))
  Prog.lift (.store ctxM (Rect.unit (s := S16x8x128x128) o2 S1x1x128x128.size h2) (k0_pay9 v2 v (k0_pay1 k q) (iota .tc S128x2048 32 [1] iota_S128x2048_d1_w32) (k0_pay2 0#32 1#32 i) 64#32 k0_pay3 k0_pay4 (Scalar.cmpi .sgt 64#32 0#32)) Finset.univ (View.stores_vmem_bits_univ h_S1x1x128x128 rfl) (.inl rfl))
  let _ : Vec F S1x1x1x128 .f32 ← Prog.lift (.load msM (Rect.unit (s := S16x2x8x128) o3 S1x1x1x128.size h3).toLoadRect (View.loadsAt_vmem h_S1x1x1x128))
  Prog.lift (.store msM (Rect.unit (s := S16x2x8x128) o3 S1x1x1x128.size h3) (k0_pay83 (k0_pay10 v2 (k0_pay1 k q) (iota .tc S128x2048 32 [1] iota_S128x2048_d1_w32) (k0_pay2 0#32 1#32 i) 64#32 k0_pay3 k0_pay4 (Scalar.cmpi .sgt 64#32 0#32))) Finset.univ (View.stores_vmem_bits_univ h_S1x1x1x128 rfl) (.inl rfl))
  let _ : Vec F S1x1x1x128 .f32 ← Prog.lift (.load msM (Rect.unit (s := S16x2x8x128) o4 S1x1x1x128.size h4).toLoadRect (View.loadsAt_vmem h_S1x1x1x128))
  Prog.lift (.store msM (Rect.unit (s := S16x2x8x128) o4 S1x1x1x128.size h4) (k0_pay84 (k0_pay8 v2 (k0_pay1 k q) (iota .tc S128x2048 32 [1] iota_S128x2048_d1_w32) (k0_pay2 0#32 1#32 i) 64#32 k0_pay3 k0_pay4 (Scalar.cmpi .sgt 64#32 0#32))) Finset.univ (View.stores_vmem_bits_univ h_S1x1x1x128 rfl) (.inl rfl))
  pure ()

/-- Start the copy of a head's keys, of a head's values. -/
def enqK (h : Fin 8) : P F PUnit :=
  Prog.lift (.enqueueDma (headC kM ![0, 0, h.val, 0] (inbHead h)) (.here khM) (.dma (sem2 0)) ((View.wordExact_bits rfl).reshape _ _) (Memref.isWhole_whole _).wordExact ⟨Or.inl rfl, trivial⟩)
def enqV (h : Fin 8) : P F PUnit :=
  Prog.lift (.enqueueDma (headC vM ![0, 0, h.val, 0] (inbHead h)) (.here vhM) (.dma (sem2 1)) ((View.wordExact_bits rfl).reshape _ _) (Memref.isWhole_whole _).wordExact ⟨Or.inl rfl, trivial⟩)

/-- Await a head's keys and values, project its queries, read the keys and values. -/
def headMid (h : Fin 8) (v12 : FVec F S2048x1024 .f32) : P F (Vec F S2048x128 .f32 × Vec F S2048x128 .f32) := do
  Prog.lift (.waitDma2 (sem2 0) (headC kM ![0, 0, h.val, 0] (inbHead h)) khM ((View.wordExact_bits rfl).reshape _ _) (Memref.isWhole_whole _).wordExact)
  Prog.lift (.waitDma2 (sem2 1) (headC vM ![0, 0, h.val, 0] (inbHead h)) vhM ((View.wordExact_bits rfl).reshape _ _) (Memref.isWhole_whole _).wordExact)
  let wq : Vec F S1024x128 .f32 ← Prog.lift (.load wqM (Rect.unit (s := S1024x1024) ![0, 128 * h.val] S1024x128.size (inbWq h)).toLoadRect (View.loadsAt_vmem h_S1024x128))
  let _ : Vec F S2048x128 .f32 ← Prog.lift (.load qM (Rect.unit (s := S2048x128) ![0, 0] S2048x128.size inb_S2048x128_S2048x128_0_0).toLoadRect (View.loadsAt_vmem h_S2048x128))
  Prog.lift (.store qM (Rect.unit (s := S2048x128) ![0, 0] S2048x128.size inb_S2048x128_S2048x128_0_0) (k0_pay82 v12 wq) Finset.univ (View.stores_vmem_bits_univ h_S2048x128 rfl) (.inl rfl))
  let k : Vec F S2048x128 .f32 ← Prog.lift (.load khM (Rect.unit (s := S2048x128) ![0, 0] S2048x128.size inb_S2048x128_S2048x128_0_0).toLoadRect (View.loadsAt_vmem h_S2048x128))
  let v : Vec F S2048x128 .f32 ← Prog.lift (.load vhM (Rect.unit (s := S2048x128) ![0, 0] S2048x128.size inb_S2048x128_S2048x128_0_0).toLoadRect (View.loadsAt_vmem h_S2048x128))
  pure (k, v)

/-- The query tiles of a head. -/
def tiles (d : Dev nD) (kv : Vec F S2048x128 .f32 × Vec F S2048x128 .f32)
    (o1 : Trip → Fin 2 → ℕ) (h1 : ∀ i, ∀ a, o1 i a + S128x128.size a ≤ S2048x128.size a)
    (o2 : Trip → Fin 4 → ℕ) (h2 : ∀ i, ∀ a, o2 i a + S1x1x128x128.size a ≤ S16x8x128x128.size a)
    (o3 : Trip → Fin 4 → ℕ) (h3 : ∀ i, ∀ a, o3 i a + S1x1x1x128.size a ≤ S16x2x8x128.size a)
    (o4 : Trip → Fin 4 → ℕ) (h4 : ∀ i, ∀ a, o4 i a + S1x1x1x128.size a ≤ S16x2x8x128.size a) : P F Unit :=
  Scf.Loop.for k0_t1_loop k0_t1_ok ⟨⟩ fun i _ =>
    tile (w2 d) kv.1 kv.2 i (o1 i) (h1 i) (o2 i) (h2 i) (o3 i) (h3 i) (o4 i) (h4 i)

/-- One head. -/
def head (d : Dev nD) (h : Fin 8) (v12 : FVec F S2048x1024 .f32)
    (o1 : Trip → Fin 2 → ℕ) (h1 : ∀ i, ∀ a, o1 i a + S128x128.size a ≤ S2048x128.size a)
    (o2 : Trip → Fin 4 → ℕ) (h2 : ∀ i, ∀ a, o2 i a + S1x1x128x128.size a ≤ S16x8x128x128.size a)
    (o3 : Trip → Fin 4 → ℕ) (h3 : ∀ i, ∀ a, o3 i a + S1x1x1x128.size a ≤ S16x2x8x128.size a)
    (o4 : Trip → Fin 4 → ℕ) (h4 : ∀ i, ∀ a, o4 i a + S1x1x1x128.size a ≤ S16x2x8x128.size a) : P F Unit := do
  enqK h
  enqV h
  let kv ← headMid h v12
  tiles d kv o1 h1 o2 h2 o3 h3 o4 h4

/-- Await the four completions of ring step `t`'s copies. -/
def await (t : Fin 15) (p : Fin 2)
    (oc : Fin 4 → ℕ) (hc : ∀ a, oc a + S1x8x128x128.size a ≤ S16x8x128x128.size a)
    (om : Fin 4 → ℕ) (hm : ∀ a, om a + S1x2x8x128.size a ≤ S16x2x8x128.size a) : P F PUnit := do
  Prog.lift (.waitDma2 (sem15 cc0_scratch8 t) (ctxS p) (ctxC oc hc) ((View.wordExact_bits rfl).reshape _ _) ((View.wordExact_bits rfl).reshape _ _))
  Prog.lift (.waitDma2 (sem15 cc0_scratch9 t) (ctxC oc hc) (ctxS p) ((View.wordExact_bits rfl).reshape _ _) ((View.wordExact_bits rfl).reshape _ _))
  Prog.lift (.waitDma2 (sem15 cc0_scratch10 t) (msS p) (msC om hm) ((View.wordExact_bits rfl).reshape _ _) ((View.wordExact_bits rfl).reshape _ _))
  Prog.lift (.waitDma2 (sem15 cc0_scratch11 t) (msC om hm) (msS p) ((View.wordExact_bits rfl).reshape _ _) ((View.wordExact_bits rfl).reshape _ _))

/-- The copies of ring step `t`: both sent to the right neighbour, all four completions awaited. -/
def exchange (n₁ n₂ : Dev nD) (t : Fin 15) (p : Fin 2)
    (oc : Fin 4 → ℕ) (hc : ∀ a, oc a + S1x8x128x128.size a ≤ S16x8x128x128.size a)
    (om : Fin 4 → ℕ) (hm : ∀ a, om a + S1x2x8x128.size a ≤ S16x2x8x128.size a) : P F PUnit := do
  Prog.lift (.enqueueDma (ctxC oc hc) (.remote (Dev.tc n₁) (ctxS p) (.dma (sem15 cc0_scratch8 t))) (.dma (sem15 cc0_scratch9 t)) ((View.wordExact_bits rfl).reshape _ _) ((View.wordExact_bits rfl).reshape _ _) ⟨⟨rfl, Or.inl rfl⟩, trivial⟩)
  Prog.lift (.enqueueDma (msC om hm) (.remote (Dev.tc n₂) (msS p) (.dma (sem15 cc0_scratch10 t))) (.dma (sem15 cc0_scratch11 t)) ((View.wordExact_bits rfl).reshape _ _) ((View.wordExact_bits rfl).reshape _ _) ⟨⟨rfl, Or.inl rfl⟩, trivial⟩)
  await t p oc hc om hm

/-- The merge of ring step `t`: the received partial sums folded into the next chunk. -/
def merge (p : Fin 2)
    (o5 : Fin 4 → ℕ) (h5 : ∀ a, o5 a + S1x1x8x128.size a ≤ S16x2x8x128.size a)
    (o6 : Fin 4 → ℕ) (h6 : ∀ a, o6 a + S1x1x8x128.size a ≤ S16x2x8x128.size a)
    (o7 : Fin 4 → ℕ) (h7 : ∀ a, o7 a + S1x8x128x128.size a ≤ S16x8x128x128.size a) : P F PUnit := do
  let ma : Vec F S1x1x8x128 .f32 ← Prog.lift (.load msM (Rect.unit (s := S16x2x8x128) o5 S1x1x8x128.size h5).toLoadRect (View.loadsAt_vmem h_S1x1x8x128))
  let sa : Vec F S1x1x8x128 .f32 ← Prog.lift (.load msM (Rect.unit (s := S16x2x8x128) o6 S1x1x8x128.size h6).toLoadRect (View.loadsAt_vmem h_S1x1x8x128))
  let mr : Vec F S1x1x8x128 .f32 ← Prog.lift (.load msR (Rect.unit (s := S2x2x8x128) ![p.val, (0 : Fin 2).val, 0, 0] S1x1x8x128.size (inbMsR1 p 0)).toLoadRect (View.loadsAt_vmem h_S1x1x8x128))
  let sr : Vec F S1x1x8x128 .f32 ← Prog.lift (.load msR (Rect.unit (s := S2x2x8x128) ![p.val, (1 : Fin 2).val, 0, 0] S1x1x8x128.size (inbMsR1 p 1)).toLoadRect (View.loadsAt_vmem h_S1x1x8x128))
  let _ : Vec F S1x1x8x128 .f32 ← Prog.lift (.load msM (Rect.unit (s := S16x2x8x128) o5 S1x1x8x128.size h5).toLoadRect (View.loadsAt_vmem h_S1x1x8x128))
  Prog.lift (.store msM (Rect.unit (s := S16x2x8x128) o5 S1x1x8x128.size h5) (k0_pay111 ma mr) Finset.univ (View.stores_vmem_bits_univ h_S1x1x8x128 rfl) (.inl rfl))
  let _ : Vec F S1x1x8x128 .f32 ← Prog.lift (.load msM (Rect.unit (s := S16x2x8x128) o6 S1x1x8x128.size h6).toLoadRect (View.loadsAt_vmem h_S1x1x8x128))
  Prog.lift (.store msM (Rect.unit (s := S16x2x8x128) o6 S1x1x8x128.size h6) (k0_pay113 (k0_pay112 ma sa mr sr)) Finset.univ (View.stores_vmem_bits_univ h_S1x1x8x128 rfl) (.inl rfl))
  let ca : Vec F S1x8x128x128 .f32 ← Prog.lift (.load ctxM (Rect.unit (s := S16x8x128x128) o7 S1x8x128x128.size h7).toLoadRect (View.loadsAt_vmem h_S1x8x128x128))
  let cr : Vec F S1x8x128x128 .f32 ← Prog.lift (.load ctxR (Rect.unit (s := S2x8x128x128) ![p.val, 0, 0, 0] S1x8x128x128.size (inbCtxR p)).toLoadRect (View.loadsAt_vmem h_S1x8x128x128))
  let _ : Vec F S1x8x128x128 .f32 ← Prog.lift (.load ctxM (Rect.unit (s := S16x8x128x128) o7 S1x8x128x128.size h7).toLoadRect (View.loadsAt_vmem h_S1x8x128x128))
  Prog.lift (.store ctxM (Rect.unit (s := S16x8x128x128) o7 S1x8x128x128.size h7) (k0_pay114 (k0_pay109 ma mr) (k0_pay110 ma mr) ca cr) Finset.univ (View.stores_vmem_bits_univ h_S1x8x128x128 rfl) (.inl rfl))

/-- Give a credit to the left neighbour. -/
def give (l : Dev nD) : P F PUnit := semSignalWord l cc0_scratch14.sem 1#32
/-- Wait for a credit of the right neighbour. -/
def take : P F PUnit := semWaitWord cc0_scratch14.sem 1#32

/-- Ring step `t` without its credits. -/
def core (d n₁ n₂ : Dev nD) (t : Fin 15) (p : Fin 2) : P F PUnit := do
  exchange n₁ n₂ t p (k0_off33 d (BitVec.ofNat 32 t.val)) (k0_off33_inb d t) (k0_off34 d (BitVec.ofNat 32 t.val)) (k0_off34_inb d t)
  merge p (k0_off35 d (BitVec.ofNat 32 t.val)) (k0_off35_inb d t) (k0_off36 d (BitVec.ofNat 32 t.val)) (k0_off36_inb d t) (k0_off37 d (BitVec.ofNat 32 t.val)) (k0_off37_inb d t)

def ldWo (h : Fin 8) : P F (Vec F S128x1024 .f32) :=
  Prog.lift (.load woM (Rect.unit (s := S1024x1024) ![128 * h.val, 0] S128x1024.size (inbWo h)).toLoadRect (View.loadsAt_vmem h_S128x1024))

/-- The device's own chunk: normalise, project, store. -/
def final (d : Dev nD) : P F PUnit := do
  let s : Vec F S1x1x8x128 .f32 ← Prog.lift (.load msM (Rect.unit (s := S16x2x8x128) (k0_off38 d) S1x1x8x128.size (k0_off38_inb d)).toLoadRect (View.loadsAt_vmem h_S1x1x8x128))
  let c : Vec F S1x8x128x128 .f32 ← Prog.lift (.load ctxM (Rect.unit (s := S16x8x128x128) (k0_off39 d) S1x8x128x128.size (k0_off39_inb d)).toLoadRect (View.loadsAt_vmem h_S1x8x128x128))
  let a0 ← ldWo 0
  let a1 ← ldWo 1
  let a2 ← ldWo 2
  let a3 ← ldWo 3
  let a4 ← ldWo 4
  let a5 ← ldWo 5
  let a6 ← ldWo 6
  let a7 ← ldWo 7
  let _ : Vec F S1x128x1024 .f32 ← Prog.lift (.load outM (Rect.unit (s := S1x2048x1024) (k0_off40 d) S1x128x1024.size (k0_off40_inb d)).toLoadRect (View.loadsAt_vmem h_S1x128x1024))
  Prog.lift (.store outM (Rect.unit (s := S1x2048x1024) (k0_off40 d) S1x128x1024.size (k0_off40_inb d))
    (k0_pay254 (k0_pay252 (k0_pay251 s) c) (k0_pay253 (k0_pay251 s) c a0 a1 a2 a3 a4 a5) a6 a7) Finset.univ (View.stores_vmem_bits_univ h_S1x128x1024 rfl) (.inl rfl))

/-- One hop of the gather. -/
def hopAt (n : Dev nD) (j : Fin 15) (o : Fin 3 → ℕ) (ho : ∀ a, o a + S1x128x1024.size a ≤ S1x2048x1024.size a) : P F PUnit := do
  Prog.lift (.enqueueDma (outC o ho) (.remote (Dev.tc n) (outC o ho) (.dma (sem15 cc0_scratch12 j))) (.dma (sem15 cc0_scratch13 j)) ((View.wordExact_bits rfl).reshape _ _) ((View.wordExact_bits rfl).reshape _ _) ⟨⟨rfl, Or.inl rfl⟩, trivial⟩)
  Prog.lift (.waitDma2 (sem15 cc0_scratch12 j) (outC o ho) (outC o ho) ((View.wordExact_bits rfl).reshape _ _) ((View.wordExact_bits rfl).reshape _ _))
  Prog.lift (.waitDma2 (sem15 cc0_scratch13 j) (outC o ho) (outC o ho) ((View.wordExact_bits rfl).reshape _ _) ((View.wordExact_bits rfl).reshape _ _))

def hop (d n : Dev nD) (j : Fin 15) : P F PUnit := hopAt n j (k0_off41 d (BitVec.ofNat 32 j.val)) (k0_off41_inb d j)

end Cert.KernelIdeal.Ring
end
end
-- ==== Proof.Frag.lean ====
module

public import proofs.«01_k».proof.Proof.FragBase

@[expose] public section

noncomputable section

namespace Cert.KernelIdeal.Ring

open Idealize.ShloMosaic Idealize.ShloMosaic.TcCoe Idealize.SL Idealize.SL.Sem
open Cert.KernelIdeal Cert.KernelIdeal.Gen

variable {F : FTy → Type} [FloatOps F]

/-- The ring, the device's own chunk and the gather. -/
def rest (d : Dev nD) : P F PUnit := do
  core d ⟨k0_dev2 d, k0_dev2_lt d⟩ ⟨k0_dev3 d, k0_dev3_lt d⟩ 0 0
  give ⟨k0_dev4 d, k0_dev4_lt d⟩
  core d ⟨k0_dev5 d, k0_dev5_lt d⟩ ⟨k0_dev6 d, k0_dev6_lt d⟩ 1 1
  give ⟨k0_dev7 d, k0_dev7_lt d⟩
  take
  core d ⟨k0_dev8 d, k0_dev8_lt d⟩ ⟨k0_dev9 d, k0_dev9_lt d⟩ 2 0
  give ⟨k0_dev10 d, k0_dev10_lt d⟩
  take
  core d ⟨k0_dev11 d, k0_dev11_lt d⟩ ⟨k0_dev12 d, k0_dev12_lt d⟩ 3 1
  give ⟨k0_dev13 d, k0_dev13_lt d⟩
  take
  core d ⟨k0_dev14 d, k0_dev14_lt d⟩ ⟨k0_dev15 d, k0_dev15_lt d⟩ 4 0
  give ⟨k0_dev16 d, k0_dev16_lt d⟩
  take
  core d ⟨k0_dev17 d, k0_dev17_lt d⟩ ⟨k0_dev18 d, k0_dev18_lt d⟩ 5 1
  give ⟨k0_dev19 d, k0_dev19_lt d⟩
  take
  core d ⟨k0_dev20 d, k0_dev20_lt d⟩ ⟨k0_dev21 d, k0_dev21_lt d⟩ 6 0
  give ⟨k0_dev22 d, k0_dev22_lt d⟩
  take
  core d ⟨k0_dev23 d, k0_dev23_lt d⟩ ⟨k0_dev24 d, k0_dev24_lt d⟩ 7 1
  give ⟨k0_dev25 d, k0_dev25_lt d⟩
  take
  core d ⟨k0_dev26 d, k0_dev26_lt d⟩ ⟨k0_dev27 d, k0_dev27_lt d⟩ 8 0
  give ⟨k0_dev28 d, k0_dev28_lt d⟩
  take
  core d ⟨k0_dev29 d, k0_dev29_lt d⟩ ⟨k0_dev30 d, k0_dev30_lt d⟩ 9 1
  give ⟨k0_dev31 d, k0_dev31_lt d⟩
  take
  core d ⟨k0_dev32 d, k0_dev32_lt d⟩ ⟨k0_dev33 d, k0_dev33_lt d⟩ 10 0
  give ⟨k0_dev34 d, k0_dev34_lt d⟩
  take
  core d ⟨k0_dev35 d, k0_dev35_lt d⟩ ⟨k0_dev36 d, k0_dev36_lt d⟩ 11 1
  give ⟨k0_dev37 d, k0_dev37_lt d⟩
  take
  core d ⟨k0_dev38 d, k0_dev38_lt d⟩ ⟨k0_dev39 d, k0_dev39_lt d⟩ 12 0
  give ⟨k0_dev40 d, k0_dev40_lt d⟩
  take
  core d ⟨k0_dev41 d, k0_dev41_lt d⟩ ⟨k0_dev42 d, k0_dev42_lt d⟩ 13 1
  take
  core d ⟨k0_dev43 d, k0_dev43_lt d⟩ ⟨k0_dev44 d, k0_dev44_lt d⟩ 14 0
  final d
  hop d ⟨k0_dev45 d, k0_dev45_lt d⟩ 0
  hop d ⟨k0_dev46 d, k0_dev46_lt d⟩ 1
  hop d ⟨k0_dev47 d, k0_dev47_lt d⟩ 2
  hop d ⟨k0_dev48 d, k0_dev48_lt d⟩ 3
  hop d ⟨k0_dev49 d, k0_dev49_lt d⟩ 4
  hop d ⟨k0_dev50 d, k0_dev50_lt d⟩ 5
  hop d ⟨k0_dev51 d, k0_dev51_lt d⟩ 6
  hop d ⟨k0_dev52 d, k0_dev52_lt d⟩ 7
  hop d ⟨k0_dev53 d, k0_dev53_lt d⟩ 8
  hop d ⟨k0_dev54 d, k0_dev54_lt d⟩ 9
  hop d ⟨k0_dev55 d, k0_dev55_lt d⟩ 10
  hop d ⟨k0_dev56 d, k0_dev56_lt d⟩ 11
  hop d ⟨k0_dev57 d, k0_dev57_lt d⟩ 12
  hop d ⟨k0_dev58 d, k0_dev58_lt d⟩ 13
  hop d ⟨k0_dev59 d, k0_dev59_lt d⟩ 14

/-- The body, as the chain of its pieces. -/
def chain : P F PUnit := do
  let d ← Prog.lift .deviceId
  let x ← handshake ⟨k0_dev1 d, k0_dev1_lt d⟩
  head d 0 x k0_off1 k0_off1_inb k0_off2 k0_off2_inb k0_off3 k0_off3_inb k0_off4 k0_off4_inb
  head d 1 x k0_off5 k0_off5_inb k0_off6 k0_off6_inb k0_off7 k0_off7_inb k0_off8 k0_off8_inb
  head d 2 x k0_off9 k0_off9_inb k0_off10 k0_off10_inb k0_off11 k0_off11_inb k0_off12 k0_off12_inb
  head d 3 x k0_off13 k0_off13_inb k0_off14 k0_off14_inb k0_off15 k0_off15_inb k0_off16 k0_off16_inb
  head d 4 x k0_off17 k0_off17_inb k0_off18 k0_off18_inb k0_off19 k0_off19_inb k0_off20 k0_off20_inb
  head d 5 x k0_off21 k0_off21_inb k0_off22 k0_off22_inb k0_off23 k0_off23_inb k0_off24 k0_off24_inb
  head d 6 x k0_off25 k0_off25_inb k0_off26 k0_off26_inb k0_off27 k0_off27_inb k0_off28 k0_off28_inb
  head d 7 x k0_off29 k0_off29_inb k0_off30 k0_off30_inb k0_off31 k0_off31_inb k0_off32 k0_off32_inb
  rest d

/-- Ring step `t` after its copies are sent. -/
def coreB (d : Dev nD) (t : Fin 15) (p : Fin 2) : P F PUnit := do
  await t p (k0_off33 d (BitVec.ofNat 32 t.val)) (k0_off33_inb d t) (k0_off34 d (BitVec.ofNat 32 t.val)) (k0_off34_inb d t)
  merge p (k0_off35 d (BitVec.ofNat 32 t.val)) (k0_off35_inb d t) (k0_off36 d (BitVec.ofNat 32 t.val)) (k0_off36_inb d t) (k0_off37 d (BitVec.ofNat 32 t.val)) (k0_off37_inb d t)

/-- A hop of the gather but its last wait, and that wait. -/
def hopA (d n : Dev nD) (j : Fin 15) : P F PUnit := do
  Prog.lift (.enqueueDma (outC (k0_off41 d (BitVec.ofNat 32 j.val)) (k0_off41_inb d j)) (.remote (Dev.tc n) (outC (k0_off41 d (BitVec.ofNat 32 j.val)) (k0_off41_inb d j)) (.dma (sem15 cc0_scratch12 j))) (.dma (sem15 cc0_scratch13 j)) ((View.wordExact_bits rfl).reshape _ _) ((View.wordExact_bits rfl).reshape _ _) ⟨⟨rfl, Or.inl rfl⟩, trivial⟩)
  Prog.lift (.waitDma2 (sem15 cc0_scratch12 j) (outC (k0_off41 d (BitVec.ofNat 32 j.val)) (k0_off41_inb d j)) (outC (k0_off41 d (BitVec.ofNat 32 j.val)) (k0_off41_inb d j)) ((View.wordExact_bits rfl).reshape _ _) ((View.wordExact_bits rfl).reshape _ _))
def hopB (d : Dev nD) (j : Fin 15) : P F PUnit :=
  Prog.lift (.waitDma2 (sem15 cc0_scratch13 j) (outC (k0_off41 d (BitVec.ofNat 32 j.val)) (k0_off41_inb d j)) (outC (k0_off41 d (BitVec.ofNat 32 j.val)) (k0_off41_inb d j)) ((View.wordExact_bits rfl).reshape _ _) ((View.wordExact_bits rfl).reshape _ _))

/-- The ring between the first step's copies and the last step's. -/
def restB (d : Dev nD) : P F PUnit := do
  coreB d 0 0
  give ⟨k0_dev4 d, k0_dev4_lt d⟩
  core d ⟨k0_dev5 d, k0_dev5_lt d⟩ ⟨k0_dev6 d, k0_dev6_lt d⟩ 1 1
  give ⟨k0_dev7 d, k0_dev7_lt d⟩
  take
  core d ⟨k0_dev8 d, k0_dev8_lt d⟩ ⟨k0_dev9 d, k0_dev9_lt d⟩ 2 0
  give ⟨k0_dev10 d, k0_dev10_lt d⟩
  take
  core d ⟨k0_dev11 d, k0_dev11_lt d⟩ ⟨k0_dev12 d, k0_dev12_lt d⟩ 3 1
  give ⟨k0_dev13 d, k0_dev13_lt d⟩
  take
  core d ⟨k0_dev14 d, k0_dev14_lt d⟩ ⟨k0_dev15 d, k0_dev15_lt d⟩ 4 0
  give ⟨k0_dev16 d, k0_dev16_lt d⟩
  take
  core d ⟨k0_dev17 d, k0_dev17_lt d⟩ ⟨k0_dev18 d, k0_dev18_lt d⟩ 5 1
  give ⟨k0_dev19 d, k0_dev19_lt d⟩
  take
  core d ⟨k0_dev20 d, k0_dev20_lt d⟩ ⟨k0_dev21 d, k0_dev21_lt d⟩ 6 0
  give ⟨k0_dev22 d, k0_dev22_lt d⟩
  take
  core d ⟨k0_dev23 d, k0_dev23_lt d⟩ ⟨k0_dev24 d, k0_dev24_lt d⟩ 7 1
  give ⟨k0_dev25 d, k0_dev25_lt d⟩
  take
  core d ⟨k0_dev26 d, k0_dev26_lt d⟩ ⟨k0_dev27 d, k0_dev27_lt d⟩ 8 0
  give ⟨k0_dev28 d, k0_dev28_lt d⟩
  take
  core d ⟨k0_dev29 d, k0_dev29_lt d⟩ ⟨k0_dev30 d, k0_dev30_lt d⟩ 9 1
  give ⟨k0_dev31 d, k0_dev31_lt d⟩
  take
  core d ⟨k0_dev32 d, k0_dev32_lt d⟩ ⟨k0_dev33 d, k0_dev33_lt d⟩ 10 0
  give ⟨k0_dev34 d, k0_dev34_lt d⟩
  take
  core d ⟨k0_dev35 d, k0_dev35_lt d⟩ ⟨k0_dev36 d, k0_dev36_lt d⟩ 11 1
  give ⟨k0_dev37 d, k0_dev37_lt d⟩
  take
  core d ⟨k0_dev38 d, k0_dev38_lt d⟩ ⟨k0_dev39 d, k0_dev39_lt d⟩ 12 0
  give ⟨k0_dev40 d, k0_dev40_lt d⟩
  take
  core d ⟨k0_dev41 d, k0_dev41_lt d⟩ ⟨k0_dev42 d, k0_dev42_lt d⟩ 13 1
  take
  Prog.lift (.enqueueDma (ctxC (k0_off33 d (BitVec.ofNat 32 (14 : Fin 15).val)) (k0_off33_inb d 14)) (.remote (Dev.tc ⟨k0_dev43 d, k0_dev43_lt d⟩) (ctxS 0) (.dma (sem15 cc0_scratch8 14))) (.dma (sem15 cc0_scratch9 14)) ((View.wordExact_bits rfl).reshape _ _) ((View.wordExact_bits rfl).reshape _ _) ⟨⟨rfl, Or.inl rfl⟩, trivial⟩)

/-- The rest from the last ring step on, but the last wait. -/
def restC (d : Dev nD) : P F PUnit := do
  Prog.lift (.enqueueDma (msC (k0_off34 d (BitVec.ofNat 32 (14 : Fin 15).val)) (k0_off34_inb d 14)) (.remote (Dev.tc ⟨k0_dev44 d, k0_dev44_lt d⟩) (msS 0) (.dma (sem15 cc0_scratch10 14))) (.dma (sem15 cc0_scratch11 14)) ((View.wordExact_bits rfl).reshape _ _) ((View.wordExact_bits rfl).reshape _ _) ⟨⟨rfl, Or.inl rfl⟩, trivial⟩)
  coreB d 14 0
  final d
  hop d ⟨k0_dev45 d, k0_dev45_lt d⟩ 0
  hop d ⟨k0_dev46 d, k0_dev46_lt d⟩ 1
  hop d ⟨k0_dev47 d, k0_dev47_lt d⟩ 2
  hop d ⟨k0_dev48 d, k0_dev48_lt d⟩ 3
  hop d ⟨k0_dev49 d, k0_dev49_lt d⟩ 4
  hop d ⟨k0_dev50 d, k0_dev50_lt d⟩ 5
  hop d ⟨k0_dev51 d, k0_dev51_lt d⟩ 6
  hop d ⟨k0_dev52 d, k0_dev52_lt d⟩ 7
  hop d ⟨k0_dev53 d, k0_dev53_lt d⟩ 8
  hop d ⟨k0_dev54 d, k0_dev54_lt d⟩ 9
  hop d ⟨k0_dev55 d, k0_dev55_lt d⟩ 10
  hop d ⟨k0_dev56 d, k0_dev56_lt d⟩ 11
  hop d ⟨k0_dev57 d, k0_dev57_lt d⟩ 12
  hop d ⟨k0_dev58 d, k0_dev58_lt d⟩ 13
  hopA d ⟨k0_dev59 d, k0_dev59_lt d⟩ 14

/-- The pieces before the ring, grouped as the printed parts group them around the loops. -/
def nestedA : P F (Σ' (d0 : Dev nD) (v2 : BitVec 32), BitVec 32) := do
  let d ← Prog.lift .deviceId
  let x ← handshake ⟨k0_dev1 d, k0_dev1_lt d⟩
  enqK 0
  enqV 0
  let kv0 ← headMid 0 x
  (do
    tiles d kv0 k0_off1 k0_off1_inb k0_off2 k0_off2_inb k0_off3 k0_off3_inb k0_off4 k0_off4_inb
    enqK 1
    enqV 1)
  let kv1 ← headMid 1 x
  (do
    tiles d kv1 k0_off5 k0_off5_inb k0_off6 k0_off6_inb k0_off7 k0_off7_inb k0_off8 k0_off8_inb
    enqK 2
    enqV 2)
  let kv2 ← headMid 2 x
  (do
    tiles d kv2 k0_off9 k0_off9_inb k0_off10 k0_off10_inb k0_off11 k0_off11_inb k0_off12 k0_off12_inb
    enqK 3)
  enqV 3
  let kv3 ← headMid 3 x
  (do
    tiles d kv3 k0_off13 k0_off13_inb k0_off14 k0_off14_inb k0_off15 k0_off15_inb k0_off16 k0_off16_inb
    enqK 4)
  enqV 4
  let kv4 ← headMid 4 x
  (do
    tiles d kv4 k0_off17 k0_off17_inb k0_off18 k0_off18_inb k0_off19 k0_off19_inb k0_off20 k0_off20_inb
    pure ⟨⟩)
  enqK 5
  enqV 5
  let kv5 ← headMid 5 x
  (do
    tiles d kv5 k0_off21 k0_off21_inb k0_off22 k0_off22_inb k0_off23 k0_off23_inb k0_off24 k0_off24_inb
    pure ⟨⟩)
  enqK 6
  enqV 6
  let kv6 ← headMid 6 x
  (do
    tiles d kv6 k0_off25 k0_off25_inb k0_off26 k0_off26_inb k0_off27 k0_off27_inb k0_off28 k0_off28_inb
    pure ⟨⟩)
  enqK 7
  enqV 7
  let kv7 ← headMid 7 x
  (do
    tiles d kv7 k0_off29 k0_off29_inb k0_off30 k0_off30_inb k0_off31 k0_off31_inb k0_off32 k0_off32_inb
    Prog.lift (.enqueueDma (ctxC (k0_off33 d (BitVec.ofNat 32 (0 : Fin 15).val)) (k0_off33_inb d 0)) (.remote (Dev.tc ⟨k0_dev2 d, k0_dev2_lt d⟩) (ctxS 0) (.dma (sem15 cc0_scratch8 0))) (.dma (sem15 cc0_scratch9 0)) ((View.wordExact_bits rfl).reshape _ _) ((View.wordExact_bits rfl).reshape _ _) ⟨⟨rfl, Or.inl rfl⟩, trivial⟩)
    Prog.lift (.enqueueDma (msC (k0_off34 d (BitVec.ofNat 32 (0 : Fin 15).val)) (k0_off34_inb d 0)) (.remote (Dev.tc ⟨k0_dev3 d, k0_dev3_lt d⟩) (msS 0) (.dma (sem15 cc0_scratch10 0))) (.dma (sem15 cc0_scratch11 0)) ((View.wordExact_bits rfl).reshape _ _) ((View.wordExact_bits rfl).reshape _ _) ⟨⟨rfl, Or.inl rfl⟩, trivial⟩))
  restB d
  pure ⟨d, w2 d, Scalar.remsi (Scalar.addi (w2 d) 1#32) 16#32⟩

def nested : P F PUnit := do
  let r ← nestedA
  restC r.1
  hopB r.1 14

/-- The body on its buffers. -/
abbrev body : P F PUnit :=
  cc0_body xM (Memref.isWhole_whole _) wqM (Memref.isWhole_whole _) kM (Memref.isWhole_whole _) vM (Memref.isWhole_whole _) woM (Memref.isWhole_whole _) outM (Memref.isWhole_whole _) ctxM (Memref.isWhole_whole _) msM (Memref.isWhole_whole _) ctxR (Memref.isWhole_whole _) msR (Memref.isWhole_whole _) khM (Memref.isWhole_whole _) vhM (Memref.isWhole_whole _) qM (Memref.isWhole_whole _) cc0_scratch7 cc0_scratch8 cc0_scratch9 cc0_scratch10 cc0_scratch11 cc0_scratch12 cc0_scratch13 cc0_scratch14

theorem body_eq_nested : body (F := F) = nested (F := F) := by
  chain_rfl

theorem rest_eq (d : Dev nD) : rest (F := F) d = (do
    Prog.lift (.enqueueDma (ctxC (k0_off33 d (BitVec.ofNat 32 (0 : Fin 15).val)) (k0_off33_inb d 0)) (.remote (Dev.tc ⟨k0_dev2 d, k0_dev2_lt d⟩) (ctxS 0) (.dma (sem15 cc0_scratch8 0))) (.dma (sem15 cc0_scratch9 0)) ((View.wordExact_bits rfl).reshape _ _) ((View.wordExact_bits rfl).reshape _ _) ⟨⟨rfl, Or.inl rfl⟩, trivial⟩)
    Prog.lift (.enqueueDma (msC (k0_off34 d (BitVec.ofNat 32 (0 : Fin 15).val)) (k0_off34_inb d 0)) (.remote (Dev.tc ⟨k0_dev3 d, k0_dev3_lt d⟩) (msS 0) (.dma (sem15 cc0_scratch10 0))) (.dma (sem15 cc0_scratch11 0)) ((View.wordExact_bits rfl).reshape _ _) ((View.wordExact_bits rfl).reshape _ _) ⟨⟨rfl, Or.inl rfl⟩, trivial⟩)
    restB d
    restC d
    hopB d 14) := by
  chain_rfl

theorem nested_eq_chain : nested (F := F) = chain (F := F) := by
  unfold nested nestedA chain head
  simp only [bind_assoc, pure_bind, rest_eq]

theorem body_eq_chain : body (F := F) = chain (F := F) := body_eq_nested.trans nested_eq_chain

end Cert.KernelIdeal.Ring
end
end
-- ==== Proof.Steps.lean ====
module

public import proofs.«01_k».proof.Proof.Frag
public import Idealize.ShloMosaic.Lib.Pipeline.Launch
public import Idealize.ShloMosaic.Lib.Pipeline.Kit
public import Idealize.ShloMosaic.Lib.Tactic
public import Idealize.ShloMosaic.Lib.Release
public import Idealize.ShloMosaic.Lib.Transfers
public import Idealize.ShloMosaic.Lib.Scf

@[expose] public section

noncomputable section

namespace Cert.KernelIdeal.Ring

open Idealize.ShloMosaic Idealize.ShloMosaic.TcCoe Idealize.SL Idealize.SL.Sem
open Cert.KernelIdeal Cert.KernelIdeal.Gen

variable {F : FTy → Type} [FloatOps F]

/-! ## The ring -/

set_option backward.proofsInPublic true in
def nxt (c : Dev nD) : Dev nD := ⟨(c.val + 1) % 16, Nat.mod_lt _ (by decide)⟩
set_option backward.proofsInPublic true in
def prv (c : Dev nD) : Dev nD := ⟨(c.val + 15) % 16, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-! ## The devices the body addresses -/

section Devices
variable (d : Dev nD)
theorem dev1_eq : (⟨k0_dev1 d, k0_dev1_lt d⟩ : Dev nD) = prv d := Fin.ext (k0_dev1_eq d)
theorem dev2_eq : (⟨k0_dev2 d, k0_dev2_lt d⟩ : Dev nD) = nxt d := Fin.ext (k0_dev2_eq d)
theorem dev3_eq : (⟨k0_dev3 d, k0_dev3_lt d⟩ : Dev nD) = nxt d := Fin.ext (k0_dev3_eq d)
theorem dev4_eq : (⟨k0_dev4 d, k0_dev4_lt d⟩ : Dev nD) = prv d := Fin.ext (k0_dev4_eq d)
theorem dev5_eq : (⟨k0_dev5 d, k0_dev5_lt d⟩ : Dev nD) = nxt d := Fin.ext (k0_dev5_eq d)
theorem dev6_eq : (⟨k0_dev6 d, k0_dev6_lt d⟩ : Dev nD) = nxt d := Fin.ext (k0_dev6_eq d)
theorem dev7_eq : (⟨k0_dev7 d, k0_dev7_lt d⟩ : Dev nD) = prv d := Fin.ext (k0_dev7_eq d)
theorem dev8_eq : (⟨k0_dev8 d, k0_dev8_lt d⟩ : Dev nD) = nxt d := Fin.ext (k0_dev8_eq d)
theorem dev9_eq : (⟨k0_dev9 d, k0_dev9_lt d⟩ : Dev nD) = nxt d := Fin.ext (k0_dev9_eq d)
theorem dev10_eq : (⟨k0_dev10 d, k0_dev10_lt d⟩ : Dev nD) = prv d := Fin.ext (k0_dev10_eq d)
theorem dev11_eq : (⟨k0_dev11 d, k0_dev11_lt d⟩ : Dev nD) = nxt d := Fin.ext (k0_dev11_eq d)
theorem dev12_eq : (⟨k0_dev12 d, k0_dev12_lt d⟩ : Dev nD) = nxt d := Fin.ext (k0_dev12_eq d)
theorem dev13_eq : (⟨k0_dev13 d, k0_dev13_lt d⟩ : Dev nD) = prv d := Fin.ext (k0_dev13_eq d)
theorem dev14_eq : (⟨k0_dev14 d, k0_dev14_lt d⟩ : Dev nD) = nxt d := Fin.ext (k0_dev14_eq d)
theorem dev15_eq : (⟨k0_dev15 d, k0_dev15_lt d⟩ : Dev nD) = nxt d := Fin.ext (k0_dev15_eq d)
theorem dev16_eq : (⟨k0_dev16 d, k0_dev16_lt d⟩ : Dev nD) = prv d := Fin.ext (k0_dev16_eq d)
theorem dev17_eq : (⟨k0_dev17 d, k0_dev17_lt d⟩ : Dev nD) = nxt d := Fin.ext (k0_dev17_eq d)
theorem dev18_eq : (⟨k0_dev18 d, k0_dev18_lt d⟩ : Dev nD) = nxt d := Fin.ext (k0_dev18_eq d)
theorem dev19_eq : (⟨k0_dev19 d, k0_dev19_lt d⟩ : Dev nD) = prv d := Fin.ext (k0_dev19_eq d)
theorem dev20_eq : (⟨k0_dev20 d, k0_dev20_lt d⟩ : Dev nD) = nxt d := Fin.ext (k0_dev20_eq d)
theorem dev21_eq : (⟨k0_dev21 d, k0_dev21_lt d⟩ : Dev nD) = nxt d := Fin.ext (k0_dev21_eq d)
theorem dev22_eq : (⟨k0_dev22 d, k0_dev22_lt d⟩ : Dev nD) = prv d := Fin.ext (k0_dev22_eq d)
theorem dev23_eq : (⟨k0_dev23 d, k0_dev23_lt d⟩ : Dev nD) = nxt d := Fin.ext (k0_dev23_eq d)
theorem dev24_eq : (⟨k0_dev24 d, k0_dev24_lt d⟩ : Dev nD) = nxt d := Fin.ext (k0_dev24_eq d)
theorem dev25_eq : (⟨k0_dev25 d, k0_dev25_lt d⟩ : Dev nD) = prv d := Fin.ext (k0_dev25_eq d)
theorem dev26_eq : (⟨k0_dev26 d, k0_dev26_lt d⟩ : Dev nD) = nxt d := Fin.ext (k0_dev26_eq d)
theorem dev27_eq : (⟨k0_dev27 d, k0_dev27_lt d⟩ : Dev nD) = nxt d := Fin.ext (k0_dev27_eq d)
theorem dev28_eq : (⟨k0_dev28 d, k0_dev28_lt d⟩ : Dev nD) = prv d := Fin.ext (k0_dev28_eq d)
theorem dev29_eq : (⟨k0_dev29 d, k0_dev29_lt d⟩ : Dev nD) = nxt d := Fin.ext (k0_dev29_eq d)
theorem dev30_eq : (⟨k0_dev30 d, k0_dev30_lt d⟩ : Dev nD) = nxt d := Fin.ext (k0_dev30_eq d)
theorem dev31_eq : (⟨k0_dev31 d, k0_dev31_lt d⟩ : Dev nD) = prv d := Fin.ext (k0_dev31_eq d)
theorem dev32_eq : (⟨k0_dev32 d, k0_dev32_lt d⟩ : Dev nD) = nxt d := Fin.ext (k0_dev32_eq d)
theorem dev33_eq : (⟨k0_dev33 d, k0_dev33_lt d⟩ : Dev nD) = nxt d := Fin.ext (k0_dev33_eq d)
theorem dev34_eq : (⟨k0_dev34 d, k0_dev34_lt d⟩ : Dev nD) = prv d := Fin.ext (k0_dev34_eq d)
theorem dev35_eq : (⟨k0_dev35 d, k0_dev35_lt d⟩ : Dev nD) = nxt d := Fin.ext (k0_dev35_eq d)
theorem dev36_eq : (⟨k0_dev36 d, k0_dev36_lt d⟩ : Dev nD) = nxt d := Fin.ext (k0_dev36_eq d)
theorem dev37_eq : (⟨k0_dev37 d, k0_dev37_lt d⟩ : Dev nD) = prv d := Fin.ext (k0_dev37_eq d)
theorem dev38_eq : (⟨k0_dev38 d, k0_dev38_lt d⟩ : Dev nD) = nxt d := Fin.ext (k0_dev38_eq d)
theorem dev39_eq : (⟨k0_dev39 d, k0_dev39_lt d⟩ : Dev nD) = nxt d := Fin.ext (k0_dev39_eq d)
theorem dev40_eq : (⟨k0_dev40 d, k0_dev40_lt d⟩ : Dev nD) = prv d := Fin.ext (k0_dev40_eq d)
theorem dev41_eq : (⟨k0_dev41 d, k0_dev41_lt d⟩ : Dev nD) = nxt d := Fin.ext (k0_dev41_eq d)
theorem dev42_eq : (⟨k0_dev42 d, k0_dev42_lt d⟩ : Dev nD) = nxt d := Fin.ext (k0_dev42_eq d)
theorem dev43_eq : (⟨k0_dev43 d, k0_dev43_lt d⟩ : Dev nD) = nxt d := Fin.ext (k0_dev43_eq d)
theorem dev44_eq : (⟨k0_dev44 d, k0_dev44_lt d⟩ : Dev nD) = nxt d := Fin.ext (k0_dev44_eq d)
theorem dev45_eq : (⟨k0_dev45 d, k0_dev45_lt d⟩ : Dev nD) = nxt d := Fin.ext (k0_dev45_eq d)
theorem dev46_eq : (⟨k0_dev46 d, k0_dev46_lt d⟩ : Dev nD) = nxt d := Fin.ext (k0_dev46_eq d)
theorem dev47_eq : (⟨k0_dev47 d, k0_dev47_lt d⟩ : Dev nD) = nxt d := Fin.ext (k0_dev47_eq d)
theorem dev48_eq : (⟨k0_dev48 d, k0_dev48_lt d⟩ : Dev nD) = nxt d := Fin.ext (k0_dev48_eq d)
theorem dev49_eq : (⟨k0_dev49 d, k0_dev49_lt d⟩ : Dev nD) = nxt d := Fin.ext (k0_dev49_eq d)
theorem dev50_eq : (⟨k0_dev50 d, k0_dev50_lt d⟩ : Dev nD) = nxt d := Fin.ext (k0_dev50_eq d)
theorem dev51_eq : (⟨k0_dev51 d, k0_dev51_lt d⟩ : Dev nD) = nxt d := Fin.ext (k0_dev51_eq d)
theorem dev52_eq : (⟨k0_dev52 d, k0_dev52_lt d⟩ : Dev nD) = nxt d := Fin.ext (k0_dev52_eq d)
theorem dev53_eq : (⟨k0_dev53 d, k0_dev53_lt d⟩ : Dev nD) = nxt d := Fin.ext (k0_dev53_eq d)
theorem dev54_eq : (⟨k0_dev54 d, k0_dev54_lt d⟩ : Dev nD) = nxt d := Fin.ext (k0_dev54_eq d)
theorem dev55_eq : (⟨k0_dev55 d, k0_dev55_lt d⟩ : Dev nD) = nxt d := Fin.ext (k0_dev55_eq d)
theorem dev56_eq : (⟨k0_dev56 d, k0_dev56_lt d⟩ : Dev nD) = nxt d := Fin.ext (k0_dev56_eq d)
theorem dev57_eq : (⟨k0_dev57 d, k0_dev57_lt d⟩ : Dev nD) = nxt d := Fin.ext (k0_dev57_eq d)
theorem dev58_eq : (⟨k0_dev58 d, k0_dev58_lt d⟩ : Dev nD) = nxt d := Fin.ext (k0_dev58_eq d)
theorem dev59_eq : (⟨k0_dev59 d, k0_dev59_lt d⟩ : Dev nD) = nxt d := Fin.ext (k0_dev59_eq d)
end Devices

/-! ## The body as three runs of like steps -/

/-- A list of steps, then `k`. -/
def runThen {α : Type} (s : α → P F PUnit) : List α → P F PUnit → P F PUnit
  | [], k => k
  | a :: l, k => s a >>= fun _ => runThen s l k

/-- The receive slot of ring step `t`. -/
abbrev par (t : Fin 15) : Fin 2 := ⟨t.val % 2, Nat.mod_lt _ (by decide)⟩

/-- Ring step `t`, with its credits. -/
def ringStep (d : Dev nD) (t : Fin 15) : P F PUnit :=
  (if 2 ≤ t.val then take else pure ⟨⟩) >>= fun _ => core d (nxt d) (nxt d) t (par t) >>= fun _ =>
    if t.val ≤ 12 then give (prv d) else pure ⟨⟩

theorem ringStep_lo (d : Dev nD) (t : Fin 15) (h : ¬ 2 ≤ t.val) (h' : t.val ≤ 12) :
    ringStep (F := F) d t = (core d (nxt d) (nxt d) t (par t) >>= fun _ => give (prv d)) := by
  unfold ringStep; rw [if_neg h, if_pos h', pure_bind]
theorem ringStep_mid (d : Dev nD) (t : Fin 15) (h : 2 ≤ t.val) (h' : t.val ≤ 12) :
    ringStep (F := F) d t = (take >>= fun _ => core d (nxt d) (nxt d) t (par t) >>= fun _ => give (prv d)) := by
  unfold ringStep; rw [if_pos h, if_pos h']
theorem ringStep_hi (d : Dev nD) (t : Fin 15) (h : 2 ≤ t.val) (h' : ¬ t.val ≤ 12) :
    ringStep (F := F) d t = (take >>= fun _ => core d (nxt d) (nxt d) t (par t)) := by
  unfold ringStep; rw [if_pos h, if_neg h', bind_pure_unit]

theorem rest_eq_run (d : Dev nD) : rest (F := F) d =
    runThen (ringStep d) [0, 1, 2, 3, 4, 5, 6, 7, 8, 9, 10, 11, 12, 13, 14]
      (final d >>= fun _ => runThen (fun j => hop d (nxt d) j) [0, 1, 2, 3, 4, 5, 6, 7, 8, 9, 10, 11, 12, 13, 14] (pure ⟨⟩)) := by
  unfold rest
  simp only [dev2_eq d, dev3_eq d, dev4_eq d, dev5_eq d, dev6_eq d, dev7_eq d, dev8_eq d, dev9_eq d, dev10_eq d, dev11_eq d, dev12_eq d, dev13_eq d, dev14_eq d, dev15_eq d, dev16_eq d, dev17_eq d, dev18_eq d, dev19_eq d, dev20_eq d, dev21_eq d, dev22_eq d, dev23_eq d, dev24_eq d, dev25_eq d, dev26_eq d, dev27_eq d, dev28_eq d, dev29_eq d, dev30_eq d, dev31_eq d, dev32_eq d, dev33_eq d, dev34_eq d, dev35_eq d, dev36_eq d, dev37_eq d, dev38_eq d, dev39_eq d, dev40_eq d, dev41_eq d, dev42_eq d, dev43_eq d, dev44_eq d, dev45_eq d, dev46_eq d, dev47_eq d, dev48_eq d, dev49_eq d, dev50_eq d, dev51_eq d, dev52_eq d, dev53_eq d, dev54_eq d, dev55_eq d, dev56_eq d, dev57_eq d, dev58_eq d, dev59_eq d]
  simp only [runThen, bind_pure_unit, ringStep_lo d 0 (by decide) (by decide), ringStep_lo d 1 (by decide) (by decide),
    ringStep_mid d 2 (by decide) (by decide), ringStep_mid d 3 (by decide) (by decide), ringStep_mid d 4 (by decide) (by decide), ringStep_mid d 5 (by decide) (by decide), ringStep_mid d 6 (by decide) (by decide), ringStep_mid d 7 (by decide) (by decide), ringStep_mid d 8 (by decide) (by decide), ringStep_mid d 9 (by decide) (by decide), ringStep_mid d 10 (by decide) (by decide), ringStep_mid d 11 (by decide) (by decide), ringStep_mid d 12 (by decide) (by decide),
    ringStep_hi d 13 (by decide) (by decide), ringStep_hi d 14 (by decide) (by decide), bind_assoc]
  rfl

end Cert.KernelIdeal.Ring
end
end
-- ==== Proof.Contents.lean ====
module

public import proofs.«01_k».proof.Proof.Steps
public import Idealize.ShloMosaic.Lib.WritesUnit

@[expose] public section

noncomputable section

namespace Cert.KernelIdeal.Ring

open Idealize.ShloMosaic Idealize.ShloMosaic.TcCoe Idealize.SL Idealize.SL.Sem
open Cert.KernelIdeal Cert.KernelIdeal.Gen

variable {F : FTy → Type} [FloatOps F]

/-! ## One write of a box of a whole buffer -/

/-- A store of a box of a whole buffer: the payload inside the box, what was there outside. -/
theorem write_box {b : Ref sig .tc} {off size : Fin b.ty.shape.rank → ℕ} (inb : ∀ a, off a + size a ≤ b.ty.shape.size a)
    (f : b.ty.Contents (Elt F)) (w : (Rect.unit off size inb).shape.Idx → Elt F b.ty.elt) (j : b.ty.shape.Idx) :
    ((Memref.whole b).access (Rect.unit off size inb)).write (Elt F) f w Finset.univ j
      = if h : ∀ a, off a ≤ (j a).val ∧ (j a).val < off a + size a then
          w (Rect.unitLocal (s := b.ty.shape) (off := off) (size := size) j h)
        else f j :=
  View.read_writes_cons_unit (View.whole b) f inb w [] j rfl

/-! ## The arguments as the body finds them -/

variable (m : (ℓ : Loc nD τ sig) → Buf (Elt F) ℓ) (c : Dev nD)

def xs : (cc0_stg0_0 : Ref sig .tc).ty.Contents (Elt F) := (win0_0.blk (0 : Fin 1)).view.read (Elt F) (m ((c : Thread nD τ).loc main_arg0))
def wqs : (cc0_stg1_0 : Ref sig .tc).ty.Contents (Elt F) := (win0_1.blk (0 : Fin 1)).view.read (Elt F) (m ((c : Thread nD τ).loc main_arg1))
def wos : (cc0_stg2_0 : Ref sig .tc).ty.Contents (Elt F) := (win0_2.blk (0 : Fin 1)).view.read (Elt F) (m ((c : Thread nD τ).loc main_arg4))
/-- A head's keys and values on device `c`. -/
def kh (h : Fin 8) : (cc0_scratch4 : Ref sig .tc).ty.Contents (Elt F) := (headC kM ![0, 0, h.val, 0] (inbHead h)).view.read (Elt F) (m ((c : Thread nD τ).loc main_arg2))
def vh (h : Fin 8) : (cc0_scratch5 : Ref sig .tc).ty.Contents (Elt F) := (headC vM ![0, 0, h.val, 0] (inbHead h)).view.read (Elt F) (m ((c : Thread nD τ).loc main_arg3))

/-- The rows of `x`, a head's columns of the query weights, its queries. -/
def x12 : FVec F S2048x1024 .f32 := k0_pay81 (xs m c)
def wqh (h : Fin 8) : Vec F S1024x128 .f32 := wqM.view.readAt (Elt F) (Rect.unit (s := S1024x1024) ![0, 128 * h.val] S1024x128.size (inbWq h)).toLoadRect (wqs m c)
def qh (h : Fin 8) : (cc0_scratch6 : Ref sig .tc).ty.Contents (Elt F) := k0_pay82 (x12 m c) (wqh m c h)

theorem inb1 (i : Trip) : ∀ a, (![128 * i.val, 0] : Fin 2 → ℕ) a + S128x128.size a ≤ S2048x128.size a := by revert i; decide +kernel
theorem inb2' (i : Trip) (h : Fin 8) : ∀ a, (![i.val, h.val, 0, 0] : Fin 4 → ℕ) a + S1x1x128x128.size a ≤ S16x8x128x128.size a := by revert i h; decide +kernel
theorem inb3 (i : Trip) (u : Fin 2) (h : Fin 8) : ∀ a, (![i.val, u.val, h.val, 0] : Fin 4 → ℕ) a + S1x1x1x128.size a ≤ S16x2x8x128.size a := by revert i u h; decide +kernel

/-- A query tile, its scores before the mask. -/
def qt (h : Fin 8) (i : Trip) : Vec F S128x128 .f32 := qM.view.readAt (Elt F) (Rect.unit (s := S2048x128) ![128 * i.val, 0] S128x128.size (inb1 i)).toLoadRect (qh m c h)
def lg (h : Fin 8) (i : Trip) : FVec F S128x2048 .f32 := k0_pay1 (kh m c h) (qt m c h i)

/-- What a tile stores: its weighted values, its maxima, its sums. -/
def tC (h : Fin 8) (i : Trip) : Vec F S1x1x128x128 .f32 :=
  k0_pay9 (w2 c) (vh m c h) (lg m c h i) (iota .tc S128x2048 32 [1] iota_S128x2048_d1_w32) (k0_pay2 0#32 1#32 i) 64#32 k0_pay3 k0_pay4 (Scalar.cmpi .sgt 64#32 0#32)
def tM (h : Fin 8) (i : Trip) : Vec F S1x1x1x128 .f32 :=
  k0_pay83 (k0_pay10 (w2 c) (lg m c h i) (iota .tc S128x2048 32 [1] iota_S128x2048_d1_w32) (k0_pay2 0#32 1#32 i) 64#32 k0_pay3 k0_pay4 (Scalar.cmpi .sgt 64#32 0#32))
def tS (h : Fin 8) (i : Trip) : Vec F S1x1x1x128 .f32 :=
  k0_pay84 (k0_pay8 (w2 c) (lg m c h i) (iota .tc S128x2048 32 [1] iota_S128x2048_d1_w32) (k0_pay2 0#32 1#32 i) 64#32 k0_pay3 k0_pay4 (Scalar.cmpi .sgt 64#32 0#32))

theorem trips_eq : k0_t1_loop.trips = 16 := by decide
/-- Query tile `n`. -/
abbrev tr (n : Fin 16) : Trip := Fin.cast trips_eq.symm n

theorem mem2 (j : S16x8x128x128.Idx) : ∀ a : Fin 4, (![(j 0).val, (j 1).val, 0, 0] : Fin 4 → ℕ) a ≤ (j a).val ∧ (j a).val < (![(j 0).val, (j 1).val, 0, 0] : Fin 4 → ℕ) a + S1x1x128x128.size a := by
  intro a
  have h2 := (j 2).isLt
  have h3 := (j 3).isLt
  fin_cases a
  · exact ⟨le_refl _, Nat.lt_succ_self _⟩
  · exact ⟨le_refl _, Nat.lt_succ_self _⟩
  · exact ⟨Nat.zero_le _, by simpa using h2⟩
  · exact ⟨Nat.zero_le _, by simpa using h3⟩
theorem mem3 (j : S16x2x8x128.Idx) : ∀ a : Fin 4, (![(j 0).val, (j 1).val, (j 2).val, 0] : Fin 4 → ℕ) a ≤ (j a).val ∧ (j a).val < (![(j 0).val, (j 1).val, (j 2).val, 0] : Fin 4 → ℕ) a + S1x1x1x128.size a := by
  intro a
  have h3 := (j 3).isLt
  fin_cases a
  · exact ⟨le_refl _, Nat.lt_succ_self _⟩
  · exact ⟨le_refl _, Nat.lt_succ_self _⟩
  · exact ⟨le_refl _, Nat.lt_succ_self _⟩
  · exact ⟨Nat.zero_le _, by simpa using h3⟩

/-- The accumulators after the heads. -/
def ctx0 : (cc0_scratch0 : Ref sig .tc).ty.Contents (Elt F) := fun j : S16x8x128x128.Idx =>
  tC m c (j 1) (tr (j 0)) (Rect.unitLocal (s := S16x8x128x128) (off := ![(j 0).val, (j 1).val, 0, 0]) (size := S1x1x128x128.size) j (mem2 j))
def ms0 : (cc0_scratch1 : Ref sig .tc).ty.Contents (Elt F) := fun j : S16x2x8x128.Idx =>
  (if (j 1).val = 0 then tM m c (j 2) (tr (j 0)) else tS m c (j 2) (tr (j 0)))
    (Rect.unitLocal (s := S16x2x8x128) (off := ![(j 0).val, (j 1).val, (j 2).val, 0]) (size := S1x1x1x128.size) j (mem3 j))

/-! ## One tile's writes -/

/-- The tiles done before tile `i` of head `h`. -/
abbrev before (h i : ℕ) (jh ji : ℕ) : Prop := jh < h ∨ (jh = h ∧ ji < i)

def ctxDone (h i : ℕ) (f : (cc0_scratch0 : Ref sig .tc).ty.Contents (Elt F)) : Prop :=
  ∀ j : S16x8x128x128.Idx, before h i (j 1).val (j 0).val → f j = ctx0 m c j
def msDone (h i : ℕ) (f : (cc0_scratch1 : Ref sig .tc).ty.Contents (Elt F)) : Prop :=
  ∀ j : S16x2x8x128.Idx, before h i (j 2).val (j 0).val → f j = ms0 m c j

abbrev ctxTile (h : Fin 8) (i : Trip) (f : (cc0_scratch0 : Ref sig .tc).ty.Contents (Elt F)) : (cc0_scratch0 : Ref sig .tc).ty.Contents (Elt F) :=
  (ctxM.access (Rect.unit (s := S16x8x128x128) ![i.val, h.val, 0, 0] S1x1x128x128.size (inb2' i h))).write (Elt F) f (tC m c h i) Finset.univ
abbrev msTile (h : Fin 8) (i : Trip) (f : (cc0_scratch1 : Ref sig .tc).ty.Contents (Elt F)) : (cc0_scratch1 : Ref sig .tc).ty.Contents (Elt F) :=
  (msM.access (Rect.unit (s := S16x2x8x128) ![i.val, (1 : Fin 2).val, h.val, 0] S1x1x1x128.size (inb3 i 1 h))).write (Elt F)
    ((msM.access (Rect.unit (s := S16x2x8x128) ![i.val, (0 : Fin 2).val, h.val, 0] S1x1x1x128.size (inb3 i 0 h))).write (Elt F) f (tM m c h i) Finset.univ)
    (tS m c h i) Finset.univ

theorem ctxDone_tile (h : Fin 8) (i : Trip) {f} (H : ctxDone m c h.val i.val f) : ctxDone m c h.val (i.val + 1) (ctxTile m c h i f) := by
  intro j hj
  unfold ctxTile
  refine (write_box (b := cc0_scratch0) (inb2' i h) f (tC m c h i) j).trans ?_
  split
  · rename_i hin
    have e0 : (j 0).val = i.val := by have := hin 0; simp at this; omega
    have e1 : (j 1).val = h.val := by have := hin 1; simp at this; omega
    obtain rfl : h = j 1 := Fin.ext e1.symm
    obtain rfl : i = tr (j 0) := Fin.ext e0.symm
    rfl
  · rename_i hin
    refine H j ?_
    rcases hj with hj | ⟨h1, h2⟩
    · exact .inl hj
    · refine .inr ⟨h1, ?_⟩
      by_contra hn
      have e0 : i.val = (j 0).val := by omega
      apply hin
      have := mem2 j
      rw [← e0, h1] at this
      exact this

theorem msDone_tile (h : Fin 8) (i : Trip) {f} (H : msDone m c h.val i.val f) : msDone m c h.val (i.val + 1) (msTile m c h i f) := by
  intro j hj
  unfold msTile
  refine (write_box (b := cc0_scratch1) (inb3 i 1 h) _ (tS m c h i) j).trans ?_
  split
  · rename_i hin
    have e0 : (j 0).val = i.val := by have := hin 0; simp at this; omega
    have e1 : (j 1).val = 1 := by have := hin 1; simp at this; omega
    have e2 : (j 2).val = h.val := by have := hin 2; simp at this; omega
    obtain rfl : h = j 2 := Fin.ext e2.symm
    obtain rfl : i = tr (j 0) := Fin.ext e0.symm
    unfold ms0
    rw [if_neg (by omega)]
    refine congrArg (tS m c (j 2) (tr (j 0))) (funext fun a => Fin.ext ?_)
    fin_cases a <;> simp [Rect.unitLocal_val, e1] <;> omega
  · rename_i hin
    refine (write_box (b := cc0_scratch1) (inb3 i 0 h) f (tM m c h i) j).trans ?_
    split
    · rename_i hin
      have e0 : (j 0).val = i.val := by have := hin 0; simp at this; omega
      have e1 : (j 1).val = 0 := by have := hin 1; simp at this; omega
      have e2 : (j 2).val = h.val := by have := hin 2; simp at this; omega
      obtain rfl : h = j 2 := Fin.ext e2.symm
      obtain rfl : i = tr (j 0) := Fin.ext e0.symm
      unfold ms0
      rw [if_pos e1]
      refine congrArg (tM m c (j 2) (tr (j 0))) (funext fun a => Fin.ext ?_)
      fin_cases a <;> simp [Rect.unitLocal_val, e1] <;> omega
    · rename_i hin'
      refine H j ?_
      rcases hj with hj | ⟨h1, h2⟩
      · exact .inl hj
      · refine .inr ⟨h1, ?_⟩
        by_contra hn
        have e0 : i.val = (j 0).val := by omega
        have := mem3 j
        rw [← e0, h1] at this
        have hu : (j 1).val = 0 ∨ (j 1).val = 1 := by have : (j 1).val < 2 := (j 1).isLt; omega
        rcases hu with hu | hu
        · apply hin'; rw [hu] at this; exact this
        · apply hin; rw [hu] at this; exact this

theorem ctxDone_next {h : ℕ} {f} (H : ctxDone m c h 16 f) : ctxDone m c (h + 1) 0 f := fun j hj => H j (by
  have : (j 0).val < 16 := (j 0).isLt
  rcases hj with hj | ⟨_, hj⟩
  · rcases Nat.lt_succ_iff_lt_or_eq.mp hj with hj | hj
    · exact .inl hj
    · exact .inr ⟨hj, this⟩
  · exact absurd hj (Nat.not_lt_zero _))
theorem msDone_next {h : ℕ} {f} (H : msDone m c h 16 f) : msDone m c (h + 1) 0 f := fun j hj => H j (by
  have : (j 0).val < 16 := (j 0).isLt
  rcases hj with hj | ⟨_, hj⟩
  · rcases Nat.lt_succ_iff_lt_or_eq.mp hj with hj | hj
    · exact .inl hj
    · exact .inr ⟨hj, this⟩
  · exact absurd hj (Nat.not_lt_zero _))
theorem ctxDone_zero (f) : ctxDone m c 0 0 f := fun j hj => absurd hj (by simp [before])
theorem msDone_zero (f) : msDone m c 0 0 f := fun j hj => absurd hj (by simp [before])
theorem ctxDone_all {f} (H : ctxDone m c 8 0 f) : f = ctx0 m c := funext fun j => H j (.inl (show (j (1 : Fin 4)).val < 8 from (j (1 : Fin 4)).isLt))
theorem msDone_all {f} (H : msDone m c 8 0 f) : f = ms0 m c := funext fun j => H j (.inl (show (j (2 : Fin 4)).val < 8 from (j (2 : Fin 4)).isLt))

/-! ## The ring's chunks and the merges -/

theorem inbC (s : Fin 16) : ∀ a, (![s.val, 0, 0, 0] : Fin 4 → ℕ) a + S1x8x128x128.size a ≤ S16x8x128x128.size a := by revert s; decide
theorem inbM (s : Fin 16) : ∀ a, (![s.val, 0, 0, 0] : Fin 4 → ℕ) a + S1x2x8x128.size a ≤ S16x2x8x128.size a := by revert s; decide
theorem inbM1 (s : Fin 16) (u : Fin 2) : ∀ a, (![s.val, u.val, 0, 0] : Fin 4 → ℕ) a + S1x1x8x128.size a ≤ S16x2x8x128.size a := by revert s u; decide
theorem inbO (s : Fin 16) : ∀ a, (![0, 128 * s.val, 0] : Fin 3 → ℕ) a + S1x128x1024.size a ≤ S1x2048x1024.size a := by revert s; decide

set_option backward.proofsInPublic true in
/-- The chunk device `c` sends at ring step `t`. -/
def sChunk (t : Fin 15) : Fin 16 := ⟨((c.val + 16) - t.val) % 16, Nat.mod_lt _ (by decide)⟩
set_option backward.proofsInPublic true in
/-- The chunk device `c` merges into at ring step `t`. -/
def rChunk (t : Fin 15) : Fin 16 := ⟨((c.val + 15) - t.val) % 16, Nat.mod_lt _ (by decide)⟩
theorem sChunk_prv (t : Fin 15) : sChunk (prv c) t = rChunk c t := by revert c t; decide

/-- A chunk of the accumulators as the loads read it. -/
def rdC (s : Fin 16) (f : (cc0_scratch0 : Ref sig .tc).ty.Contents (Elt F)) : Vec F S1x8x128x128 .f32 :=
  ctxM.view.readAt (Elt F) (Rect.unit (s := S16x8x128x128) ![s.val, 0, 0, 0] S1x8x128x128.size (inbC s)).toLoadRect f
def rdM (s : Fin 16) (u : Fin 2) (f : (cc0_scratch1 : Ref sig .tc).ty.Contents (Elt F)) : Vec F S1x1x8x128 .f32 :=
  msM.view.readAt (Elt F) (Rect.unit (s := S16x2x8x128) ![s.val, u.val, 0, 0] S1x1x8x128.size (inbM1 s u)).toLoadRect f
def wrC (s : Fin 16) (f : (cc0_scratch0 : Ref sig .tc).ty.Contents (Elt F)) (w : Vec F S1x8x128x128 .f32) : (cc0_scratch0 : Ref sig .tc).ty.Contents (Elt F) :=
  (ctxM.access (Rect.unit (s := S16x8x128x128) ![s.val, 0, 0, 0] S1x8x128x128.size (inbC s))).write (Elt F) f w Finset.univ
def wrM (s : Fin 16) (u : Fin 2) (f : (cc0_scratch1 : Ref sig .tc).ty.Contents (Elt F)) (w : Vec F S1x1x8x128 .f32) : (cc0_scratch1 : Ref sig .tc).ty.Contents (Elt F) :=
  (msM.access (Rect.unit (s := S16x2x8x128) ![s.val, u.val, 0, 0] S1x1x8x128.size (inbM1 s u))).write (Elt F) f w Finset.univ

/-- The merge into chunk `s` of what a neighbour holding `fr`, `gr` sent of it. -/
def mergeC (s : Fin 16) (f : (cc0_scratch0 : Ref sig .tc).ty.Contents (Elt F)) (g : (cc0_scratch1 : Ref sig .tc).ty.Contents (Elt F))
    (cr : Vec F S1x8x128x128 .f32) (mr : Vec F S1x1x8x128 .f32) : (cc0_scratch0 : Ref sig .tc).ty.Contents (Elt F) :=
  wrC s f (k0_pay114 (k0_pay109 (rdM s 0 g) mr) (k0_pay110 (rdM s 0 g) mr) (rdC s f) cr)
def mergeM (s : Fin 16) (g : (cc0_scratch1 : Ref sig .tc).ty.Contents (Elt F))
    (mr sr : Vec F S1x1x8x128 .f32) : (cc0_scratch1 : Ref sig .tc).ty.Contents (Elt F) :=
  wrM s 1 (wrM s 0 g (k0_pay111 (rdM s 0 g) mr)) (k0_pay113 (k0_pay112 (rdM s 0 g) (rdM s 1 g) mr sr))

/-- The accumulators of device `c` after `t` ring steps. -/
def acc : ℕ → Dev nD → (cc0_scratch0 : Ref sig .tc).ty.Contents (Elt F) × (cc0_scratch1 : Ref sig .tc).ty.Contents (Elt F)
  | 0, c => (ctx0 m c, ms0 m c)
  | t + 1, c =>
    let s : Fin 16 := if h : t < 15 then rChunk c ⟨t, h⟩ else 0
    let a := acc t c
    let b := acc t (prv c)
    (mergeC s a.1 a.2 (rdC s b.1) (rdM s 0 b.2), mergeM s a.2 (rdM s 0 b.2) (rdM s 1 b.2))

def accC (t : ℕ) (c : Dev nD) := (acc m t c).1
def accM (t : ℕ) (c : Dev nD) := (acc m t c).2

theorem accC_succ (t : Fin 15) : accC m (t.val + 1) c = mergeC (rChunk c t) (accC m t.val c) (accM m t.val c)
    (rdC (rChunk c t) (accC m t.val (prv c))) (rdM (rChunk c t) 0 (accM m t.val (prv c))) := by
  unfold accC accM
  rw [acc.eq_2]
  simp only [t.isLt, dif_pos, Fin.eta]
theorem accM_succ (t : Fin 15) : accM m (t.val + 1) c = mergeM (rChunk c t) (accM m t.val c)
    (rdM (rChunk c t) 0 (accM m t.val (prv c))) (rdM (rChunk c t) 1 (accM m t.val (prv c))) := by
  unfold accM
  rw [acc.eq_2]
  simp only [t.isLt, dif_pos, Fin.eta]

/-! ## The result -/

/-- A head's rows of the output weights. -/
def woh (h : Fin 8) : Vec F S128x1024 .f32 := woM.view.readAt (Elt F) (Rect.unit (s := S1024x1024) ![128 * h.val, 0] S128x1024.size (inbWo h)).toLoadRect (wos m c)
/-- What device `c` stores of the result: the rows of chunk `c + 1`. -/
def ownOut : Vec F S1x128x1024 .f32 :=
  let s := rdM (nxt c) 1 (accM m 15 c)
  let a := rdC (nxt c) (accC m 15 c)
  k0_pay254 (k0_pay252 (k0_pay251 s) a) (k0_pay253 (k0_pay251 s) a (woh m c 0) (woh m c 1) (woh m c 2) (woh m c 3) (woh m c 4) (woh m c 5)) (woh m c 6) (woh m c 7)

/-- The slice of the result row `r` lies in. -/
def sliceOf (j : S1x2048x1024.Idx) : Fin 16 := ⟨(j 1).val / 128, by have : (j 1).val < 2048 := (j 1).isLt; omega⟩
theorem mem4 (j : S1x2048x1024.Idx) : ∀ a : Fin 3, (![0, 128 * (sliceOf j).val, 0] : Fin 3 → ℕ) a ≤ (j a).val ∧ (j a).val < (![0, 128 * (sliceOf j).val, 0] : Fin 3 → ℕ) a + S1x128x1024.size a := by
  intro a
  have h0 := (j 0).isLt
  have h2 := (j 2).isLt
  have e : (sliceOf j).val = (j 1).val / 128 := rfl
  fin_cases a
  · exact ⟨Nat.zero_le _, by simpa using h0⟩
  · constructor
    · show 128 * (sliceOf j).val ≤ (j 1).val
      omega
    · show (j 1).val < 128 * (sliceOf j).val + 128
      omega
  · exact ⟨Nat.zero_le _, by simpa using h2⟩
/-- The whole result, the same on every device: slice `s` is what device `s - 1` stored. -/
def outF : (cc0_stg3_0 : Ref sig .tc).ty.Contents (Elt F) := fun j : S1x2048x1024.Idx =>
  ownOut m (prv (sliceOf j)) (Rect.unitLocal (s := S1x2048x1024) (off := ![0, 128 * (sliceOf j).val, 0]) (size := S1x128x1024.size) j (mem4 j))

theorem outF_own (f : (cc0_stg3_0 : Ref sig .tc).ty.Contents (Elt F)) (j : S1x2048x1024.Idx)
    (hj : ∀ a : Fin 3, (![0, 128 * (nxt c).val, 0] : Fin 3 → ℕ) a ≤ (j a).val ∧ (j a).val < (![0, 128 * (nxt c).val, 0] : Fin 3 → ℕ) a + S1x128x1024.size a) :
    (outM.access (Rect.unit (s := S1x2048x1024) ![0, 128 * (nxt c).val, 0] S1x128x1024.size (inbO (nxt c)))).write (Elt F) f (ownOut m c) Finset.univ j = outF m j := by
  refine (write_box (b := cc0_stg3_0) (inbO (nxt c)) f (ownOut m c) j).trans ?_
  refine (dif_pos hj).trans ?_
  have e : nxt c = sliceOf j := Fin.ext (by
    have := hj 1
    simp at this
    show _ = (j 1).val / 128
    omega)
  obtain rfl : c = prv (sliceOf j) := by rw [← e, prv_nxt]
  unfold outF
  refine congrArg (ownOut m (prv (sliceOf j))) (funext fun a => Fin.ext ?_)
  simp only [Rect.unitLocal_val, e]

end Cert.KernelIdeal.Ring
end
end
-- ==== Proof.Proto.lean ====
module

public import proofs.«01_k».proof.Proof.Contents

@[expose] public section

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The ghost algebra

The pipeline's rounds, the ring's rounds, the receive slots' release counts, the local copies' counters. -/

abbrev UB : Type := URounds (GSem nD τ sig) ℕ
abbrev US : Type := USlots (Dev nD × Fin 2)
abbrev UU : Type := UR sig nD τ × (UB × (US × Counters))

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × (US × Counters))).trans embR
abbrev ES : Emb US (MT nD τ sig ℕ (Elt F) ℕ UU ℕ) := ((Emb.inl : Emb US (US × Counters)).trans (Emb.inr : Emb (US × Counters) (UB × (US × Counters)))).trans embR
abbrev EC : UEmb Counters (MT nD τ sig ℕ (Elt F) ℕ UU ℕ) := countersEmb

/-! ## The cells -/

/-- The ring's cells on a device: six rows of fifteen, the barrier, the credits. -/
abbrev CK : Type := (Fin 6 × Fin 15) ⊕ Fin 2
abbrev kx (a : Fin 6) (t : Fin 15) : CK := .inl (a, t)
abbrev kbar : CK := .inr 0
abbrev kcr : CK := .inr 1

def row : Fin 6 → DmaSems sig S15 := ![cc0_scratch8, cc0_scratch9, cc0_scratch10, cc0_scratch11, cc0_scratch12, cc0_scratch13]
theorem sem15_val : ∀ a t, (sem15 (row a) t).val = 6 + 15 * a.val + t.val := by decide +kernel

abbrev barS : Sem sig := (SemArray.scalar (sig.barrier 0 rfl) : Sems sig S_).sem
abbrev crS : Sem sig := cc0_scratch14.sem
theorem barS_val : barS.val = 1 := by decide
theorem crS_val : crS.val = 0 := by decide

def csem : CK → SemLoc sig
  | .inl (a, t) => .dma (sem15 (row a) t)
  | .inr u => if u = 0 then .reg barS else .reg crS

set_option backward.proofsInPublic true in
/-- Which of the ring's cells a semaphore is. -/
def kindOf : SemLoc sig → Option CK
  | .dma q => if h : 6 ≤ q.val ∧ q.val < 96 then
      some (.inl (⟨(q.val - 6) / 15, by omega⟩, ⟨(q.val - 6) % 15, Nat.mod_lt _ (by decide)⟩)) else none
  | .reg s => if s.val = 1 then some (.inr 0) else if s.val = 0 then some (.inr 1) else none

theorem kindOf_csem (k : CK) : kindOf (csem k) = some k := by
  rcases k with ⟨a, t⟩ | u
  · have hv := sem15_val a t
    unfold csem kindOf
    dsimp only
    rw [dif_pos (by omega)]
    congr 3
    · exact Fin.ext (by simp only [hv]; omega)
    · exact Fin.ext (by simp only [hv]; omega)
  · obtain rfl | rfl : u = 0 ∨ u = 1 := by revert u; decide
    · show kindOf (.reg barS) = _
      unfold kindOf; dsimp only; rw [if_pos barS_val]
    · show kindOf (.reg crS) = _
      unfold kindOf; dsimp only; rw [if_neg (by rw [crS_val]; decide), if_pos crS_val]

theorem csem_injective : Function.Injective csem := fun k k' h => by
  have := congrArg kindOf h
  rw [kindOf_csem, kindOf_csem] at this
  exact Option.some.inj this

abbrev cell (c : Dev nD) (k : CK) : GSem nD τ sig := ((c : Thread nD τ), csem k)
theorem cell_inj {c c' : Dev nD} {k k' : CK} (h : cell c k = cell c' k') : c = c' ∧ k = k' :=
  ⟨congrArg (fun g : GSem nD τ sig => g.1.1) h, csem_injective (congrArg Prod.snd h)⟩

/-! ## The credits of the copies -/

abbrev NC : ℕ := (ctxS 0).view.dmaCredit
abbrev NM : ℕ := (msS 0).view.dmaCredit
abbrev NO : ℕ := (outC ![0, 128 * (0 : Fin 16).val, 0] (inbO 0)).view.dmaCredit
theorem NC_pos : 0 < NC := View.dmaCredit_pos _ (by decide)
theorem NM_pos : 0 < NM := View.dmaCredit_pos _ (by decide)
theorem NO_pos : 0 < NO := View.dmaCredit_pos _ (by decide)

def amt : CK → ℕ
  | .inl (a, _) => if a.val < 2 then NC else if a.val < 4 then NM else NO
  | .inr _ => 1
theorem amt_pos (k : CK) : 0 < amt k := by
  rcases k with ⟨a, t⟩ | u
  · unfold amt; dsimp only; split; exact NC_pos; split; exact NM_pos; exact NO_pos
  · exact Nat.one_pos

/-! ## What the cells hand over -/

variable (m : (ℓ : Loc nD τ sig) → Buf (Elt F) ℓ)

def ctxPts (c : Dev nD) (s : Fin 16) (f : (cc0_scratch0 : Ref sig .tc).ty.Contents (Elt F)) : sProp 𝕄 :=
  (ctxC ![s.val, 0, 0, 0] (inbC s)).view.loc (c : Thread nD τ) ↦[(ctxC ![s.val, 0, 0, 0] (inbC s)).view.set]{fullShare} f
def msPts (c : Dev nD) (s : Fin 16) (f : (cc0_scratch1 : Ref sig .tc).ty.Contents (Elt F)) : sProp 𝕄 :=
  (msC ![s.val, 0, 0, 0] (inbM s)).view.loc (c : Thread nD τ) ↦[(msC ![s.val, 0, 0, 0] (inbM s)).view.set]{fullShare} f
def ctxSlot (c : Dev nD) (p : Fin 2) (f : (cc0_scratch2 : Ref sig .tc).ty.Contents (Elt F)) : sProp 𝕄 :=
  (ctxS p).view.loc (c : Thread nD τ) ↦[(ctxS p).view.set]{fullShare} f
def msSlot (c : Dev nD) (p : Fin 2) (f : (cc0_scratch3 : Ref sig .tc).ty.Contents (Elt F)) : sProp 𝕄 :=
  (msS p).view.loc (c : Thread nD τ) ↦[(msS p).view.set]{fullShare} f
def outPts (c : Dev nD) (s : Fin 16) (f : (cc0_stg3_0 : Ref sig .tc).ty.Contents (Elt F)) : sProp 𝕄 :=
  (outC ![0, 128 * s.val, 0] (inbO s)).view.loc (c : Thread nD τ) ↦[(outC ![0, 128 * s.val, 0] (inbO s)).view.set]{fullShare} f

instance ctxPts_storable (c s f) : Storable (upEmb : UEmb _ 𝕄) (ctxPts (F := F) c s f) := by unfold ctxPts; infer_instance
instance msPts_storable (c s f) : Storable (upEmb : UEmb _ 𝕄) (msPts (F := F) c s f) := by unfold msPts; infer_instance
instance ctxSlot_storable (c p f) : Storable (upEmb : UEmb _ 𝕄) (ctxSlot (F := F) c p f) := by unfold ctxSlot; infer_instance
instance msSlot_storable (c p f) : Storable (upEmb : UEmb _ 𝕄) (msSlot (F := F) c p f) := by unfold msSlot; infer_instance
instance outPts_storable (c s f) : Storable (upEmb : UEmb _ 𝕄) (outPts (F := F) c s f) := by unfold outPts; infer_instance

/-- The two halves of receive slot `p` of a device, at any contents. -/
def slotAny (k : Dev nD × Fin 2) : sProp 𝕄 := iprop((∃ f, ctxSlot k.1 k.2 f) ∗ ∃ g, msSlot k.1 k.2 g)
instance slotAny_storable (k) : Storable (upEmb : UEmb _ 𝕄) (slotAny (F := F) k) := by unfold slotAny; infer_instance

/-- The slice of the result device `c` sends at hop `n`; the one it receives. -/
abbrev oChunk (c : Dev nD) (n : Fin 15) : Fin 16 := sChunk (nxt c) n

/-- The handshake from the right neighbour: its two receive slots are free, and fifteen slices of its result. -/
def barPay (c : Dev nD) : sProp 𝕄 :=
  iprop(released ES (nxt c, 0) 1 ∗ released ES (nxt c, 1) 1 ∗ bigSep Finset.univ fun n : Fin 15 => iprop(∃ f, outPts (nxt c) (oChunk c n) f))
/-- The credit the right neighbour gives after its ring step `j`. -/
def crPay (c : Dev nD) (j : ℕ) : sProp 𝕄 :=
  iprop(released ES (nxt c, (⟨j % 2, Nat.mod_lt _ (by decide)⟩ : Fin 2)) (j / 2 + 2)
    ∗ released ES (nxt c, (⟨(j + 1) % 2, Nat.mod_lt _ (by decide)⟩ : Fin 2)) ((j + 1) / 2 + 1))
instance crPay_persistent (c j) : BI.Persistent (crPay (F := F) c j) := by unfold crPay; infer_instance

def sendC (c : Dev nD) (t : Fin 15) : sProp 𝕄 := ctxPts c (sChunk c t) (accC m t.val c)
def sendM (c : Dev nD) (t : Fin 15) : sProp 𝕄 := msPts c (sChunk c t) (accM m t.val c)
/-- What arrives in a receive slot at ring step `t`: the left neighbour's chunk. -/
def recvC (c : Dev nD) (t : Fin 15) : sProp 𝕄 :=
  iprop(∃ f, ⌜(ctxS (par t)).view.read (Elt F) f = (ctxC ![(rChunk c t).val, 0, 0, 0] (inbC (rChunk c t))).view.read (Elt F) (accC m t.val (prv c))⌝ ∗ ctxSlot c (par t) f)
def recvM (c : Dev nD) (t : Fin 15) : sProp 𝕄 :=
  iprop(∃ f, ⌜(msS (par t)).view.read (Elt F) f = (msC ![(rChunk c t).val, 0, 0, 0] (inbM (rChunk c t))).view.read (Elt F) (accM m t.val (prv c))⌝ ∗ msSlot c (par t) f)
def sendO (c : Dev nD) (n : Fin 15) : sProp 𝕄 := outPts c (oChunk c n) (outF m)
def recvO (c : Dev nD) (n : Fin 15) : sProp 𝕄 := outPts c (oChunk (prv c) n) (outF m)

def pay (k : CK) (c : Dev nD) (d : ℕ) : sProp 𝕄 :=
  match k with
  | .inl (a, t) =>
    if a = 0 then sendC m c t else if a = 1 then recvC m c t else if a = 2 then sendM m c t else if a = 3 then recvM m c t
    else if a = 4 then sendO m c t else recvO m c t
  | .inr u => if u = 0 then barPay c else crPay c d

instance pay_storable (k : CK) (c : Dev nD) (d : ℕ) : Storable (upEmb : UEmb _ 𝕄) (pay (F := F) m k c d) := by
  rcases k with ⟨a, t⟩ | u
  · unfold pay sendC recvC sendM recvM sendO recvO
    dsimp only
    (repeat' split) <;> infer_instance
  · unfold pay barPay crPay
    dsimp only
    (repeat' split) <;> infer_instance

/-! ## The schedule -/

/-- The duties of a cell: one, but thirteen credits. -/
def dut : CK → Finset ℕ
  | .inl _ => {0}
  | .inr u => if u = 0 then {0} else Finset.range 13

def Rd : Rounds.Schedule (GSem nD τ sig) ℕ 𝕄 where
  duties g r := if r = 0 ∧ g.1.2 = .tc then (match kindOf g.2 with | some k => dut k | none => ∅) else ∅
  unitless _ := False
  amount g _ _ := match kindOf g.2 with | some k => amt k | none => 1
  payload g _ d := match kindOf g.2 with | some k => pay m k g.1.1 d | none => iprop(emp)
  amount_pos g _ _ _ := by
    cases kindOf g.2 with
    | none => exact Nat.one_pos
    | some k => exact amt_pos k

instance Rd_payload_storable (g : GSem nD τ sig) (r : ℕ) (d : ℕ) : Storable (upEmb : UEmb _ 𝕄) ((Rd (F := F) m).payload g r d) := by
  show Storable upEmb (match kindOf g.2 with | some k => pay m k g.1.1 d | none => iprop(emp))
  cases kindOf g.2 with
  | none => dsimp only; infer_instance
  | some k => dsimp only; infer_instance

variable (c : Dev nD) (k : CK)

theorem duties_cell : (Rd (F := F) m).duties (cell c k) 0 = dut k := by
  dsimp only [Rd]; rw [if_pos ⟨rfl, rfl⟩, kindOf_csem]
theorem duties_later (g : GSem nD τ sig) : ∀ r, 1 ≤ r → (Rd (F := F) m).duties g r = ∅ := fun r hr => by
  dsimp only [Rd]; exact if_neg fun h => by omega
theorem amount_cell (r d : ℕ) : (Rd (F := F) m).amount (cell c k) r d = amt k := by
  dsimp only [Rd]; rw [kindOf_csem]
theorem payload_cell (r d : ℕ) : (Rd (F := F) m).payload (cell c k) r d = pay m k c d := by
  dsimp only [Rd]; rw [kindOf_csem]
theorem expect_cell : (Rd (F := F) m).expect (cell c k) 0 = (dut k).card * amt k := by
  unfold Schedule.expect Schedule.amountOf
  rw [duties_cell, Finset.sum_congr rfl fun d _ => amount_cell m c k 0 d, Finset.sum_const, smul_eq_mul]
theorem rest_cell (h : dut k = {0}) : bigSep ((Rd (F := F) m).duties (cell c k) 0 \ ∅) (fun d => (Rd (F := F) m).payload (cell c k) 0 d) = pay m k c 0 := by
  rw [Finset.sdiff_empty, duties_cell, h, bigSep_singleton, payload_cell]

/-! ## Levels, and what is owed -/

def L (g : GSem nD τ sig) : Finset ℕ := if g.1.2 = .tc then Finset.range 13 else ∅
def lvk : CK → ℕ → ℕ
  | .inl (a, t), _ => if a = 1 ∨ a = 3 then 2 + 2 * t.val else if a = 5 then 100 + t.val else 0
  | .inr u, ι => if u = 0 then 1 else 2 * ι + 3
def lv (g : GSem nD τ sig) (ι : ℕ) : ℕ := match kindOf g.2 with | some k => lvk k ι | none => 0

theorem L_of_ne (g : GSem nD τ sig) (h : g.1.2 ≠ .tc) : L g = ∅ := if_neg h
theorem lv_cell (ι : ℕ) : lv (cell c k) ι = lvk k ι := by unfold lv; dsimp only; rw [kindOf_csem]

/-- Everything `O` owes is owed above level `b`. -/
def Above (b : ℕ) (O : CellTallies nD τ sig ℕ) : Prop := ∀ g ι, 0 < O g ι → g.1.2 = .tc ∧ ι < 13 ∧ b < lv g ι

theorem Above.zero (b : ℕ) : Above b 0 := fun g ι h => absurd h (Nat.lt_irrefl 0)
theorem Above.add {b : ℕ} {O O' : CellTallies nD τ sig ℕ} (h : Above b O) (h' : Above b O') : Above b (O + O') := fun g ι hp => by
  rw [Pi.add_apply, Finsupp.add_apply] at hp
  rcases Nat.eq_zero_or_pos (O g ι) with h0 | h0
  · exact h' g ι (by omega)
  · exact h g ι h0
theorem Above.tally {b : ℕ} {ι n : ℕ} (hι : ι < 13) (hb : b < lvk k ι) : Above b (tallyAt (cell c k) ι n) := fun g ι' hp => by
  rw [tallyAt_apply] at hp
  split at hp
  · rename_i h; obtain ⟨rfl, rfl⟩ := h
    exact ⟨rfl, hι, by rw [lv_cell]; exact hb⟩
  · exact absurd hp (Nat.lt_irrefl 0)
theorem Above.sum {b : ℕ} {I : Type} [DecidableEq I] {s : Finset I} {O : I → CellTallies nD τ sig ℕ} (h : ∀ i ∈ s, Above b (O i)) : Above b (∑ i ∈ s, O i) := by
  induction s using Finset.induction_on with
  | empty => rw [Finset.sum_empty]; exact Above.zero b
  | insert a s ha ih =>
    rw [Finset.sum_insert ha]
    exact (h a (Finset.mem_insert_self _ _)).add (ih fun i hi => h i (Finset.mem_insert_of_mem hi))

theorem Above.mono {b b' : ℕ} (hb : b' ≤ b) {O : CellTallies nD τ sig ℕ} (h : Above b O) : Above b' O := fun g ι hp =>
  ⟨(h g ι hp).1, (h g ι hp).2.1, lt_of_le_of_lt hb (h g ι hp).2.2⟩

theorem mayWait (sm : SemLoc sig) (ι : ℕ) (hι : ι < 13) {O : CellTallies nD τ sig ℕ} (h : Above (lv ((c : Thread nD τ), sm) ι) O) :
    (levAts L lv : sProp 𝕄) ⊢ MayWait (c : Thread nD τ) sm ι O :=
  MayOwe.of_cut (L := L) (lev := lv) (lv ((c : Thread nD τ), sm) ι)
    (fun p hp => by rw [Finset.mem_singleton.mp hp]; unfold L; rw [if_pos rfl]; exact Finset.mem_range.mpr hι)
    (fun g u hg => by unfold L; rw [if_pos (h g u hg).1]; exact Finset.mem_range.mpr (h g u hg).2.1)
    (fun p hp => by rw [Finset.mem_singleton.mp hp])
    (fun g u hg => (h g u hg).2.2)

/-- The steps from the `n`-th on; those before it. -/
def fr (n : ℕ) : Finset (Fin 15) := Finset.univ.filter fun t => n ≤ t.val
def til (n : ℕ) : Finset (Fin 15) := Finset.univ.filter fun t => t.val < n
theorem fr_zero : fr 0 = Finset.univ := by decide
theorem fr_end : fr 15 = ∅ := by decide
theorem til_zero : til 0 = ∅ := by decide
theorem til_end : til 15 = Finset.univ := by decide
theorem fr_succ (t : Fin 15) : fr t.val = insert t (fr (t.val + 1)) := by revert t; decide
theorem fr_notMem (t : Fin 15) : t ∉ fr (t.val + 1) := by revert t; decide
theorem til_succ (t : Fin 15) : til (t.val + 1) = insert t (til t.val) := by revert t; decide
theorem til_notMem (t : Fin 15) : t ∉ til t.val := by revert t; decide
theorem mem_fr {n : ℕ} {t : Fin 15} : t ∈ fr n ↔ n ≤ t.val := by simp [fr]

/-- What device `c` owes for ring step `t`: the two copies into its right neighbour, the credit to its left one. -/
def Ocr (t : Fin 15) : CellTallies nD τ sig ℕ := if t.val ≤ 12 then tallyAt (cell (prv c) kcr) t.val 1 else 0
def Ost (t : Fin 15) : CellTallies nD τ sig ℕ := Ocr c t + tallyAt (cell (nxt c) (kx 3 t)) 0 NM + tallyAt (cell (nxt c) (kx 1 t)) 0 NC
def Oag (n : ℕ) : CellTallies nD τ sig ℕ := ∑ t ∈ fr n, tallyAt (cell (nxt c) (kx 5 t)) 0 NO
def Orun (n : ℕ) : CellTallies nD τ sig ℕ := Oag c 0 + ∑ t ∈ fr n, Ost c t
def O₀ : CellTallies nD τ sig ℕ := Orun c 0 + tallyAt (cell (prv c) kbar) 0 1

theorem Oag_succ (t : Fin 15) : Oag c t.val = Oag c (t.val + 1) + tallyAt (cell (nxt c) (kx 5 t)) 0 NO := by
  unfold Oag; rw [fr_succ, Finset.sum_insert (fr_notMem t), add_comm]
theorem Oag_end : Oag c 15 = 0 := by unfold Oag; rw [fr_end, Finset.sum_empty]
theorem Orun_succ (t : Fin 15) : Orun c t.val = Orun c (t.val + 1) + Ost c t := by
  unfold Orun; rw [fr_succ, Finset.sum_insert (fr_notMem t), add_comm (Ost c t), ← add_assoc]
theorem Orun_end : Orun c 15 = Oag c 0 := by unfold Orun; rw [fr_end, Finset.sum_empty, add_zero]

theorem Above_Oag {b n : ℕ} (h : b < 100 + n) : Above b (Oag c n) :=
  Above.sum fun t ht => Above.tally _ _ (by decide) (by have := mem_fr.mp ht; show b < 100 + t.val; omega)
theorem Above_Ocr {b : ℕ} (t : Fin 15) (h : b < 2 * t.val + 3) : Above b (Ocr c t) := by
  unfold Ocr; split
  · exact Above.tally _ _ (by omega) (by show b < 2 * t.val + 3; exact h)
  · exact Above.zero b
theorem Above_Ost {b : ℕ} (t : Fin 15) (h : b < 2 + 2 * t.val) : Above b (Ost c t) :=
  ((Above_Ocr c t (by omega)).add (Above.tally _ _ (by decide) (by show b < 2 + 2 * t.val; exact h))).add
    (Above.tally _ _ (by decide) (by show b < 2 + 2 * t.val; exact h))
theorem Above_Orun {b n : ℕ} (h : b < 2 + 2 * n) (hb : b < 100) : Above b (Orun c n) :=
  (Above_Oag c (by omega)).add (Above.sum fun t ht => Above_Ost c t (by have := mem_fr.mp ht; omega))
theorem Above_O₀ : Above 0 (O₀ c) := (Above_Orun c (by decide) (by decide)).add (Above.tally _ _ (by decide) (by decide))

end Cert.KernelIdeal.Ring
end
end
-- ==== Proof.Rules.lean ====
module

public import proofs.«01_k».proof.Proof.Proto

@[expose] public section

set_option maxRecDepth 8000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

abbrev 𝒱₀ : Variants := Variants.none

/-- The weakest precondition of a piece of device `c`'s body. -/
abbrev wpc (c : Dev nD) {α : Type} (e : P F α) (Q : α → sProp 𝕄) : sProp 𝕄 :=
  wp frame (wpE (defs₀ (F := F)) 𝒱₀ (c : Thread nD τ) none) Set.univ e Q

variable (m : (ℓ : Loc nD τ sig) → Buf (Elt F) ℓ)

/-! ## What every device knows -/

/-- The invariants of all cells and slots, at the names the launch gave them; every cell is at its round; the levels. -/
def env (K : Dev nD × CK → ℕ) (J : Dev nD × Fin 2 → ℕ) : sProp 𝕄 :=
  iprop((bigSep Finset.univ fun x : Dev nD × CK => cellInv ER (Rd m) (K x) (cell x.1 x.2))
    ∗ (bigSep Finset.univ fun x : Dev nD × CK => reached ER (cell x.1 x.2) 0)
    ∗ (bigSep Finset.univ fun k : Dev nD × Fin 2 => slotInv ES (J k) k (slotAny k))
    ∗ levAts L lv)

variable (K : Dev nD × CK → ℕ) (J : Dev nD × Fin 2 → ℕ)

instance env_persistent : BI.Persistent (env (F := F) m K J) := by unfold env; infer_instance

theorem env_cell (c : Dev nD) (k : CK) : env m K J ⊢ cellInv ER (Rd m) (K (c, k)) (cell c k) := by
  unfold env
  exact (BI.sep_and.trans BI.and_elimL).trans (bigSep_elim (Φ := fun x : Dev nD × CK => cellInv ER (Rd (F := F) m) (K x) (cell x.1 x.2)) (Finset.mem_univ (c, k)))
theorem env_reached (c : Dev nD) (k : CK) : env m K J ⊢ reached ER (cell c k) 0 := by
  unfold env
  exact ((BI.sep_and.trans BI.and_elimR).trans (BI.sep_and.trans BI.and_elimL)).trans (bigSep_elim (Φ := fun x : Dev nD × CK => (reached ER (cell x.1 x.2) 0 : sProp 𝕄)) (Finset.mem_univ (c, k)))
theorem env_slot (k : Dev nD × Fin 2) : env m K J ⊢ slotInv ES (J k) k (slotAny (F := F) k) := by
  unfold env
  exact (((BI.sep_and.trans BI.and_elimR).trans (BI.sep_and.trans BI.and_elimR)).trans (BI.sep_and.trans BI.and_elimL)).trans (bigSep_elim (Φ := fun k : Dev nD × Fin 2 => slotInv ES (J k) k (slotAny (F := F) k)) (Finset.mem_univ k))
theorem env_lev : env m K J ⊢ (levAts L lv : sProp 𝕄) := by
  unfold env
  iintro ⟨-, -, -, H⟩; iexact H

/-- What a device owes, its recorded waits left open. -/
def ow (c : Dev nD) (O : CellTallies nD τ sig ℕ) : sProp 𝕄 := iprop(∃ W : Waits sig ℕ, owes (c : Thread nD τ) O W)

/-! ## A run of like steps -/

theorem wp_runThen (c : Dev nD) {n : ℕ} (s : Fin n → P F PUnit) (I : ℕ → sProp 𝕄)
    (hstep : ∀ (t : Fin n) (Q : PUnit → sProp 𝕄), iprop(I t.val ∗ (I (t.val + 1) -∗ Q ⟨⟩)) ⊢ wpc c (s t) Q)
    (k : P F PUnit) (Q : PUnit → sProp 𝕄) : ∀ i, i ≤ n →
    iprop(I i ∗ (I n -∗ wpc c k Q)) ⊢ wpc c (runThen s ((List.finRange n).drop i) k) Q := by
  intro i
  induction h : n - i generalizing i with
  | zero =>
    intro hi
    obtain rfl : i = n := by omega
    rw [List.drop_of_length_le (by simp)]
    unfold runThen
    iintro ⟨HI, HQ⟩
    iapply HQ; iexact HI
  | succ j ih =>
    intro hi
    have hlt : i < n := by omega
    rw [List.drop_eq_getElem_cons (by simpa using hlt), List.getElem_finRange, Fin.cast_mk]
    unfold runThen
    unfold wpc
    rw [wp_bind]
    iintro ⟨HI, HQ⟩
    iapply (hstep ⟨i, hlt⟩ (fun _ => wpc c (runThen s ((List.finRange n).drop (i + 1)) k) Q))
    isplitl [HI]; · iexact HI
    iintro HI
    iapply (ih (i + 1) (by omega) (by omega))
    isplitl [HI] <;> iassumption

/-! ## Waiting on a cell of a row -/

theorem dut_kx (a : Fin 6) (t : Fin 15) : dut (kx a t) = {0} := rfl

theorem mayWait_cell (c : Dev nD) (k : CK) (ι : ℕ) (hι : ι < 13) {O : CellTallies nD τ sig ℕ} (h : Above (lvk k ι) O) :
    (levAts L lv : sProp 𝕄) ⊢ MayWait (c : Thread nD τ) (csem k) ι O :=
  mayWait c (csem k) ι hι (by rw [lv_cell]; exact h)

theorem env_mayWait (c : Dev nD) (k : CK) (ι : ℕ) (hι : ι < 13) {O : CellTallies nD τ sig ℕ} (h : Above (lvk k ι) O) :
    env (F := F) m K J ⊢ MayWait (c : Thread nD τ) (csem k) ι O := by
  have h1 : env m K J ⊢ (levAts L lv : sProp 𝕄) := env_lev m K J
  have h2 := mayWait_cell (F := F) c k ι hι h
  exact h1.trans h2

/-- Waiting for the one duty of a cell: what it hands over, and the cell closed. -/
theorem wp_wait_cell (c : Dev nD) (k : CK) (hk : dut k = {0}) {sm : SemLoc sig} (hs : csem k = sm) {w : TpuEff nD τ sig (Elt F) Λ₀ .tc PUnit} {α : Type} {kk : PUnit → P F α} {Q : α → sProp 𝕄}
    (hw : ∀ K' : PUnit → sProp 𝕄, wpE (defs₀ (F := F)) 𝒱₀ (c : Thread nD τ) none Set.univ w K'
      = waitSpec (c : Thread nD τ) Set.univ sm (amt k) K')
    (O : CellTallies nD τ sig ℕ) (hb : Above (lvk k 0) O) :
    iprop(env m K J ∗ cred (tallyAt (cell c k) 0 (amt k)) ∗ ow c O ∗ atPos ER (cell c k) 0 ∅ 0)
      ⊢ iprop(((ow c O ∗ pay m k c 0 ∗ semVal (cell c k) 0) -∗ wpc c (kk ⟨⟩) Q) -∗ wpc c (.op w kk) Q) := by
  subst hs
  iintro ⟨#He, Hc, Ho, Hat⟩ Hk
  unfold ow
  icases Ho with ⟨%W, Ho⟩
  iapply (Rounds.wp_wait_rest_token 𝒱₀ ER (Rd m) (c : Thread nD τ) none (κ := K (c, k)) (sm := csem k)
      hw (Set.mem_univ _) 0 (O := O) (W := W) (R := 0) (m := 0) (T := ∅)
      (by rw [Nat.zero_add]; refine Eq.trans ?_ (expect_cell m c k).symm; rw [hk, Finset.card_singleton, Nat.one_mul])) $$ [Hc Ho Hat]
  · isplitr; · iapply (env_cell m K J c k); iexact He
    isplitl [Hc]; · iexact Hc
    isplitl [Ho]; · iexact Ho
    isplitr
    · iapply (env_mayWait m K J c k 0 (by decide) hb); iexact He
    iexact Hat
  iintro ⟨Ho, Hat, -, Hp⟩
  ihave Hp := (Entails.of_eq (rest_cell m c k hk)) $$ Hp
  imod (Rounds.cell_close ER (Rd m) (Set.mem_univ (K (c, k))) (fun h => h) (R := 0 + 1) (duties_later m (cell c k))) $$ [Hat] with Hz
  · isplitr; · iapply (env_cell m K J c k); iexact He
    iexact Hat
  iapply Hk
  isplitl [Ho]; · iexists _; iexact Ho
  isplitl [Hp]; · iexact Hp
  iexact Hz

/-! ## Sending -/

theorem rChunk_nxt (c : Dev nD) (t : Fin 15) : rChunk (nxt c) t = sChunk c t := by rw [← sChunk_prv, prv_nxt]

/-- A copy to the right neighbour, paying the one duty of `k₁` here and of `k₂` there. -/
theorem wp_send (c n : Dev nD) (hn : n = nxt c) (k₁ k₂ : CK) (hk₁ : dut k₁ = {0}) (hk₂ : dut k₂ = {0})
    {sS sem : SemLoc sig} (h₁ : csem k₁ = sS) (h₂ : csem k₂ = sem) {s : Shape} {e : EltTy}
    {src : Memref sig .tc .vmem s e} {dst : Memref sig .tc .vmem s e}
    {hsc : (dst : Memref sig (Dev.tc n : Thread nD τ).2.kind .vmem s e).view.ref.isScScratch = false}
    {hsrc : src.view.WordExact} {hdst : dst.view.WordExact}
    {hsem : DmaTarget.Typed .vmem sem (.remote (Dev.tc n : Thread nD τ) dst sS hsc)}
    {α : Type} {Q : α → sProp 𝕄} {k : PUnit → P F α} (fs : Buf (Elt F) (src.view.loc (c : Thread nD τ))) (fn : Buf (Elt F) (dst.view.loc (nxt c : Thread nD τ)))
    (N : ℕ) (hN : dst.view.amount sem = N) (ha₁ : amt k₁ = N) (ha₂ : amt k₂ = N) (O : CellTallies nD τ sig ℕ)
    (hp₁ : (src.view.loc (c : Thread nD τ) ↦[src.view.set]{fullShare} fs : sProp 𝕄) ⊢ pay m k₁ c 0)
    (hp₂ : (dst.view.loc (nxt c : Thread nD τ) ↦[dst.view.set]{fullShare} (dst.view.write (Elt F) fn (src.view.read (Elt F) fs) Finset.univ) : sProp 𝕄) ⊢ pay m k₂ (nxt c) 0) :
    iprop(env m K J ∗ (src.view.loc (c : Thread nD τ) ↦[src.view.set]{fullShare} fs) ∗ (dst.view.loc (nxt c : Thread nD τ) ↦[dst.view.set]{fullShare} fn)
        ∗ ow c (O + tallyAt (cell (nxt c) k₂) 0 N)
        ∗ dutyTok ER (cell c k₁) 0 0 ∗ dutyTok ER (cell (nxt c) k₂) 0 0)
      ⊢ iprop(((cred (tallyAt (cell c k₁) 0 N) ∗ ow c O) -∗ wpc c (k ⟨⟩) Q)
          -∗ wpc c (.op (.enqueueDma src (.remote (Dev.tc n : Thread nD τ) dst sS hsc) sem hsrc hdst hsem) k) Q) := by
  subst hn h₁ h₂
  unfold ow
  iintro ⟨#He, Hs, Hd, ⟨%W, Ho⟩, Ht1, Ht2⟩ Hk
  iapply (Rounds.wp_send_pointsTo 𝒱₀ ER (Rd m) (c : Thread nD τ) none (κ₁ := K (c, k₁)) (κ₂ := K (nxt c, k₂))
    (r₁ := 0) (r₂ := 0) (d₁ := 0) (d₂ := 0) (fd := fn)
    (by rw [duties_cell m c k₁, hk₁]; exact Finset.mem_singleton_self _)
    (by rw [duties_cell m (nxt c) k₂, hk₂]; exact Finset.mem_singleton_self _)
    0 0 N hN ((amount_cell m c k₁ 0 0).trans ha₁) ((amount_cell m (nxt c) k₂ 0 0).trans ha₂) O rfl (W := W)
    (hp₁.trans (Entails.of_eq (payload_cell m c k₁ 0 0).symm))
    (hp₂.trans (Entails.of_eq (payload_cell m (nxt c) k₂ 0 0).symm))) $$ [Hs Hd Ho Ht1 Ht2]
  · isplitr; · iapply (env_cell m K J c k₁); iexact He
    isplitr; · iapply (env_cell m K J (nxt c) k₂); iexact He
    isplitl [Hs]; · iexact Hs
    isplitl [Hd]; · iexact Hd
    isplitl [Ho]; · iexact Ho
    isplitl [Ht1]; · iexact Ht1
    isplitr; · iapply (env_reached m K J c k₁); iexact He
    isplitl [Ht2]; · iexact Ht2
    iapply (env_reached m K J (nxt c) k₂); iexact He
  iintro ⟨Hc, Ho⟩
  iapply Hk
  isplitl [Hc]; · iexact Hc
  iexists _; iexact Ho

/-- What the three copies pay. -/
theorem pay_sendC (c : Dev nD) (t : Fin 15) : ctxPts c (sChunk c t) (accC m t.val c) ⊢ pay m (kx 0 t) c 0 := BI.Entails.refl _
theorem pay_sendM (c : Dev nD) (t : Fin 15) : msPts c (sChunk c t) (accM m t.val c) ⊢ pay m (kx 2 t) c 0 := BI.Entails.refl _
theorem pay_sendO (c : Dev nD) (t : Fin 15) : outPts c (oChunk c t) (outF m) ⊢ pay m (kx 4 t) c 0 := BI.Entails.refl _

theorem rd_congrC {s s' : Fin 16} (h : s = s') (f : (cc0_scratch0 : Ref sig .tc).ty.Contents (Elt F)) :
    (ctxC ![s.val, 0, 0, 0] (inbC s)).view.read (Elt F) f = (ctxC ![s'.val, 0, 0, 0] (inbC s')).view.read (Elt F) f := by subst h; rfl
theorem rd_congrM {s s' : Fin 16} (h : s = s') (f : (cc0_scratch1 : Ref sig .tc).ty.Contents (Elt F)) :
    (msC ![s.val, 0, 0, 0] (inbM s)).view.read (Elt F) f = (msC ![s'.val, 0, 0, 0] (inbM s')).view.read (Elt F) f := by subst h; rfl

theorem pay_recvC (c : Dev nD) (t : Fin 15) (fn : (cc0_scratch2 : Ref sig .tc).ty.Contents (Elt F)) :
    ctxSlot (nxt c) (par t) ((ctxS (par t)).view.write (Elt F) fn ((ctxC ![(sChunk c t).val, 0, 0, 0] (inbC (sChunk c t))).view.read (Elt F) (accC m t.val c)) Finset.univ)
      ⊢ pay m (kx 1 t) (nxt c) 0 := by
  show _ ⊢ recvC m (nxt c) t
  unfold recvC
  simp only [prv_nxt]
  iintro H
  iexists _
  isplitr
  rotate_left
  · iexact H
  · ipureintro; rw [rd_congrC (rChunk_nxt c t)]; exact View.read_write_univ _ _
theorem pay_recvM (c : Dev nD) (t : Fin 15) (fn : (cc0_scratch3 : Ref sig .tc).ty.Contents (Elt F)) :
    msSlot (nxt c) (par t) ((msS (par t)).view.write (Elt F) fn ((msC ![(sChunk c t).val, 0, 0, 0] (inbM (sChunk c t))).view.read (Elt F) (accM m t.val c)) Finset.univ)
      ⊢ pay m (kx 3 t) (nxt c) 0 := by
  show _ ⊢ recvM m (nxt c) t
  unfold recvM
  simp only [prv_nxt]
  iintro H
  iexists _
  isplitr
  rotate_left
  · iexact H
  · ipureintro; rw [rd_congrM (rChunk_nxt c t)]; exact View.read_write_univ _ _
theorem pay_recvO (c : Dev nD) (t : Fin 15) (fn : (cc0_stg3_0 : Ref sig .tc).ty.Contents (Elt F)) :
    outPts (nxt c) (oChunk c t) ((outC ![0, 128 * (oChunk c t).val, 0] (inbO (oChunk c t))).view.write (Elt F) fn ((outC ![0, 128 * (oChunk c t).val, 0] (inbO (oChunk c t))).view.read (Elt F) (outF m)) Finset.univ)
      ⊢ pay m (kx 5 t) (nxt c) 0 := by
  show _ ⊢ recvO m (nxt c) t
  unfold recvO outPts
  rw [prv_nxt]
  refine Entails.of_eq (pointsTo_congr fun i hi => ?_)
  obtain ⟨j, -, rfl⟩ := Finset.mem_map.mp hi
  exact View.write_emb_of_mem _ _ (Finset.mem_univ j)

end Cert.KernelIdeal.Ring
end
end
-- ==== Proof.Views.lean ====
module

public import proofs.«01_k».proof.Proof.Rules
public import Idealize.ShloMosaic.Lib.Ring

@[expose] public section

set_option maxRecDepth 8000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release
open Idealize.ShloMosaic.Ring (pointsTo_blocks pointsTo_blocks_join_exists)

variable {F : FTy → Type} [FloatOps F]

local notation "𝕄" => MT nD τ sig ℕ (Elt F) ℕ UU ℕ

/-! ## The elements of the pieces -/

theorem set_ctxC (o : Fin 4 → ℕ) (ho) : (ctxC o ho).view.set = (Rect.unit (s := S16x8x128x128) o S1x8x128x128.size ho).set :=
  (View.set_reshape _ _).trans (View.set_slice_whole cc0_scratch0 _)
theorem set_msC (o : Fin 4 → ℕ) (ho) : (msC o ho).view.set = (Rect.unit (s := S16x2x8x128) o S1x2x8x128.size ho).set :=
  (View.set_reshape _ _).trans (View.set_slice_whole cc0_scratch1 _)
theorem set_ctxS (p : Fin 2) : (ctxS p).view.set = (Rect.unit (s := S2x8x128x128) ![p.val, 0, 0, 0] S1x8x128x128.size (inbCtxR p)).set :=
  (View.set_reshape _ _).trans (View.set_slice_whole cc0_scratch2 _)
theorem set_msS (p : Fin 2) : (msS p).view.set = (Rect.unit (s := S2x2x8x128) ![p.val, 0, 0, 0] S1x2x8x128.size (inbMsR p)).set :=
  (View.set_reshape _ _).trans (View.set_slice_whole cc0_scratch3 _)
theorem set_outC (o : Fin 3 → ℕ) (ho) : (outC o ho).view.set = (Rect.unit (s := S1x2048x1024) o S1x128x1024.size ho).set :=
  (View.set_reshape _ _).trans (View.set_slice_whole cc0_stg3_0 _)

theorem setOn_whole {b : Ref sig .tc} (T : Finset b.ty.shape.Idx) : (Memref.whole b).view.setOn T = T := by
  show T.map (View.whole b).emb = T
  exact Finset.map_refl

/-! ## The pieces' points-tos spelt out -/

theorem ctxPts_eq (c : Dev nD) (s : Fin 16) (f : (cc0_scratch0 : Ref sig .tc).ty.Contents (Elt F)) : ctxPts c s f
    = ((ctxC ![s.val, 0, 0, 0] (inbC s)).view.loc (c : Thread nD τ) ↦[(ctxC ![s.val, 0, 0, 0] (inbC s)).view.set]{fullShare} f : sProp 𝕄) := rfl
theorem msPts_eq (c : Dev nD) (s : Fin 16) (f : (cc0_scratch1 : Ref sig .tc).ty.Contents (Elt F)) : msPts c s f
    = ((msC ![s.val, 0, 0, 0] (inbM s)).view.loc (c : Thread nD τ) ↦[(msC ![s.val, 0, 0, 0] (inbM s)).view.set]{fullShare} f : sProp 𝕄) := rfl
theorem ctxSlot_eq (c : Dev nD) (p : Fin 2) (f : (cc0_scratch2 : Ref sig .tc).ty.Contents (Elt F)) : ctxSlot c p f
    = ((ctxS p).view.loc (c : Thread nD τ) ↦[(ctxS p).view.set]{fullShare} f : sProp 𝕄) := rfl
theorem msSlot_eq (c : Dev nD) (p : Fin 2) (f : (cc0_scratch3 : Ref sig .tc).ty.Contents (Elt F)) : msSlot c p f
    = ((msS p).view.loc (c : Thread nD τ) ↦[(msS p).view.set]{fullShare} f : sProp 𝕄) := rfl
theorem ctxSlot_eq' (c : Dev nD) (p : Fin 2) (f : (cc0_scratch2 : Ref sig .tc).ty.Contents (Elt F)) : ctxSlot c p f
    = (ctxR.view.loc (c : Thread nD τ) ↦[(ctxS p).view.set]{fullShare} f : sProp 𝕄) := rfl
theorem msSlot_eq' (c : Dev nD) (p : Fin 2) (f : (cc0_scratch3 : Ref sig .tc).ty.Contents (Elt F)) : msSlot c p f
    = (msR.view.loc (c : Thread nD τ) ↦[(msS p).view.set]{fullShare} f : sProp 𝕄) := rfl
theorem outPts_eq (c : Dev nD) (s : Fin 16) (f : (cc0_stg3_0 : Ref sig .tc).ty.Contents (Elt F)) : outPts c s f
    = ((outC ![0, 128 * s.val, 0] (inbO s)).view.loc (c : Thread nD τ) ↦[(outC ![0, 128 * s.val, 0] (inbO s)).view.set]{fullShare} f : sProp 𝕄) := rfl
theorem outPts_eq' (c : Dev nD) (s : Fin 16) (f : (cc0_stg3_0 : Ref sig .tc).ty.Contents (Elt F)) : outPts c s f
    = ((c : Thread nD τ).loc cc0_stg3_0 ↦[(outC ![0, 128 * s.val, 0] (inbO s)).view.set]{fullShare} f : sProp 𝕄) := rfl

/-! ## Chunks of the accumulators -/

def ctxOff (c : Dev nD) (s : Fin 16) (f : (cc0_scratch0 : Ref sig .tc).ty.Contents (Elt F)) : sProp 𝕄 :=
  (c : Thread nD τ).loc cc0_scratch0 ↦[Finset.univ \ (ctxC ![s.val, 0, 0, 0] (inbC s)).view.set]{fullShare} f
def msOff (c : Dev nD) (s : Fin 16) (f : (cc0_scratch1 : Ref sig .tc).ty.Contents (Elt F)) : sProp 𝕄 :=
  (c : Thread nD τ).loc cc0_scratch1 ↦[Finset.univ \ (msC ![s.val, 0, 0, 0] (inbM s)).view.set]{fullShare} f
theorem ctx_split (c : Dev nD) (s : Fin 16) (f : (cc0_scratch0 : Ref sig .tc).ty.Contents (Elt F)) :
    ((c : Thread nD τ).loc cc0_scratch0 ↦{fullShare} f : sProp 𝕄) ⊣⊢ iprop(ctxPts c s f ∗ ctxOff c s f) :=
  pointsTo_split_subset (Finset.subset_univ _)
theorem ms_split (c : Dev nD) (s : Fin 16) (f : (cc0_scratch1 : Ref sig .tc).ty.Contents (Elt F)) :
    ((c : Thread nD τ).loc cc0_scratch1 ↦{fullShare} f : sProp 𝕄) ⊣⊢ iprop(msPts c s f ∗ msOff c s f) :=
  pointsTo_split_subset (Finset.subset_univ _)

/-! ## The receive slots -/

theorem ctxS_disj (b b' : Fin 2) (h : b ≠ b') : Disjoint (ctxS b).view.set (ctxS b').view.set := by
  rw [set_ctxS, set_ctxS]
  refine Finset.disjoint_left.mpr fun i hi hi' => h (Fin.ext ?_)
  have h1 := Rect.mem_set_unit.mp hi 0
  have h2 := Rect.mem_set_unit.mp hi' 0
  simp at h1 h2
  omega
theorem msS_disj (b b' : Fin 2) (h : b ≠ b') : Disjoint (msS b).view.set (msS b').view.set := by
  rw [set_msS, set_msS]
  refine Finset.disjoint_left.mpr fun i hi hi' => h (Fin.ext ?_)
  have h1 := Rect.mem_set_unit.mp hi 0
  have h2 := Rect.mem_set_unit.mp hi' 0
  simp at h1 h2
  omega
abbrev ctxI (p : Fin 2) : Finset (cc0_scratch2 : Ref sig .tc).ty.Idx := (ctxS p).view.set
abbrev msI (p : Fin 2) : Finset (cc0_scratch3 : Ref sig .tc).ty.Idx := (msS p).view.set
theorem ctxS_cover : (Finset.univ.biUnion ctxI) = Finset.univ := by
  refine Finset.eq_univ_of_forall fun (i : S2x8x128x128.Idx) => Finset.mem_biUnion.mpr ⟨i 0, Finset.mem_univ _, ?_⟩
  refine (Finset.ext_iff.mp (set_ctxS (i 0)) i).mpr ?_
  refine Rect.mem_set_unit.mpr fun (a : Fin 4) => ?_
  have h1 := (i 1).isLt
  have h2 := (i 2).isLt
  have h3 := (i 3).isLt
  fin_cases a
  · exact ⟨le_refl _, Nat.lt_succ_self _⟩
  · exact ⟨Nat.zero_le _, by simpa using h1⟩
  · exact ⟨Nat.zero_le _, by simpa using h2⟩
  · exact ⟨Nat.zero_le _, by simpa using h3⟩
theorem msS_cover : (Finset.univ.biUnion msI) = Finset.univ := by
  refine Finset.eq_univ_of_forall fun (i : S2x2x8x128.Idx) => Finset.mem_biUnion.mpr ⟨i 0, Finset.mem_univ _, ?_⟩
  refine (Finset.ext_iff.mp (set_msS (i 0)) i).mpr ?_
  refine Rect.mem_set_unit.mpr fun (a : Fin 4) => ?_
  have h1 := (i 1).isLt
  have h2 := (i 2).isLt
  have h3 := (i 3).isLt
  fin_cases a
  · exact ⟨le_refl _, Nat.lt_succ_self _⟩
  · exact ⟨Nat.zero_le _, by simpa using h1⟩
  · exact ⟨Nat.zero_le _, by simpa using h2⟩
  · exact ⟨Nat.zero_le _, by simpa using h3⟩

theorem bigSep_ins {I : Type} [DecidableEq I] {s : Finset I} {a : I} (h : a ∉ s) (Φ : I → sProp 𝕄) :
    bigSep (insert a s) Φ = iprop(Φ a ∗ bigSep s Φ) := by rw [bigSep_insert h]; rfl
theorem bigSep_fin2 (Φ : Fin 2 → sProp 𝕄) : bigSep Finset.univ Φ = iprop(Φ 0 ∗ Φ 1) := by
  rw [show (Finset.univ : Finset (Fin 2)) = insert 0 {1} by decide, bigSep_insert (by decide), bigSep_singleton]; rfl
theorem pair_eq (Φ : Fin 2 → sProp 𝕄) (P : Fin 2) : iprop(Φ P ∗ Φ (1 - P)) ⊢ iprop(Φ 0 ∗ Φ 1) := by
  obtain rfl | rfl : P = 0 ∨ P = 1 := by revert P; decide
  · exact BI.Entails.refl _
  · exact sep_comm.1

/-- The receive buffers at entry are the two slots; -/
theorem slots_split (c : Dev nD) (f : (cc0_scratch2 : Ref sig .tc).ty.Contents (Elt F)) (g : (cc0_scratch3 : Ref sig .tc).ty.Contents (Elt F)) :
    iprop(((c : Thread nD τ).loc cc0_scratch2 ↦{fullShare} f) ∗ (c : Thread nD τ).loc cc0_scratch3 ↦{fullShare} g)
      ⊢ (iprop(slotAny (c, 0) ∗ slotAny (c, 1)) : sProp 𝕄) := by
  have e1 : ((c : Thread nD τ).loc cc0_scratch2 ↦{fullShare} f : sProp 𝕄) = iprop(ctxSlot c 0 f ∗ ctxSlot c 1 f) :=
    (pointsTo_blocks (ℓ := (c : Thread nD τ).loc cc0_scratch2) ctxI ctxS_disj ctxS_cover f).trans (bigSep_fin2 _)
  have e2 : ((c : Thread nD τ).loc cc0_scratch3 ↦{fullShare} g : sProp 𝕄) = iprop(msSlot c 0 g ∗ msSlot c 1 g) :=
    (pointsTo_blocks (ℓ := (c : Thread nD τ).loc cc0_scratch3) msI msS_disj msS_cover g).trans (bigSep_fin2 _)
  rw [e1, e2]
  unfold slotAny
  iintro ⟨⟨H0, H1⟩, H2, H3⟩
  isplitl [H0 H2]
  · isplitl [H0]
    · iexists _; iexact H0
    · iexists _; iexact H2
  · isplitl [H1]
    · iexists _; iexact H1
    · iexists _; iexact H3

/-- and are put together again at exit. -/
theorem slots_join (c : Dev nD) :
    (iprop(slotAny (c, 0) ∗ slotAny (c, 1)) : sProp 𝕄)
      ⊢ iprop((∃ f, (c : Thread nD τ).loc cc0_scratch2 ↦{fullShare} f) ∗ ∃ g, (c : Thread nD τ).loc cc0_scratch3 ↦{fullShare} g) := by
  have e1 : iprop((∃ f, ctxSlot c 0 f) ∗ ∃ f, ctxSlot c 1 f) ⊢ (iprop(∃ g, (c : Thread nD τ).loc cc0_scratch2 ↦{fullShare} g) : sProp 𝕄) := by
    refine (Entails.of_eq (bigSep_fin2 (fun p => iprop(∃ f, ctxSlot c p f))).symm).trans ?_
    exact pointsTo_blocks_join_exists (ℓ := (c : Thread nD τ).loc cc0_scratch2) ctxI ctxS_disj ctxS_cover default
  have e2 : iprop((∃ f, msSlot c 0 f) ∗ ∃ f, msSlot c 1 f) ⊢ (iprop(∃ g, (c : Thread nD τ).loc cc0_scratch3 ↦{fullShare} g) : sProp 𝕄) := by
    refine (Entails.of_eq (bigSep_fin2 (fun p => iprop(∃ f, msSlot c p f))).symm).trans ?_
    exact pointsTo_blocks_join_exists (ℓ := (c : Thread nD τ).loc cc0_scratch3) msI msS_disj msS_cover default
  unfold slotAny
  iintro ⟨⟨H0, H2⟩, H1, H3⟩
  isplitl [H0 H1]
  · iapply e1; isplitl [H0] <;> iassumption
  · iapply e2; isplitl [H2] <;> iassumption

theorem ctxS_nonempty (p : Fin 2) : (ctxS p).view.set.Nonempty := by
  haveI : Nonempty S8x128x128.Idx := ⟨fun a => ⟨0, by revert a; decide⟩⟩
  exact Finset.map_nonempty.mpr Finset.univ_nonempty

theorem slot_excl (k : Dev nD × Fin 2) : (iprop(slotAny k ∗ slotAny k) : sProp 𝕄) ⊢ iprop(False) := by
  unfold slotAny ctxSlot
  iintro ⟨⟨⟨%f, H⟩, -⟩, ⟨%g, H'⟩, -⟩
  obtain ⟨i, hi⟩ := ctxS_nonempty k.2
  iapply (pointsTo_overlap_false (ℓ := (ctxS k.2).view.loc (k.1 : Thread nD τ)) (q := fullShare) (f := f) (g := g) hi hi)
  isplitl [H] <;> iassumption

/-! ## The slices of the result -/

theorem outC_disj (b b' : Fin 16) (h : b ≠ b') : Disjoint (outC ![0, 128 * b.val, 0] (inbO b)).view.set (outC ![0, 128 * b'.val, 0] (inbO b')).view.set := by
  rw [set_outC, set_outC]
  refine Finset.disjoint_left.mpr fun i hi hi' => h (Fin.ext ?_)
  have h1 := Rect.mem_set_unit.mp hi 1
  have h2 := Rect.mem_set_unit.mp hi' 1
  simp at h1 h2
  omega
abbrev outI (s : Fin 16) : Finset (cc0_stg3_0 : Ref sig .tc).ty.Idx := (outC ![0, 128 * s.val, 0] (inbO s)).view.set
theorem outC_cover : (Finset.univ.biUnion outI) = Finset.univ := by
  refine Finset.eq_univ_of_forall fun (i : S1x2048x1024.Idx) => Finset.mem_biUnion.mpr ⟨sliceOf i, Finset.mem_univ _, ?_⟩
  show i ∈ (outC ![0, 128 * (sliceOf i).val, 0] (inbO (sliceOf i))).view.set
  rw [set_outC]
  exact Rect.mem_set_unit.mpr (mem4 i)

theorem out_slices (c : Dev nD) (f : (cc0_stg3_0 : Ref sig .tc).ty.Contents (Elt F)) :
    ((c : Thread nD τ).loc cc0_stg3_0 ↦{fullShare} f : sProp 𝕄) = bigSep Finset.univ fun s : Fin 16 => outPts c s f :=
  pointsTo_blocks (ℓ := (c : Thread nD τ).loc cc0_stg3_0) outI outC_disj outC_cover f

set_option backward.proofsInPublic true in
/-- The slice `n` places before device `c`'s own. -/
def och (c : Dev nD) (n : Fin 16) : Fin 16 := ⟨((nxt c).val + 16 - n.val) % 16, Nat.mod_lt _ (by decide)⟩
theorem och_invol : ∀ (c : Dev nD) (n : Fin 16), och c (och c n) = n := by decide
def ochE (c : Dev nD) : Fin 16 ≃ Fin 16 := ⟨och c, och c, och_invol c, och_invol c⟩
theorem och_zero : ∀ c : Dev nD, och c 0 = nxt c := by decide
theorem och_castSucc : ∀ (c : Dev nD) (n : Fin 15), och c n.castSucc = oChunk c n := by decide
theorem och_succ : ∀ (c : Dev nD) (n : Fin 15), och c n.succ = oChunk (prv c) n := by decide

theorem out_och (c : Dev nD) (f : (cc0_stg3_0 : Ref sig .tc).ty.Contents (Elt F)) :
    ((c : Thread nD τ).loc cc0_stg3_0 ↦{fullShare} f : sProp 𝕄) = bigSep Finset.univ fun n : Fin 16 => outPts c (och c n) f := by
  rw [out_slices, bigSep_univ_equiv (ochE c) (fun s => outPts c s f)]
  rfl

theorem bigSep_fin16 (Φ : Fin 16 → sProp 𝕄) : bigSep Finset.univ Φ = iprop(Φ 0 ∗ bigSep Finset.univ fun n : Fin 15 => Φ n.succ) := by
  rw [Fin.univ_succ, Finset.cons_eq_insert, bigSep_insert (by simp), bigSep_map]; rfl

/-- The result's staging buffer at entry: the device's own slice, and the fifteen the left neighbour will write. -/
theorem out_give (c : Dev nD) (f : (cc0_stg3_0 : Ref sig .tc).ty.Contents (Elt F)) :
    ((c : Thread nD τ).loc cc0_stg3_0 ↦{fullShare} f : sProp 𝕄)
      ⊢ iprop(outPts c (nxt c) f ∗ bigSep Finset.univ fun n : Fin 15 => iprop(∃ f, outPts c (oChunk (prv c) n) f)) := by
  rw [out_och, bigSep_fin16, och_zero]
  refine BI.sep_mono (BI.Entails.refl _) (bigSep_mono fun n _ => ?_)
  rw [och_succ]
  show outPts c (oChunk (prv c) n) f ⊢ iprop(∃ f, outPts c (oChunk (prv c) n) f)
  iintro H; iexists f; iexact H

/-! ## What a receive slot reads -/

theorem slot_rdC (p : Fin 2) (s : Fin 16) (f : (cc0_scratch2 : Ref sig .tc).ty.Contents (Elt F)) (g : (cc0_scratch0 : Ref sig .tc).ty.Contents (Elt F))
    (h : (ctxS p).view.read (Elt F) f = (ctxC ![s.val, 0, 0, 0] (inbC s)).view.read (Elt F) g) :
    ctxR.view.readAt (Elt F) (Rect.unit (s := S2x8x128x128) ![p.val, 0, 0, 0] S1x8x128x128.size (inbCtxR p)).toLoadRect f = rdC s g := by
  funext y
  obtain ⟨x, rfl⟩ := (Shape.reshapeEquiv (squeezes_S1x8x128x128_S8x128x128).numel_eq).surjective y
  exact congrFun h x

theorem slot_msRow (p : Fin 2) (s : Fin 16) (f : (cc0_scratch3 : Ref sig .tc).ty.Contents (Elt F)) (g : (cc0_scratch1 : Ref sig .tc).ty.Contents (Elt F))
    (h : (msS p).view.read (Elt F) f = (msC ![s.val, 0, 0, 0] (inbM s)).view.read (Elt F) g) (y : S1x2x8x128.Idx) :
    f ((Rect.unit (s := S2x2x8x128) ![p.val, 0, 0, 0] S1x2x8x128.size (inbMsR p)).emb y) = g ((Rect.unit (s := S16x2x8x128) ![s.val, 0, 0, 0] S1x2x8x128.size (inbM s)).emb y) := by
  obtain ⟨x, rfl⟩ := (Shape.reshapeEquiv (squeezes_S1x2x8x128_S2x8x128).numel_eq).surjective y
  exact congrFun h x

theorem slot_rdM (p u : Fin 2) (s : Fin 16) (f : (cc0_scratch3 : Ref sig .tc).ty.Contents (Elt F)) (g : (cc0_scratch1 : Ref sig .tc).ty.Contents (Elt F))
    (h : (msS p).view.read (Elt F) f = (msC ![s.val, 0, 0, 0] (inbM s)).view.read (Elt F) g) :
    msR.view.readAt (Elt F) (Rect.unit (s := S2x2x8x128) ![p.val, u.val, 0, 0] S1x1x8x128.size (inbMsR1 p u)).toLoadRect f = rdM s u g := by
  funext y
  have hu := u.isLt
  let z : S1x2x8x128.Idx := fun a : Fin 4 => ⟨(![0, u.val, (y 2).val, (y 3).val] : Fin 4 → ℕ) a, by
    have h2 := (y 2).isLt
    have h3 := (y 3).isLt
    fin_cases a
    · exact Nat.one_pos
    · exact hu
    · simpa using h2
    · simpa using h3⟩
  have hz := slot_msRow p s f g h z
  have h0 : (y 0).val = 0 := by have : (y 0).val < 1 := (y 0).isLt; omega
  have h1 : (y 1).val = 0 := by have : (y 1).val < 1 := (y 1).isLt; omega
  have e1 : (Rect.unit (s := S2x2x8x128) ![p.val, u.val, 0, 0] S1x1x8x128.size (inbMsR1 p u)).emb y = (Rect.unit (s := S2x2x8x128) ![p.val, 0, 0, 0] S1x2x8x128.size (inbMsR p)).emb z := by
    funext a
    apply Fin.ext
    fin_cases a <;> simp [z, Rect.emb_apply] <;> omega
  have e2 : (Rect.unit (s := S16x2x8x128) ![s.val, u.val, 0, 0] S1x1x8x128.size (inbM1 s u)).emb y = (Rect.unit (s := S16x2x8x128) ![s.val, 0, 0, 0] S1x2x8x128.size (inbM s)).emb z := by
    funext a
    apply Fin.ext
    fin_cases a <;> simp [z, Rect.emb_apply] <;> omega
  have hz' := (congrArg f e1).trans (hz.trans (congrArg g e2).symm)
  exact hz'

/-! ## The offsets in closed form -/

theorem off33_can (d : Dev nD) (t : Fin 15) : k0_off33 d (BitVec.ofNat 32 t.val) = ![(sChunk d t).val, 0, 0, 0] := k0_off33_eq d t
theorem off34_can (d : Dev nD) (t : Fin 15) : k0_off34 d (BitVec.ofNat 32 t.val) = ![(sChunk d t).val, 0, 0, 0] := k0_off34_eq d t
theorem off35_can (d : Dev nD) (t : Fin 15) : k0_off35 d (BitVec.ofNat 32 t.val) = ![(rChunk d t).val, (0 : Fin 2).val, 0, 0] := k0_off35_eq d t
theorem off36_can (d : Dev nD) (t : Fin 15) : k0_off36 d (BitVec.ofNat 32 t.val) = ![(rChunk d t).val, (1 : Fin 2).val, 0, 0] := k0_off36_eq d t
theorem off37_can (d : Dev nD) (t : Fin 15) : k0_off37 d (BitVec.ofNat 32 t.val) = ![(rChunk d t).val, 0, 0, 0] := k0_off37_eq d t
theorem off38_can (d : Dev nD) : k0_off38 d = ![(nxt d).val, (1 : Fin 2).val, 0, 0] := k0_off38_eq d
theorem off39_can (d : Dev nD) : k0_off39 d = ![(nxt d).val, 0, 0, 0] := k0_off39_eq d
theorem off40_can (d : Dev nD) : k0_off40 d = ![0, 128 * (nxt d).val, 0] := k0_off40_eq d
theorem off41_can (d : Dev nD) (j : Fin 15) : k0_off41 d (BitVec.ofNat 32 j.val) = ![0, 128 * (oChunk d j).val, 0] := k0_off41_eq d j

/-! ## The pieces at their closed offsets -/

def coreN (d : Dev nD) (t : Fin 15) : P F PUnit := do
  exchange (nxt d) (nxt d) t (par t) ![(sChunk d t).val, 0, 0, 0] (inbC (sChunk d t)) ![(sChunk d t).val, 0, 0, 0] (inbM (sChunk d t))
  merge (par t) ![(rChunk d t).val, (0 : Fin 2).val, 0, 0] (inbM1 (rChunk d t) 0) ![(rChunk d t).val, (1 : Fin 2).val, 0, 0] (inbM1 (rChunk d t) 1) ![(rChunk d t).val, 0, 0, 0] (inbC (rChunk d t))

theorem exchange_congr {n₁ n₂ : Dev nD} {t : Fin 15} {p : Fin 2} {oc oc' om om' : Fin 4 → ℕ} (e1 : oc = oc') (e2 : om = om') (hc hc' hm hm') :
    (exchange n₁ n₂ t p oc hc om hm : P F PUnit) = exchange n₁ n₂ t p oc' hc' om' hm' := by subst e1 e2; rfl
theorem merge_congr {p : Fin 2} {o5 o5' o6 o6' o7 o7' : Fin 4 → ℕ} (e5 : o5 = o5') (e6 : o6 = o6') (e7 : o7 = o7') (h5 h5' h6 h6' h7 h7') :
    (merge p o5 h5 o6 h6 o7 h7 : P F PUnit) = merge p o5' h5' o6' h6' o7' h7' := by subst e5 e6 e7; rfl
theorem core_can (d : Dev nD) (t : Fin 15) : (core d (nxt d) (nxt d) t (par t) : P F PUnit) = coreN d t := by
  unfold core coreN
  rw [exchange_congr (off33_can d t) (off34_can d t) _ (inbC _) _ (inbM _), merge_congr (off35_can d t) (off36_can d t) (off37_can d t) _ (inbM1 _ _) _ (inbM1 _ _) _ (inbC _)]

def hopN (d : Dev nD) (j : Fin 15) : P F PUnit := hopAt (nxt d) j ![0, 128 * (oChunk d j).val, 0] (inbO (oChunk d j))
theorem hopAt_congr {n : Dev nD} {j : Fin 15} {o o' : Fin 3 → ℕ} (e : o = o') (h h') : (hopAt n j o h : P F PUnit) = hopAt n j o' h' := by subst e; rfl
theorem hop_can (d : Dev nD) (j : Fin 15) : (hop d (nxt d) j : P F PUnit) = hopN d j := hopAt_congr (off41_can d j) _ _

end Cert.KernelIdeal.Ring
end
end
-- ==== Proof.RingStep.lean ====
module

public import proofs.«01_k».proof.Proof.Views

@[expose] public section

set_option maxRecDepth 8000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)
variable (K : Dev nD × CK → ℕ) (J : Dev nD × Fin 2 → ℕ) (c : Dev nD)

/-! ## The slots' counts -/

/-- How often slot `p` has been released after `n` ring steps. -/
def cnt (n : ℕ) (p : Fin 2) : ℕ := (min n 13 + 1 - p.val) / 2 + 1
/-- The other slot than ring step `t`'s. -/
abbrev opp (t : Fin 15) : Fin 2 := ⟨(t.val + 1) % 2, Nat.mod_lt _ (by decide)⟩

theorem cnt_par (t : Fin 15) (h : t.val ≤ 12) : cnt t.val (par t) = t.val / 2 + 1 := by
  unfold cnt; rw [Nat.min_eq_left (by omega)]; show (t.val + 1 - t.val % 2) / 2 + 1 = _; omega
theorem cnt_par_succ (t : Fin 15) (h : t.val ≤ 12) : cnt (t.val + 1) (par t) = t.val / 2 + 1 + 1 := by
  unfold cnt; rw [Nat.min_eq_left (by omega)]; show (t.val + 1 + 1 - t.val % 2) / 2 + 1 = _; omega
theorem cnt_opp (t : Fin 15) (h : t.val ≤ 12) : cnt t.val (opp t) = (t.val + 1) / 2 + 1 := by
  unfold cnt; rw [Nat.min_eq_left (by omega)]; show (t.val + 1 - (t.val + 1) % 2) / 2 + 1 = _; omega
theorem cnt_opp_succ (t : Fin 15) (h : t.val ≤ 12) : cnt (t.val + 1) (opp t) = (t.val + 1) / 2 + 1 := by
  unfold cnt; rw [Nat.min_eq_left (by omega)]; show (t.val + 1 + 1 - (t.val + 1) % 2) / 2 + 1 = _; omega
theorem cnt_hi (t : Fin 15) (h : ¬ t.val ≤ 12) (p : Fin 2) : cnt (t.val + 1) p = cnt t.val p := by
  unfold cnt; rw [Nat.min_eq_right (by omega), Nat.min_eq_right (by omega)]

def rdr (n : ℕ) (p : Fin 2) : sProp 𝕄 := iprop(readerAt ES (c, p) (cnt n p) ∗ released ES (c, p) (cnt n p))
def rdrs (n : ℕ) : sProp 𝕄 := iprop(rdr c n 0 ∗ rdr c n 1)

theorem pair_at (Φ : Fin 2 → sProp 𝕄) (t : Fin 15) : iprop(Φ 0 ∗ Φ 1) ⊣⊢ iprop(Φ (par t) ∗ Φ (opp t)) := by
  have h : (par t = 0 ∧ opp t = 1) ∨ (par t = 1 ∧ opp t = 0) := by revert t; decide
  rcases h with ⟨h1, h2⟩ | ⟨h1, h2⟩
  · rw [h1, h2]
  · rw [h1, h2]; exact ⟨sep_comm.1, sep_comm.1⟩

/-! ## What ring step `t` consumes and leaves -/

def stepRes (t : Fin 15) : sProp 𝕄 :=
  iprop(atPos ER (cell c (kx 0 t)) 0 ∅ 0 ∗ atPos ER (cell c (kx 1 t)) 0 ∅ 0 ∗ atPos ER (cell c (kx 2 t)) 0 ∅ 0 ∗ atPos ER (cell c (kx 3 t)) 0 ∅ 0
    ∗ dutyTok ER (cell c (kx 0 t)) 0 0 ∗ dutyTok ER (cell (nxt c) (kx 1 t)) 0 0 ∗ dutyTok ER (cell c (kx 2 t)) 0 0 ∗ dutyTok ER (cell (nxt c) (kx 3 t)) 0 0
    ∗ cred (tallyAt (cell c (kx 1 t)) 0 NC) ∗ cred (tallyAt (cell c (kx 3 t)) 0 NM)
    ∗ writeTok ES (nxt c, par t) (t.val / 2 + 1)
    ∗ (if 2 ≤ t.val then cred (tallyAt (cell c kcr) (t.val - 2) 1) else iprop(emp))
    ∗ (if t.val ≤ 12 then dutyTok ER (cell (prv c) kcr) 0 t.val else iprop(emp)))
def doneRes (t : Fin 15) : sProp 𝕄 :=
  iprop((semVal (cell c (kx 0 t)) 0 ∗ semVal (cell c (kx 1 t)) 0 ∗ semVal (cell c (kx 2 t)) 0 ∗ semVal (cell c (kx 3 t)) 0)
    ∗ (if t.val ≤ 12 then iprop(emp) else slotAny (c, par t)))

/-- The credits taken so far. -/
def crSt (n : ℕ) : sProp 𝕄 :=
  iprop(∃ S : Finset ℕ, ⌜S ⊆ Finset.range 13 ∧ n - 2 ≤ S.card⌝ ∗ atPos ER (cell c kcr) 0 S (n - 2) ∗ bigSep S (fun j => crPay c j))

def Jst (n : ℕ) : sProp 𝕄 :=
  iprop(((c : Thread nD τ).loc cc0_scratch0 ↦{fullShare} accC m n c) ∗ ((c : Thread nD τ).loc cc0_scratch1 ↦{fullShare} accM m n c)
    ∗ bigSep (fr n) (stepRes c) ∗ bigSep (til n) (doneRes c) ∗ crSt c n ∗ rdrs c n
    ∗ released ES (nxt c, 0) 1 ∗ released ES (nxt c, 1) 1 ∗ ow c (Orun c n))

/-! ## The credits -/

/-- A credit set this large says the neighbour's slot is free for step `t`. -/
theorem crPay_released (t : Fin 15) (h2 : 2 ≤ t.val) (j : ℕ) (h : t.val ≤ j + 2) : crPay (F := F) c j ⊢ released ES (nxt c, par t) (t.val / 2 + 1) := by
  unfold crPay
  by_cases e : j % 2 = t.val % 2
  · have : (⟨j % 2, Nat.mod_lt _ (by decide)⟩ : Fin 2) = par t := Fin.ext e
    rw [this]
    exact (BI.sep_and.trans BI.and_elimL).trans (released_mono ES (by omega))
  · have : (⟨(j + 1) % 2, Nat.mod_lt _ (by decide)⟩ : Fin 2) = par t := Fin.ext (by show (j + 1) % 2 = t.val % 2; omega)
    rw [this]
    exact (BI.sep_and.trans BI.and_elimR).trans (released_mono ES (by omega))

theorem cr_duties : (Rd (F := F) m).duties ((c : Thread nD τ), .reg crS) 0 = Finset.range 13 := duties_cell m c kcr
theorem cr_expect : (Rd (F := F) m).expect ((c : Thread nD τ), .reg crS) 0 = 13 := expect_cell m c kcr
theorem cr_payload (d : ℕ) : (Rd (F := F) m).payload ((c : Thread nD τ), .reg crS) 0 d = crPay c d := payload_cell m c kcr 0 d

theorem wp_take (t : Fin 15) (h2 : 2 ≤ t.val) (Q : PUnit → sProp 𝕄) :
    iprop(env m K J ∗ crSt c t.val ∗ cred (tallyAt (cell c kcr) (t.val - 2) 1) ∗ ow c (Orun c t.val)
        ∗ ((crSt c (t.val + 1) ∗ released ES (nxt c, par t) (t.val / 2 + 1) ∗ ow c (Orun c t.val)) -∗ Q ⟨⟩))
      ⊢ wpc c take Q := by
  unfold take
  simp only [semWaitWord, Prog.lift, Prog.bind_op, Prog.bind_ret, Prog.pure_eq_ret]
  unfold crSt ow
  iintro ⟨#He, ⟨%S, %hS, Hat, #Hpay⟩, Hc, ⟨%W, Ho⟩, Hk⟩
  iapply (Rounds.wp_wait 𝒱₀ ER (Rd m) (c : Thread nD τ) none (κ := K (c, kcr)) (sm := .reg crS)
      (wpE_semWait_eq 𝒱₀ (c : Thread nD τ) none Set.univ) (Set.mem_univ _) (cr := Finsupp.single (t.val - 2) 1) (O := Orun c t.val) (W := W)
      {((.reg crS : SemLoc sig), t.val - 2)} (R := 0) (m := t.val - 2) (T := S)
      (by rw [Util.total_single]; decide) (image_single_subset _ _ _)) $$ [Hc Ho Hat]
  · isplitr; · iapply (env_cell m K J c kcr); iexact He
    isplitl [Hc]; · iexact Hc
    isplitl [Ho]; · iexact Ho
    isplitr
    · iapply (env_mayWait m K J c kcr (t.val - 2) (by omega) (O := Orun c t.val) (Above_Orun c (by show 2 * (t.val - 2) + 3 < _; omega) (by show 2 * (t.val - 2) + 3 < _; omega))); iexact He
    iexact Hat
  iintro %S' ⟨%hS', Ho, Hat, Hnew⟩
  obtain ⟨hsub, hdut, hcnt⟩ := hS'
  have hdut' : S' ⊆ Finset.range 13 := by rw [cr_duties] at hdut; exact hdut
  have hcard : t.val - 1 ≤ S'.card := by
    rw [cr_duties, cr_expect, Finset.card_sdiff_of_subset hdut', Finset.card_range] at hcnt
    have := Finset.card_le_card hdut'
    rw [Finset.card_range] at this
    have e3 : (1#32 : BitVec 32).toNat = 1 := rfl
    omega
  have hj : ∃ j ∈ S', t.val ≤ j + 2 := by
    by_contra hn
    push Not at hn
    have : S' ⊆ Finset.range (t.val - 2) := fun j hj => Finset.mem_range.mpr (by have := hn j hj; omega)
    have := Finset.card_le_card this
    rw [Finset.card_range] at this
    omega
  obtain ⟨j, hjS, hj⟩ := hj
  have hnew : bigSep (S' \ S) (fun d => (Rd (F := F) m).payload ((c : Thread nD τ), .reg crS) 0 d) = bigSep (S' \ S) (fun j => crPay c j) :=
    bigSep_congr fun d _ => cr_payload m c d
  ihave #Hnew' := (Entails.of_eq hnew) $$ Hnew
  have hun : iprop(bigSep S (fun j => crPay (F := F) c j) ∗ bigSep (S' \ S) (fun j => crPay c j)) ⊢ bigSep S' (fun j => crPay c j) := by
    refine Entails.of_eq ?_
    conv_rhs => rw [← Finset.union_sdiff_of_subset hsub]
    exact (bigSep_union Finset.disjoint_sdiff).symm
  ihave #Hall := hun $$ [Hpay Hnew']
  · isplitr; · iexact Hpay
    iexact Hnew'
  have hrel : bigSep S' (fun j => crPay (F := F) c j) ⊢ released ES (nxt c, par t) (t.val / 2 + 1) :=
    (bigSep_elim (Φ := fun j => crPay (F := F) c j) hjS).trans (crPay_released c t h2 j hj)
  ihave #Hr := hrel $$ Hall
  rw [wp_ret]; imodintro
  iapply Hk
  isplitl [Hat]
  · iexists S'
    isplitr; · ipureintro; exact ⟨hdut', by omega⟩
    isplitl [Hat]
    · rw [show t.val + 1 - 2 = t.val - 2 + (1#32 : BitVec 32).toNat by
        have e3 : (1#32 : BitVec 32).toNat = 1 := rfl
        omega]
      iexact Hat
    iexact Hall
  isplitr; · iexact Hr
  iexists _; iexact Ho

/-- The credit after step `t`, with the slot released. -/
theorem wp_give (t : Fin 15) (h : t.val ≤ 12) (Q : PUnit → sProp 𝕄) :
    iprop(env m K J ∗ rdrs c t.val ∗ slotAny (c, par t) ∗ dutyTok ER (cell (prv c) kcr) 0 t.val ∗ ow c (Orun c (t.val + 1) + Ocr c t)
        ∗ ((rdrs c (t.val + 1) ∗ ow c (Orun c (t.val + 1))) -∗ Q ⟨⟩))
      ⊢ wpc c (give (prv c)) Q := by
  unfold give
  simp only [semSignalWord, Prog.lift, Prog.bind_op, Prog.bind_ret, Prog.pure_eq_ret]
  unfold ow rdrs
  iintro ⟨#He, Hr, Hs, Ht, ⟨%W, Ho⟩, Hk⟩
  ihave Hr := (pair_at (fun p => rdr c t.val p) t).1 $$ Hr
  unfold rdr
  rw [cnt_par t h, cnt_opp t h]
  icases Hr with ⟨⟨Ha, -⟩, Hb, #Hb'⟩
  imod (slot_release ES (k := (c, par t)) (ι := J (c, par t)) (Set.mem_univ _) (slot_excl (F := F) (c, par t)) (t.val / 2 + 1)) $$ [Ha Hs] with ⟨Ha, #Ha'⟩
  · isplitr; · iapply (env_slot m K J (c, par t)); iexact He
    isplitl [Ha] <;> iassumption
  have hO : Orun c (t.val + 1) + Ocr c t = Orun c (t.val + 1) + tallyAt (cell (prv c) kcr) t.val 1 := by unfold Ocr; rw [if_pos h]
  iapply (Rounds.wp_signal 𝒱₀ ER (Rd m) (c : Thread nD τ) none (dst := (prv c : Thread nD τ)) (κ := K (prv c, kcr)) (sem := crS) (r := 0)
      (d := t.val) (k' := 1) (by rw [cr_duties]; exact Finset.mem_range.mpr (by omega)) (amount_cell m (prv c) kcr 0 t.val) t.val
      (Orun c (t.val + 1)) hO) $$ [Ho Ht]
  · isplitr; · iapply (env_cell m K J (prv c) kcr); iexact He
    isplitl [Ho]; · iexact Ho
    isplitl [Ht]; · iexact Ht
    isplitr
    · iapply (Entails.of_eq (cr_payload m (prv c) t.val).symm)
      unfold crPay
      rw [nxt_prv]
      isplitr; · iexact Ha'
      iexact Hb'
    iapply (env_reached m K J (prv c) kcr); iexact He
  iintro Ho
  rw [wp_ret]; imodintro
  iapply Hk
  isplitl [Ha Hb]
  · iapply (pair_at (fun p => rdr c (t.val + 1) p) t).2
    unfold rdr
    rw [cnt_par_succ t h, cnt_opp_succ t h]
    isplitl [Ha]
    · isplitl [Ha]; · iexact Ha
      iexact Ha'
    · isplitl [Hb]; · iexact Hb
      iexact Hb'
  iexists _; iexact Ho

/-! ## The copies of a step -/

def exRes (t : Fin 15) : sProp 𝕄 :=
  iprop(atPos ER (cell c (kx 0 t)) 0 ∅ 0 ∗ atPos ER (cell c (kx 1 t)) 0 ∅ 0 ∗ atPos ER (cell c (kx 2 t)) 0 ∅ 0 ∗ atPos ER (cell c (kx 3 t)) 0 ∅ 0
    ∗ dutyTok ER (cell c (kx 0 t)) 0 0 ∗ dutyTok ER (cell (nxt c) (kx 1 t)) 0 0 ∗ dutyTok ER (cell c (kx 2 t)) 0 0 ∗ dutyTok ER (cell (nxt c) (kx 3 t)) 0 0
    ∗ cred (tallyAt (cell c (kx 1 t)) 0 NC) ∗ cred (tallyAt (cell c (kx 3 t)) 0 NM))

theorem Above_back (t : Fin 15) {b : ℕ} (h : b ≤ 2 + 2 * t.val) : Above b (Orun c (t.val + 1) + Ocr c t) :=
  (Above_Orun c (by omega) (by omega)).add (Above_Ocr c t (by omega))

theorem csem0 (t : Fin 15) : csem (kx 0 t) = .dma (sem15 cc0_scratch8 t) := rfl
theorem csem1 (t : Fin 15) : csem (kx 1 t) = .dma (sem15 cc0_scratch9 t) := rfl
theorem csem2 (t : Fin 15) : csem (kx 2 t) = .dma (sem15 cc0_scratch10 t) := rfl
theorem csem3 (t : Fin 15) : csem (kx 3 t) = .dma (sem15 cc0_scratch11 t) := rfl
theorem amtC (p : Fin 2) (q : DmaSem sig) : (ctxS p).view.amount (.dma q) = NC := rfl
theorem amtM (p : Fin 2) (q : DmaSem sig) : (msS p).view.amount (.dma q) = NM := rfl
theorem amt0 (t : Fin 15) : amt (kx 0 t) = NC := rfl
theorem amt1 (t : Fin 15) : amt (kx 1 t) = NC := rfl
theorem amt2 (t : Fin 15) : amt (kx 2 t) = NM := rfl
theorem amt3 (t : Fin 15) : amt (kx 3 t) = NM := rfl

theorem credC (o : Fin 4 → ℕ) (ho) : (ctxC o ho).view.dmaCredit = NC := rfl
theorem credM (o : Fin 4 → ℕ) (ho) : (msC o ho).view.dmaCredit = NM := rfl
theorem credCS (p : Fin 2) : (ctxS p).view.dmaCredit = NC := rfl
theorem credMS (p : Fin 2) : (msS p).view.dmaCredit = NM := rfl

/-- A wait for a copy of a view's size. -/
theorem wait_amt {sp sp' : Space} {s s' : Shape} {e e' : EltTy} {sem : DmaSem sig} {src : Memref sig .tc sp' s' e'} {dst : Memref sig .tc sp s e}
    {hsrc : src.view.WordExact} {hdst : dst.view.WordExact} {N : ℕ} (h : dst.view.dmaCredit = N) (K' : PUnit → sProp 𝕄) :
    wpE (defs₀ (F := F)) 𝒱₀ (c : Thread nD τ) none Set.univ (.waitDma2 sem src dst hsrc hdst) K' = waitSpec (c : Thread nD τ) Set.univ (.dma sem) N K' := by
  subst h; exact wpE_waitDma2_eq (c := (c : Thread nD τ)) 𝒱₀ none Set.univ K'

theorem pay0 (t : Fin 15) : pay m (kx 0 t) c 0 = ctxPts c (sChunk c t) (accC m t.val c) := rfl
theorem pay1 (t : Fin 15) : pay m (kx 1 t) c 0 = recvC m c t := rfl
theorem pay2 (t : Fin 15) : pay m (kx 2 t) c 0 = msPts c (sChunk c t) (accM m t.val c) := rfl
theorem pay3 (t : Fin 15) : pay m (kx 3 t) c 0 = recvM m c t := rfl

theorem wpc_ret {α : Type} (a : α) (Q : α → sProp 𝕄) : Q a ⊢ wpc c (Prog.ret a) Q := by
  unfold wpc; rw [wp_ret]; exact fupd_intro

theorem wp_exchange (t : Fin 15) (Q : PUnit → sProp 𝕄) :
    iprop(env m K J ∗ ((c : Thread nD τ).loc cc0_scratch0 ↦{fullShare} accC m t.val c) ∗ ((c : Thread nD τ).loc cc0_scratch1 ↦{fullShare} accM m t.val c)
        ∗ slotAny (nxt c, par t) ∗ exRes c t ∗ ow c (Orun c t.val)
        ∗ ((((c : Thread nD τ).loc cc0_scratch0 ↦{fullShare} accC m t.val c) ∗ ((c : Thread nD τ).loc cc0_scratch1 ↦{fullShare} accM m t.val c)
            ∗ recvC m c t ∗ recvM m c t
            ∗ (semVal (cell c (kx 0 t)) 0 ∗ semVal (cell c (kx 1 t)) 0 ∗ semVal (cell c (kx 2 t)) 0 ∗ semVal (cell c (kx 3 t)) 0)
            ∗ ow c (Orun c (t.val + 1) + Ocr c t)) -∗ Q ⟨⟩))
      ⊢ wpc c (exchange (nxt c) (nxt c) t (par t) ![(sChunk c t).val, 0, 0, 0] (inbC (sChunk c t)) ![(sChunk c t).val, 0, 0, 0] (inbM (sChunk c t))) Q := by
  unfold exchange await
  simp only [Prog.lift, Prog.bind_op, Prog.bind_ret, Prog.pure_eq_ret]
  unfold exRes slotAny
  iintro ⟨#He, Hc, Hm, ⟨⟨%fn, Hsc⟩, %gn, Hsm⟩, ⟨Ha0, Ha1, Ha2, Ha3, Ht0, Ht1, Ht2, Ht3, Hc1, Hc3⟩, Ho, Hk⟩
  ihave Hc := (ctx_split c (sChunk c t) (accC m t.val c)).1 $$ Hc
  icases Hc with ⟨Hc, Hco⟩
  ihave Hm := (ms_split c (sChunk c t) (accM m t.val c)).1 $$ Hm
  icases Hm with ⟨Hm, Hmo⟩
  ihave Hc := (Entails.of_eq (ctxPts_eq c (sChunk c t) (accC m t.val c))) $$ Hc
  ihave Hm := (Entails.of_eq (msPts_eq c (sChunk c t) (accM m t.val c))) $$ Hm
  ihave Hsc := (Entails.of_eq (ctxSlot_eq (nxt c) (par t) fn)) $$ Hsc
  ihave Hsm := (Entails.of_eq (msSlot_eq (nxt c) (par t) gn)) $$ Hsm
  rw [Orun_succ c t]
  unfold Ost
  rw [← add_assoc, ← add_assoc]
  iapply (wp_send m K J c (nxt c) rfl (kx 0 t) (kx 1 t) (dut_kx 0 t) (dut_kx 1 t) (csem0 t) (csem1 t) (src := ctxC ![(sChunk c t).val, 0, 0, 0] (inbC (sChunk c t))) (dst := ctxS (par t)) (accC m t.val c) fn NC (amtC _ _) (amt0 t) (amt1 t)
      (Orun c (t.val + 1) + Ocr c t + tallyAt (cell (nxt c) (kx 3 t)) 0 NM) (pay_sendC m c t) (pay_recvC m c t fn)) $$ [Hc Hsc Ho Ht0 Ht1]
  · isplitr; · iexact He
    isplitl [Hc]; · iexact Hc
    isplitl [Hsc]; · iexact Hsc
    isplitl [Ho]; · iexact Ho
    isplitl [Ht0] <;> iassumption
  iintro ⟨Hc0, Ho⟩
  iapply (wp_send m K J c (nxt c) rfl (kx 2 t) (kx 3 t) (dut_kx 2 t) (dut_kx 3 t) (csem2 t) (csem3 t) (src := msC ![(sChunk c t).val, 0, 0, 0] (inbM (sChunk c t))) (dst := msS (par t)) (accM m t.val c) gn NM (amtM _ _) (amt2 t) (amt3 t)
      (Orun c (t.val + 1) + Ocr c t) (pay_sendM m c t) (pay_recvM m c t gn)) $$ [Hm Hsm Ho Ht2 Ht3]
  · isplitr; · iexact He
    isplitl [Hm]; · iexact Hm
    isplitl [Hsm]; · iexact Hsm
    isplitl [Ho]; · iexact Ho
    isplitl [Ht2] <;> iassumption
  iintro ⟨Hc2, Ho⟩
  iapply (wp_wait_cell m K J c (kx 0 t) rfl (csem0 t) (wait_amt c ((credC _ _).trans (amt0 t).symm)) (Orun c (t.val + 1) + Ocr c t)
      (Above_back c t (by show 0 ≤ _; omega))) $$ [Hc0 Ho Ha0]
  · isplitr; · iexact He
    isplitl [Hc0]; · iexact Hc0
    isplitl [Ho]; · iexact Ho
    iexact Ha0
  iintro ⟨Ho, Hp0, Hz0⟩
  iapply (wp_wait_cell m K J c (kx 1 t) rfl (csem1 t) (wait_amt c ((credCS _).trans (amt1 t).symm)) (Orun c (t.val + 1) + Ocr c t)
      (Above_back c t (by show 2 + 2 * t.val ≤ _; omega))) $$ [Hc1 Ho Ha1]
  · isplitr; · iexact He
    isplitl [Hc1]; · iexact Hc1
    isplitl [Ho]; · iexact Ho
    iexact Ha1
  iintro ⟨Ho, Hp1, Hz1⟩
  iapply (wp_wait_cell m K J c (kx 2 t) rfl (csem2 t) (wait_amt c ((credM _ _).trans (amt2 t).symm)) (Orun c (t.val + 1) + Ocr c t)
      (Above_back c t (by show 0 ≤ _; omega))) $$ [Hc2 Ho Ha2]
  · isplitr; · iexact He
    isplitl [Hc2]; · iexact Hc2
    isplitl [Ho]; · iexact Ho
    iexact Ha2
  iintro ⟨Ho, Hp2, Hz2⟩
  iapply (wp_wait_cell m K J c (kx 3 t) rfl (csem3 t) (wait_amt c ((credMS _).trans (amt3 t).symm)) (Orun c (t.val + 1) + Ocr c t)
      (Above_back c t (by show 2 + 2 * t.val ≤ _; omega))) $$ [Hc3 Ho Ha3]
  · isplitr; · iexact He
    isplitl [Hc3]; · iexact Hc3
    isplitl [Ho]; · iexact Ho
    iexact Ha3
  iintro ⟨Ho, Hp3, Hz3⟩
  ihave Hp0 := (Entails.of_eq (pay0 m c t)) $$ Hp0
  ihave Hp1 := (Entails.of_eq (pay1 m c t)) $$ Hp1
  ihave Hp2 := (Entails.of_eq (pay2 m c t)) $$ Hp2
  ihave Hp3 := (Entails.of_eq (pay3 m c t)) $$ Hp3
  ihave Hc := (ctx_split c (sChunk c t) (accC m t.val c)).2 $$ [Hp0 Hco]
  · isplitl [Hp0]; · iexact Hp0
    iexact Hco
  ihave Hm := (ms_split c (sChunk c t) (accM m t.val c)).2 $$ [Hp2 Hmo]
  · isplitl [Hp2]; · iexact Hp2
    iexact Hmo
  iapply (wpc_ret c)
  iapply Hk
  isplitl [Hc]; · iexact Hc
  isplitl [Hm]; · iexact Hm
  isplitl [Hp1]; · iexact Hp1
  isplitl [Hp3]; · iexact Hp3
  isplitr [Ho]
  · isplitl [Hz0]; · iexact Hz0
    isplitl [Hz1]; · iexact Hz1
    isplitl [Hz2] <;> iassumption
  iexact Ho

/-! ## The merge of a step -/

theorem msRow_subset (p u : Fin 2) : msR.view.setOn (Rect.unit (s := S2x2x8x128) ![p.val, u.val, 0, 0] S1x1x8x128.size (inbMsR1 p u)).toLoadRect.set ⊆ (msS p).view.set := by
  rw [setOn_whole, set_msS]
  intro i hi
  have h := Rect.mem_set_unit.mp hi
  refine Rect.mem_set_unit.mpr fun (a : Fin 4) => ?_
  have h0 := h 0
  have h1 := h 1
  have h2 := h 2
  have h3 := h 3
  have hu := u.isLt
  fin_cases a <;> simp at h0 h1 h2 h3 ⊢ <;> omega
theorem ctxRow_subset (p : Fin 2) : ctxR.view.setOn (Rect.unit (s := S2x8x128x128) ![p.val, 0, 0, 0] S1x8x128x128.size (inbCtxR p)).toLoadRect.set ⊆ (ctxS p).view.set := by
  rw [setOn_whole, set_ctxS]

theorem wp_merge (t : Fin 15) (Q : PUnit → sProp 𝕄) :
    iprop(((c : Thread nD τ).loc cc0_scratch0 ↦{fullShare} accC m t.val c) ∗ ((c : Thread nD τ).loc cc0_scratch1 ↦{fullShare} accM m t.val c)
            ∗ recvC m c t ∗ recvM m c t
        ∗ ((((c : Thread nD τ).loc cc0_scratch0 ↦{fullShare} accC m (t.val + 1) c) ∗ ((c : Thread nD τ).loc cc0_scratch1 ↦{fullShare} accM m (t.val + 1) c)
            ∗ slotAny (c, par t)) -∗ Q ⟨⟩))
      ⊢ wpc c (merge (par t) ![(rChunk c t).val, (0 : Fin 2).val, 0, 0] (inbM1 (rChunk c t) 0) ![(rChunk c t).val, (1 : Fin 2).val, 0, 0] (inbM1 (rChunk c t) 1) ![(rChunk c t).val, 0, 0, 0] (inbC (rChunk c t))) Q := by
  unfold merge
  simp only [Prog.lift, Prog.bind_op, Prog.bind_ret, Prog.pure_eq_ret]
  unfold recvC recvM slotAny
  iintro ⟨Hc, Hm, ⟨%f, %hf, Hsc⟩, ⟨%g, %hg, Hsm⟩, Hk⟩
  ihave Hsc := (Entails.of_eq (ctxSlot_eq' c (par t) f)) $$ Hsc
  ihave Hsm := (Entails.of_eq (msSlot_eq' c (par t) g)) $$ Hsm
  iapply (wp_load 𝒱₀ (c : Thread nD τ) none Set.univ (m := msM) (Finset.subset_univ _)) $$ Hm; iintro Hm
  iapply (wp_load 𝒱₀ (c : Thread nD τ) none Set.univ (m := msM) (Finset.subset_univ _)) $$ Hm; iintro Hm
  iapply (wp_load 𝒱₀ (c : Thread nD τ) none Set.univ (m := msR) (msRow_subset (par t) 0)) $$ Hsm; iintro Hsm
  iapply (wp_load 𝒱₀ (c : Thread nD τ) none Set.univ (m := msR) (msRow_subset (par t) 1)) $$ Hsm; iintro Hsm
  iapply (wp_load 𝒱₀ (c : Thread nD τ) none Set.univ (m := msM) (Finset.subset_univ _)) $$ Hm; iintro Hm
  iapply (wp_store 𝒱₀ (c : Thread nD τ) none Set.univ (m := msM) (r := Rect.unit (s := S16x2x8x128) ![(rChunk c t).val, (0 : Fin 2).val, 0, 0] S1x1x8x128.size (inbM1 (rChunk c t) 0)) (Mk := Finset.univ) (Finset.subset_univ _)) $$ Hm; iintro Hm
  iapply (wp_load 𝒱₀ (c : Thread nD τ) none Set.univ (m := msM) (Finset.subset_univ _)) $$ Hm; iintro Hm
  iapply (wp_store 𝒱₀ (c : Thread nD τ) none Set.univ (m := msM) (r := Rect.unit (s := S16x2x8x128) ![(rChunk c t).val, (1 : Fin 2).val, 0, 0] S1x1x8x128.size (inbM1 (rChunk c t) 1)) (Mk := Finset.univ) (Finset.subset_univ _)) $$ Hm; iintro Hm
  iapply (wp_load 𝒱₀ (c : Thread nD τ) none Set.univ (m := ctxM) (Finset.subset_univ _)) $$ Hc; iintro Hc
  iapply (wp_load 𝒱₀ (c : Thread nD τ) none Set.univ (m := ctxR) (ctxRow_subset (par t))) $$ Hsc; iintro Hsc
  iapply (wp_load 𝒱₀ (c : Thread nD τ) none Set.univ (m := ctxM) (Finset.subset_univ _)) $$ Hc; iintro Hc
  iapply (wp_store 𝒱₀ (c : Thread nD τ) none Set.univ (m := ctxM) (r := Rect.unit (s := S16x8x128x128) ![(rChunk c t).val, 0, 0, 0] S1x8x128x128.size (inbC (rChunk c t))) (Mk := Finset.univ) (Finset.subset_univ _)) $$ Hc; iintro Hc
  rw [slot_rdM (par t) 0 (rChunk c t) g _ hg, slot_rdM (par t) 1 (rChunk c t) g _ hg, slot_rdC (par t) (rChunk c t) f _ hf]
  iapply (wpc_ret c)
  iapply Hk
  rw [accC_succ, accM_succ]
  isplitl [Hc]; · iexact Hc
  isplitl [Hm]; · iexact Hm
  isplitl [Hsc]
  · iexists f; iapply (Entails.of_eq (ctxSlot_eq' c (par t) f).symm); iexact Hsc
  iexists g; iapply (Entails.of_eq (msSlot_eq' c (par t) g).symm); iexact Hsm

/-! ## The step -/

theorem wp_takeOpt (t : Fin 15) (Q : PUnit → sProp 𝕄) :
    iprop(env m K J ∗ crSt c t.val ∗ (if 2 ≤ t.val then cred (tallyAt (cell c kcr) (t.val - 2) 1) else iprop(emp))
        ∗ released ES (nxt c, 0) 1 ∗ released ES (nxt c, 1) 1 ∗ ow c (Orun c t.val)
        ∗ ((crSt c (t.val + 1) ∗ released ES (nxt c, par t) (t.val / 2 + 1) ∗ ow c (Orun c t.val)) -∗ Q ⟨⟩))
      ⊢ wpc c (if 2 ≤ t.val then take else pure ⟨⟩) Q := by
  by_cases h : 2 ≤ t.val
  · rw [if_pos h, if_pos h]
    iintro ⟨He, Hs, Hc, -, -, Ho, Hk⟩
    iapply (wp_take m K J c t h Q)
    isplitl [He]; · iexact He
    isplitl [Hs]; · iexact Hs
    isplitl [Hc]; · iexact Hc
    isplitl [Ho]; · iexact Ho
    iexact Hk
  · rw [if_neg h, if_neg h]
    iintro ⟨-, Hs, -, #H0, #H1, Ho, Hk⟩
    iapply (wpc_ret c)
    iapply Hk
    isplitl [Hs]
    · unfold crSt
      rw [show t.val + 1 - 2 = t.val - 2 by omega]
      iexact Hs
    isplitr
    · have e : t = 0 ∨ t = 1 := by
        have : t.val = 0 ∨ t.val = 1 := by omega
        rcases this with h | h
        · exact .inl (Fin.ext h)
        · exact .inr (Fin.ext h)
      rcases e with rfl | rfl
      · iexact H0
      · iexact H1
    iexact Ho

theorem wp_giveOpt (t : Fin 15) (Q : PUnit → sProp 𝕄) :
    iprop(env m K J ∗ rdrs c t.val ∗ slotAny (c, par t) ∗ (if t.val ≤ 12 then dutyTok ER (cell (prv c) kcr) 0 t.val else iprop(emp))
        ∗ ow c (Orun c (t.val + 1) + Ocr c t)
        ∗ ((rdrs c (t.val + 1) ∗ (if t.val ≤ 12 then iprop(emp) else slotAny (c, par t)) ∗ ow c (Orun c (t.val + 1))) -∗ Q ⟨⟩))
      ⊢ wpc c (if t.val ≤ 12 then give (prv c) else pure ⟨⟩) Q := by
  by_cases h : t.val ≤ 12
  · rw [if_pos h, if_pos h, if_pos h]
    iintro ⟨He, Hr, Hs, Ht, Ho, Hk⟩
    iapply (wp_give m K J c t h Q)
    isplitl [He]; · iexact He
    isplitl [Hr]; · iexact Hr
    isplitl [Hs]; · iexact Hs
    isplitl [Ht]; · iexact Ht
    isplitl [Ho]; · iexact Ho
    iintro ⟨Hr, Ho⟩
    iapply Hk
    isplitl [Hr]; · iexact Hr
    isplitr; · iempintro
    iexact Ho
  · rw [if_neg h, if_neg h, if_neg h]
    have e : Orun c (t.val + 1) + Ocr c t = Orun c (t.val + 1) := by unfold Ocr; rw [if_neg h, add_zero]
    rw [e]
    iintro ⟨-, Hr, Hs, -, Ho, Hk⟩
    iapply (wpc_ret c)
    iapply Hk
    isplitl [Hr]
    · unfold rdrs rdr
      rw [cnt_hi t h, cnt_hi t h]
      iexact Hr
    isplitl [Hs]; · iexact Hs
    iexact Ho

theorem step_split (t : Fin 15) : bigSep (fr t.val) (stepRes (F := F) c)
    ⊢ iprop((exRes c t ∗ writeTok ES (nxt c, par t) (t.val / 2 + 1)
      ∗ (if 2 ≤ t.val then cred (tallyAt (cell c kcr) (t.val - 2) 1) else iprop(emp))
      ∗ (if t.val ≤ 12 then dutyTok ER (cell (prv c) kcr) 0 t.val else iprop(emp))) ∗ bigSep (fr (t.val + 1)) (stepRes c)) := by
  rw [fr_succ, bigSep_ins (fr_notMem t)]
  unfold stepRes exRes
  iintro ⟨⟨H0, H1, H2, H3, H4, H5, H6, H7, H8, H9, H10, H11, H12⟩, H⟩
  isplitr [H]
  · isplitr [H10 H11 H12]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    isplitl [H10]; · iexact H10
    isplitl [H11] <;> iassumption
  iexact H

theorem wp_ringStep (t : Fin 15) (Q : PUnit → sProp 𝕄) :
    iprop((env m K J ∗ Jst m c t.val) ∗ ((env m K J ∗ Jst m c (t.val + 1)) -∗ Q ⟨⟩)) ⊢ wpc c (ringStep c t) Q := by
  unfold ringStep
  rw [core_can]
  unfold coreN
  unfold wpc
  simp only [wp_bind]
  unfold Jst
  iintro ⟨⟨#He, Hc, Hm, Hsr, Hdr, Hcr, Hrd, #Hr0, #Hr1, Ho⟩, Hk⟩
  ihave Hsr := (step_split c t) $$ Hsr
  icases Hsr with ⟨⟨Hex, Hwt, Hcc, Hdt⟩, Hsr⟩
  iapply (wp_takeOpt m K J c t _)
  isplitr; · iexact He
  isplitl [Hcr]; · iexact Hcr
  isplitl [Hcc]; · iexact Hcc
  isplitr; · iexact Hr0
  isplitr; · iexact Hr1
  isplitl [Ho]; · iexact Ho
  iintro ⟨Hcr, #Hrel, Ho⟩
  imod (slot_take ES (k := (nxt c, par t)) (S := slotAny (F := F) (nxt c, par t)) (ι := J (nxt c, par t)) (Es := Set.univ) (Set.mem_univ _) (t.val / 2 + 1)) $$ [Hwt] with Hsl
  · isplitr; · iapply (env_slot m K J (nxt c, par t)); iexact He
    isplitr; · iexact Hrel
    iexact Hwt
  iapply (wp_exchange m K J c t _)
  isplitr; · iexact He
  isplitl [Hc]; · iexact Hc
  isplitl [Hm]; · iexact Hm
  isplitl [Hsl]; · iexact Hsl
  isplitl [Hex]; · iexact Hex
  isplitl [Ho]; · iexact Ho
  iintro ⟨Hc, Hm, Hrc, Hrm, Hz, Ho⟩
  iapply (wp_merge m c t _)
  isplitl [Hc]; · iexact Hc
  isplitl [Hm]; · iexact Hm
  isplitl [Hrc]; · iexact Hrc
  isplitl [Hrm]; · iexact Hrm
  iintro ⟨Hc, Hm, Hs⟩
  iapply (wp_giveOpt m K J c t _)
  isplitr; · iexact He
  isplitl [Hrd]; · iexact Hrd
  isplitl [Hs]; · iexact Hs
  isplitl [Hdt]; · iexact Hdt
  isplitl [Ho]; · iexact Ho
  iintro ⟨Hrd, Hs, Ho⟩
  iapply Hk
  isplitr; · iexact He
  isplitl [Hc]; · iexact Hc
  isplitl [Hm]; · iexact Hm
  isplitl [Hsr]; · iexact Hsr
  isplitl [Hdr Hz Hs]
  · rw [til_succ, bigSep_ins (til_notMem t)]
    isplitr [Hdr]
    · unfold doneRes
      isplitl [Hz] <;> iassumption
    iexact Hdr
  isplitl [Hcr]; · iexact Hcr
  isplitl [Hrd]; · iexact Hrd
  isplitr; · iexact Hr0
  isplitr; · iexact Hr1
  iexact Ho

end Cert.KernelIdeal.Ring
end
end
-- ==== Proof.Hops.lean ====
module

public import proofs.«01_k».proof.Proof.RingStep

@[expose] public section

set_option maxRecDepth 8000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)
variable (K : Dev nD × CK → ℕ) (J : Dev nD × Fin 2 → ℕ) (c : Dev nD)

/-! ## The gather -/

theorem csem4 (t : Fin 15) : csem (kx 4 t) = .dma (sem15 cc0_scratch12 t) := rfl
theorem csem5 (t : Fin 15) : csem (kx 5 t) = .dma (sem15 cc0_scratch13 t) := rfl
theorem amt4 (t : Fin 15) : amt (kx 4 t) = NO := rfl
theorem amt5 (t : Fin 15) : amt (kx 5 t) = NO := rfl
theorem credO (o : Fin 3 → ℕ) (ho) : (outC o ho).view.dmaCredit = NO := rfl
theorem amtO (o : Fin 3 → ℕ) (ho) (q : DmaSem sig) : (outC o ho).view.amount (.dma q) = NO := rfl
theorem pay4 (t : Fin 15) : pay m (kx 4 t) c 0 = outPts c (oChunk c t) (outF m) := rfl
theorem pay5 (t : Fin 15) : pay m (kx 5 t) c 0 = outPts c (oChunk (prv c) t) (outF m) := rfl

def agRes (t : Fin 15) : sProp 𝕄 :=
  iprop(atPos ER (cell c (kx 4 t)) 0 ∅ 0 ∗ atPos ER (cell c (kx 5 t)) 0 ∅ 0
    ∗ dutyTok ER (cell c (kx 4 t)) 0 0 ∗ dutyTok ER (cell (nxt c) (kx 5 t)) 0 0 ∗ cred (tallyAt (cell c (kx 5 t)) 0 NO))
def agDone (t : Fin 15) : sProp 𝕄 := iprop(semVal (cell c (kx 4 t)) 0 ∗ semVal (cell c (kx 5 t)) 0)
/-- The slice of the right neighbour's result that hop `t` writes. -/
def agDst (t : Fin 15) : sProp 𝕄 := iprop(∃ f, outPts (nxt c) (oChunk c t) f)

def held (n : ℕ) : Finset (Fin 16) := Finset.univ.filter fun k => k.val ≤ n
theorem held_zero : held 0 = {0} := by decide
theorem held_end : held 15 = Finset.univ := by decide
theorem held_mem (t : Fin 15) : t.castSucc ∈ held t.val := by revert t; decide
theorem held_succ (t : Fin 15) : held (t.val + 1) = insert t.succ (held t.val) := by revert t; decide
theorem held_notMem (t : Fin 15) : t.succ ∉ held t.val := by revert t; decide

def Hst (n : ℕ) : sProp 𝕄 :=
  iprop(bigSep (held n) (fun k => outPts c (och c k) (outF m)) ∗ bigSep (fr n) (agRes c) ∗ bigSep (fr n) (agDst c) ∗ bigSep (til n) (agDone c) ∗ ow c (Oag c n))

theorem held_take (t : Fin 15) : bigSep (held t.val) (fun k => outPts c (och c k) (outF m))
    = iprop(outPts c (oChunk c t) (outF m) ∗ bigSep ((held t.val).erase t.castSucc) (fun k => outPts c (och c k) (outF m))) := by
  rw [bigSep_erase (held_mem t), och_castSucc]; rfl
theorem held_put (t : Fin 15) : bigSep (held (t.val + 1)) (fun k => outPts c (och c k) (outF m))
    = iprop(outPts c (oChunk (prv c) t) (outF m) ∗ bigSep (held t.val) (fun k => outPts c (och c k) (outF m))) := by
  rw [held_succ, bigSep_insert (held_notMem t), och_succ]; rfl

theorem wp_hop (t : Fin 15) (Q : PUnit → sProp 𝕄) :
    iprop((env m K J ∗ Hst m c t.val) ∗ ((env m K J ∗ Hst m c (t.val + 1)) -∗ Q ⟨⟩)) ⊢ wpc c (hop c (nxt c) t) Q := by
  rw [hop_can]
  unfold hopN hopAt
  simp only [Prog.lift, Prog.bind_op, Prog.bind_ret, Prog.pure_eq_ret]
  unfold Hst
  rw [held_put, held_take, fr_succ, bigSep_ins (fr_notMem t), bigSep_ins (fr_notMem t), til_succ, bigSep_ins (til_notMem t)]
  iintro ⟨⟨#He, ⟨Hs, Hh⟩, ⟨Hr, Hrs⟩, ⟨Hd, Hds⟩, Hz, Ho⟩, Hk⟩
  unfold agDst agRes
  icases Hd with ⟨%fn, Hd⟩
  icases Hr with ⟨Ha4, Ha5, Ht4, Ht5, Hc5⟩
  ihave Hs := (Entails.of_eq (outPts_eq c (oChunk c t) (outF m))) $$ Hs
  ihave Hd := (Entails.of_eq (outPts_eq (nxt c) (oChunk c t) fn)) $$ Hd
  rw [Oag_succ c t]
  iapply (wp_send m K J c (nxt c) rfl (kx 4 t) (kx 5 t) (dut_kx 4 t) (dut_kx 5 t) (csem4 t) (csem5 t) (src := outC ![0, 128 * (oChunk c t).val, 0] (inbO (oChunk c t))) (dst := outC ![0, 128 * (oChunk c t).val, 0] (inbO (oChunk c t))) (outF m) fn NO (amtO _ _ _) (amt4 t) (amt5 t)
      (Oag c (t.val + 1)) (pay_sendO m c t) (pay_recvO m c t fn)) $$ [Hs Hd Ho Ht4 Ht5]
  · isplitr; · iexact He
    isplitl [Hs]; · iexact Hs
    isplitl [Hd]; · iexact Hd
    isplitl [Ho]; · iexact Ho
    isplitl [Ht4] <;> iassumption
  iintro ⟨Hc4, Ho⟩
  iapply (wp_wait_cell m K J c (kx 4 t) rfl (csem4 t) (wait_amt c ((credO _ _).trans (amt4 t).symm)) (Oag c (t.val + 1))
      (Above_Oag c (by show 0 < _; omega))) $$ [Hc4 Ho Ha4]
  · isplitr; · iexact He
    isplitl [Hc4]; · iexact Hc4
    isplitl [Ho]; · iexact Ho
    iexact Ha4
  iintro ⟨Ho, Hp4, Hz4⟩
  iapply (wp_wait_cell m K J c (kx 5 t) rfl (csem5 t) (wait_amt c ((credO _ _).trans (amt5 t).symm)) (Oag c (t.val + 1))
      (Above_Oag c (by show 100 + t.val < _; omega))) $$ [Hc5 Ho Ha5]
  · isplitr; · iexact He
    isplitl [Hc5]; · iexact Hc5
    isplitl [Ho]; · iexact Ho
    iexact Ha5
  iintro ⟨Ho, Hp5, Hz5⟩
  ihave Hp4 := (Entails.of_eq (pay4 m c t)) $$ Hp4
  ihave Hp5 := (Entails.of_eq (pay5 m c t)) $$ Hp5
  iapply (wpc_ret c)
  iapply Hk
  isplitr; · iexact He
  isplitl [Hp4 Hp5 Hh]
  · isplitl [Hp5]; · iexact Hp5
    isplitl [Hp4]; · iexact Hp4
    iexact Hh
  isplitl [Hrs]; · iexact Hrs
  isplitl [Hds]; · iexact Hds
  isplitl [Hz Hz4 Hz5]
  · isplitr [Hz]
    · unfold agDone; isplitl [Hz4] <;> iassumption
    iexact Hz
  iexact Ho

/-! ## The device's own slice -/

def finalAt (s : Fin 16) (o8 : Fin 4 → ℕ) (h8 : ∀ a, o8 a + S1x1x8x128.size a ≤ S16x2x8x128.size a)
    (o9 : Fin 4 → ℕ) (h9 : ∀ a, o9 a + S1x8x128x128.size a ≤ S16x8x128x128.size a)
    (o0 : Fin 3 → ℕ) (h0 : ∀ a, o0 a + S1x128x1024.size a ≤ S1x2048x1024.size a) : P F PUnit := do
  let s : Vec F S1x1x8x128 .f32 ← Prog.lift (.load msM (Rect.unit (s := S16x2x8x128) o8 S1x1x8x128.size h8).toLoadRect (View.loadsAt_vmem h_S1x1x8x128))
  let c : Vec F S1x8x128x128 .f32 ← Prog.lift (.load ctxM (Rect.unit (s := S16x8x128x128) o9 S1x8x128x128.size h9).toLoadRect (View.loadsAt_vmem h_S1x8x128x128))
  let a0 ← ldWo 0
  let a1 ← ldWo 1
  let a2 ← ldWo 2
  let a3 ← ldWo 3
  let a4 ← ldWo 4
  let a5 ← ldWo 5
  let a6 ← ldWo 6
  let a7 ← ldWo 7
  let _ : Vec F S1x128x1024 .f32 ← Prog.lift (.load outM (Rect.unit (s := S1x2048x1024) o0 S1x128x1024.size h0).toLoadRect (View.loadsAt_vmem h_S1x128x1024))
  Prog.lift (.store outM (Rect.unit (s := S1x2048x1024) o0 S1x128x1024.size h0)
    (k0_pay254 (k0_pay252 (k0_pay251 s) c) (k0_pay253 (k0_pay251 s) c a0 a1 a2 a3 a4 a5) a6 a7) Finset.univ (View.stores_vmem_bits_univ h_S1x128x1024 rfl) (.inl rfl))
theorem finalAt_congr {s : Fin 16} {o8 o8' o9 o9' : Fin 4 → ℕ} {o0 o0' : Fin 3 → ℕ} (e8 : o8 = o8') (e9 : o9 = o9') (e0 : o0 = o0') (h8 h8' h9 h9' h0 h0') :
    (finalAt s o8 h8 o9 h9 o0 h0 : P F PUnit) = finalAt s o8' h8' o9' h9' o0' h0' := by subst e8 e9 e0; rfl
theorem final_can (d : Dev nD) : (final d : P F PUnit)
    = finalAt (nxt d) ![(nxt d).val, (1 : Fin 2).val, 0, 0] (inbM1 (nxt d) 1) ![(nxt d).val, 0, 0, 0] (inbC (nxt d)) ![0, 128 * (nxt d).val, 0] (inbO (nxt d)) :=
  finalAt_congr (s := nxt d) (off38_can d) (off39_can d) (off40_can d) (k0_off38_inb d) _ (k0_off39_inb d) _ (k0_off40_inb d) _

theorem out_load_subset (s : Fin 16) : outM.view.setOn (Rect.unit (s := S1x2048x1024) ![0, 128 * s.val, 0] S1x128x1024.size (inbO s)).toLoadRect.set ⊆ outI s := by
  rw [setOn_whole]; show _ ⊆ (outC ![0, 128 * s.val, 0] (inbO s)).view.set; rw [set_outC]
theorem out_store_subset (s : Fin 16) : (outM.access (Rect.unit (s := S1x2048x1024) ![0, 128 * s.val, 0] S1x128x1024.size (inbO s))).setOn Finset.univ ⊆ outI s := by
  show (outM.access _).set ⊆ (outC ![0, 128 * s.val, 0] (inbO s)).view.set
  rw [set_outC]
  exact Finset.Subset.trans (le_of_eq (View.set_slice_whole cc0_stg3_0 _)) (Finset.Subset.refl _)

theorem own_slice (f : (cc0_stg3_0 : Ref sig .tc).ty.Contents (Elt F)) :
    ((c : Thread nD τ).loc cc0_stg3_0 ↦[outI (nxt c)]{fullShare}
        ((outM.access (Rect.unit (s := S1x2048x1024) ![0, 128 * (nxt c).val, 0] S1x128x1024.size (inbO (nxt c)))).write (Elt F) f (ownOut m c) Finset.univ) : sProp 𝕄)
      = outPts c (nxt c) (outF m) := by
  rw [outPts_eq']
  refine pointsTo_congr fun i hi => ?_
  have hi' : i ∈ (Rect.unit (s := S1x2048x1024) ![0, 128 * (nxt c).val, 0] S1x128x1024.size (inbO (nxt c))).set :=
    (Finset.ext_iff.mp (set_outC _ (inbO (nxt c))) i).mp hi
  exact outF_own m c f i (Rect.mem_set_unit.mp hi')

theorem wp_final (f : (cc0_stg3_0 : Ref sig .tc).ty.Contents (Elt F)) (Q : PUnit → sProp 𝕄) :
    iprop(((c : Thread nD τ).loc cc0_scratch0 ↦{fullShare} accC m 15 c) ∗ ((c : Thread nD τ).loc cc0_scratch1 ↦{fullShare} accM m 15 c)
        ∗ ((c : Thread nD τ).loc cc0_stg2_0 ↦{fullShare} wos m c) ∗ outPts c (nxt c) f
        ∗ ((((c : Thread nD τ).loc cc0_scratch0 ↦{fullShare} accC m 15 c) ∗ ((c : Thread nD τ).loc cc0_scratch1 ↦{fullShare} accM m 15 c)
            ∗ ((c : Thread nD τ).loc cc0_stg2_0 ↦{fullShare} wos m c) ∗ outPts c (nxt c) (outF m)) -∗ Q ⟨⟩))
      ⊢ wpc c (final c) Q := by
  rw [final_can]
  unfold finalAt ldWo
  simp only [Prog.lift, Prog.bind_op, Prog.bind_ret, Prog.pure_eq_ret]
  iintro ⟨Hc, Hm, Hw, Ho, Hk⟩
  ihave Ho := (Entails.of_eq (outPts_eq' c (nxt c) f)) $$ Ho
  iapply (wp_load 𝒱₀ (c : Thread nD τ) none Set.univ (m := msM) (Finset.subset_univ _)) $$ Hm; iintro Hm
  iapply (wp_load 𝒱₀ (c : Thread nD τ) none Set.univ (m := ctxM) (Finset.subset_univ _)) $$ Hc; iintro Hc
  iapply (wp_load 𝒱₀ (c : Thread nD τ) none Set.univ (m := woM) (Finset.subset_univ _)) $$ Hw; iintro Hw
  iapply (wp_load 𝒱₀ (c : Thread nD τ) none Set.univ (m := woM) (Finset.subset_univ _)) $$ Hw; iintro Hw
  iapply (wp_load 𝒱₀ (c : Thread nD τ) none Set.univ (m := woM) (Finset.subset_univ _)) $$ Hw; iintro Hw
  iapply (wp_load 𝒱₀ (c : Thread nD τ) none Set.univ (m := woM) (Finset.subset_univ _)) $$ Hw; iintro Hw
  iapply (wp_load 𝒱₀ (c : Thread nD τ) none Set.univ (m := woM) (Finset.subset_univ _)) $$ Hw; iintro Hw
  iapply (wp_load 𝒱₀ (c : Thread nD τ) none Set.univ (m := woM) (Finset.subset_univ _)) $$ Hw; iintro Hw
  iapply (wp_load 𝒱₀ (c : Thread nD τ) none Set.univ (m := woM) (Finset.subset_univ _)) $$ Hw; iintro Hw
  iapply (wp_load 𝒱₀ (c : Thread nD τ) none Set.univ (m := woM) (Finset.subset_univ _)) $$ Hw; iintro Hw
  iapply (wp_load 𝒱₀ (c : Thread nD τ) none Set.univ (m := outM) (out_load_subset (nxt c))) $$ Ho; iintro Ho
  iapply (wp_store 𝒱₀ (c : Thread nD τ) none Set.univ (m := outM) (r := Rect.unit (s := S1x2048x1024) ![0, 128 * (nxt c).val, 0] S1x128x1024.size (inbO (nxt c))) (Mk := Finset.univ) (out_store_subset (nxt c))) $$ Ho; iintro Ho
  iapply (wpc_ret c)
  iapply Hk
  isplitl [Hc]; · iexact Hc
  isplitl [Hm]; · iexact Hm
  isplitl [Hw]; · iexact Hw
  iapply (Entails.of_eq (own_slice m c f))
  iexact Ho

end Cert.KernelIdeal.Ring
end
end
-- ==== Proof.Heads.lean ====
module

public import proofs.«01_k».proof.Proof.Hops

@[expose] public section

set_option maxRecDepth 8000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)
variable (K : Dev nD × CK → ℕ) (J : Dev nD × Fin 2 → ℕ) (c : Dev nD)

/-! ## The heads at their closed offsets -/

theorem head_congr {d : Dev nD} {h : Fin 8} {x : FVec F S2048x1024 .f32} {o1 o1' : Trip → Fin 2 → ℕ} {o2 o2' o3 o3' o4 o4' : Trip → Fin 4 → ℕ}
    (e1 : o1 = o1') (e2 : o2 = o2') (e3 : o3 = o3') (e4 : o4 = o4') (h1 h1' h2 h2' h3 h3' h4 h4') :
    (head d h x o1 h1 o2 h2 o3 h3 o4 h4 : P F Unit) = head d h x o1' h1' o2' h2' o3' h3' o4' h4' := by subst e1 e2 e3 e4; rfl

def headN (d : Dev nD) (x : FVec F S2048x1024 .f32) (h : Fin 8) : P F PUnit :=
  head d h x (fun i => ![128 * i.val, 0]) inb1 (fun i => ![i.val, h.val, 0, 0]) (fun i => inb2' i h)
    (fun i => ![i.val, (0 : Fin 2).val, h.val, 0]) (fun i => inb3 i 0 h) (fun i => ![i.val, (1 : Fin 2).val, h.val, 0]) (fun i => inb3 i 1 h)

theorem chain_eq_run : (chain : P F PUnit) = (do
    let d ← Prog.lift .deviceId
    let x ← handshake (prv d)
    runThen (headN d x) (List.finRange 8) (rest d)) := by
  unfold chain
  have hl : List.finRange 8 = [0, 1, 2, 3, 4, 5, 6, 7] := by decide
  rw [hl]
  simp only [runThen, dev1_eq, headN]
  congr 1; funext d; congr 1; funext x
  rw [head_congr (h := 0) (funext k0_off1_eq) (funext k0_off2_eq) (funext k0_off3_eq) (funext k0_off4_eq) _ inb1 _ (fun i => inb2' i 0) _ (fun i => inb3 i 0 0) _ (fun i => inb3 i 1 0),
    head_congr (h := 1) (funext k0_off5_eq) (funext k0_off6_eq) (funext k0_off7_eq) (funext k0_off8_eq) _ inb1 _ (fun i => inb2' i 1) _ (fun i => inb3 i 0 1) _ (fun i => inb3 i 1 1),
    head_congr (h := 2) (funext k0_off9_eq) (funext k0_off10_eq) (funext k0_off11_eq) (funext k0_off12_eq) _ inb1 _ (fun i => inb2' i 2) _ (fun i => inb3 i 0 2) _ (fun i => inb3 i 1 2),
    head_congr (h := 3) (funext k0_off13_eq) (funext k0_off14_eq) (funext k0_off15_eq) (funext k0_off16_eq) _ inb1 _ (fun i => inb2' i 3) _ (fun i => inb3 i 0 3) _ (fun i => inb3 i 1 3),
    head_congr (h := 4) (funext k0_off17_eq) (funext k0_off18_eq) (funext k0_off19_eq) (funext k0_off20_eq) _ inb1 _ (fun i => inb2' i 4) _ (fun i => inb3 i 0 4) _ (fun i => inb3 i 1 4),
    head_congr (h := 5) (funext k0_off21_eq) (funext k0_off22_eq) (funext k0_off23_eq) (funext k0_off24_eq) _ inb1 _ (fun i => inb2' i 5) _ (fun i => inb3 i 0 5) _ (fun i => inb3 i 1 5),
    head_congr (h := 6) (funext k0_off25_eq) (funext k0_off26_eq) (funext k0_off27_eq) (funext k0_off28_eq) _ inb1 _ (fun i => inb2' i 6) _ (fun i => inb3 i 0 6) _ (fun i => inb3 i 1 6),
    head_congr (h := 7) (funext k0_off29_eq) (funext k0_off30_eq) (funext k0_off31_eq) (funext k0_off32_eq) _ inb1 _ (fun i => inb2' i 7) _ (fun i => inb3 i 0 7) _ (fun i => inb3 i 1 7)]
  rfl

theorem rest_eq_runs (d : Dev nD) : rest (F := F) d =
    runThen (ringStep d) (List.finRange 15) (final d >>= fun _ => runThen (fun j => hop d (nxt d) j) (List.finRange 15) (pure ⟨⟩)) := by
  have hl : List.finRange 15 = [0, 1, 2, 3, 4, 5, 6, 7, 8, 9, 10, 11, 12, 13, 14] := by decide
  rw [hl]; exact rest_eq_run d

/-! ## The query tiles of a head -/

def tileSt (h : Fin 8) (i : ℕ) : sProp 𝕄 :=
  iprop(∃ f g, ⌜ctxDone m c h.val i f ∧ msDone m c h.val i g⌝ ∗ ((c : Thread nD τ).loc cc0_scratch0 ↦{fullShare} f)
    ∗ ((c : Thread nD τ).loc cc0_scratch1 ↦{fullShare} g) ∗ ((c : Thread nD τ).loc cc0_scratch6 ↦{fullShare} qh m c h))

theorem wp_tile (h : Fin 8) (i : Trip) : tileSt m c h i.val
    ⊢ wpc c (tile (w2 c) (kh m c h) (vh m c h) i ![128 * i.val, 0] (inb1 i) ![i.val, h.val, 0, 0] (inb2' i h)
      ![i.val, (0 : Fin 2).val, h.val, 0] (inb3 i 0 h) ![i.val, (1 : Fin 2).val, h.val, 0] (inb3 i 1 h)) (fun _ => tileSt m c h (i.val + 1)) := by
  unfold tile
  simp only [Prog.lift, Prog.bind_op, Prog.bind_ret, Prog.pure_eq_ret]
  unfold tileSt
  iintro ⟨%f, %g, %hfg, Hc, Hm, Hq⟩
  iapply (wp_load 𝒱₀ (c : Thread nD τ) none Set.univ (m := qM) (Finset.subset_univ _)) $$ Hq; iintro Hq
  iapply (wp_load 𝒱₀ (c : Thread nD τ) none Set.univ (m := ctxM) (Finset.subset_univ _)) $$ Hc; iintro Hc
  iapply (wp_store 𝒱₀ (c : Thread nD τ) none Set.univ (m := ctxM) (r := Rect.unit (s := S16x8x128x128) ![i.val, h.val, 0, 0] S1x1x128x128.size (inb2' i h)) (Mk := Finset.univ) (Finset.subset_univ _)) $$ Hc; iintro Hc
  iapply (wp_load 𝒱₀ (c : Thread nD τ) none Set.univ (m := msM) (Finset.subset_univ _)) $$ Hm; iintro Hm
  iapply (wp_store 𝒱₀ (c : Thread nD τ) none Set.univ (m := msM) (r := Rect.unit (s := S16x2x8x128) ![i.val, (0 : Fin 2).val, h.val, 0] S1x1x1x128.size (inb3 i 0 h)) (Mk := Finset.univ) (Finset.subset_univ _)) $$ Hm; iintro Hm
  iapply (wp_load 𝒱₀ (c : Thread nD τ) none Set.univ (m := msM) (Finset.subset_univ _)) $$ Hm; iintro Hm
  iapply (wp_store 𝒱₀ (c : Thread nD τ) none Set.univ (m := msM) (r := Rect.unit (s := S16x2x8x128) ![i.val, (1 : Fin 2).val, h.val, 0] S1x1x1x128.size (inb3 i 1 h)) (Mk := Finset.univ) (Finset.subset_univ _)) $$ Hm; iintro Hm
  iapply (wpc_ret c)
  iexists (ctxTile m c h i f), (msTile m c h i g)
  isplitr; · ipureintro; exact ⟨ctxDone_tile m c h i hfg.1, msDone_tile m c h i hfg.2⟩
  isplitl [Hc]; · iexact Hc
  isplitl [Hm]; · iexact Hm
  iexact Hq

theorem wp_tiles (h : Fin 8) (Q : Unit → sProp 𝕄) :
    iprop(tileSt m c h 0 ∗ (tileSt m c h 16 -∗ Q ()))
      ⊢ wpc c (tiles c (kh m c h, vh m c h) (fun i => ![128 * i.val, 0]) inb1 (fun i => ![i.val, h.val, 0, 0]) (fun i => inb2' i h)
        (fun i => ![i.val, (0 : Fin 2).val, h.val, 0]) (fun i => inb3 i 0 h) (fun i => ![i.val, (1 : Fin 2).val, h.val, 0]) (fun i => inb3 i 1 h)) Q := by
  unfold tiles
  have e : tileSt m c h k0_t1_loop.trips = tileSt m c h 16 := by rw [trips_eq]
  iintro ⟨H, Hk⟩
  iapply (Scf.wp_for frame _ Set.univ _ _ _ k0_t1_ok ⟨⟩ _ (fun i _ => tileSt m c h i) (fun i _ => wp_tile m c h i))
  isplitl [H]; · iexact H
  iintro %acc H
  ihave H := (Entails.of_eq e) $$ H
  iapply Hk; iexact H

/-! ## One head -/

theorem sem2_val : ∀ t, (sem2 t).val = 4 + t.val := by decide
theorem kindOf_sem2 (t : Fin 2) : kindOf (.dma (sem2 t)) = none := by
  unfold kindOf; dsimp only; rw [dif_neg (by rw [sem2_val]; have := t.isLt; omega)]
theorem lv_sem2 (t : Fin 2) (ι : ℕ) : lv ((c : Thread nD τ), .dma (sem2 t)) ι = 0 := by
  unfold lv; dsimp only; rw [kindOf_sem2]
theorem env_mayWait_sem2 (t : Fin 2) {O : CellTallies nD τ sig ℕ} (h : Above 0 O) :
    env (F := F) m K J ⊢ MayWait (c : Thread nD τ) (.dma (sem2 t)) 0 O := by
  have h1 : env m K J ⊢ (levAts L lv : sProp 𝕄) := env_lev m K J
  have h2 : (levAts L lv : sProp 𝕄) ⊢ MayWait (c : Thread nD τ) (.dma (sem2 t)) 0 O := mayWait c _ 0 (by decide) (by rw [lv_sem2]; exact h)
  exact h1.trans h2

abbrev argK : Buf (Elt F) ((c : Thread nD τ).loc main_arg2) := m ((c : Thread nD τ).loc main_arg2)
abbrev argV : Buf (Elt F) ((c : Thread nD τ).loc main_arg3) := m ((c : Thread nD τ).loc main_arg3)

/-- What the heads hold and pass on. -/
def headSt (h : ℕ) : sProp 𝕄 :=
  iprop((∃ f, ⌜ctxDone m c h 0 f⌝ ∗ (c : Thread nD τ).loc cc0_scratch0 ↦{fullShare} f)
    ∗ (∃ g, ⌜msDone m c h 0 g⌝ ∗ (c : Thread nD τ).loc cc0_scratch1 ↦{fullShare} g)
    ∗ (∃ k, (c : Thread nD τ).loc cc0_scratch4 ↦{fullShare} k) ∗ (∃ v, (c : Thread nD τ).loc cc0_scratch5 ↦{fullShare} v)
    ∗ (∃ q, (c : Thread nD τ).loc cc0_scratch6 ↦{fullShare} q)
    ∗ ((c : Thread nD τ).loc cc0_stg1_0 ↦{fullShare} wqs m c)
    ∗ ((c : Thread nD τ).loc main_arg2 ↦{fullShare} argK m c) ∗ ((c : Thread nD τ).loc main_arg3 ↦{fullShare} argV m c)
    ∗ semVal ((c : Thread nD τ), .dma (sem2 0)) 0 ∗ semVal ((c : Thread nD τ), .dma (sem2 1)) 0 ∗ ow c (Orun c 0))

abbrev NH : ℕ := khM.view.dmaCredit
theorem NH_pos : 0 < NH := View.dmaCredit_pos _ (by decide)
theorem amtK (q : DmaSem sig) : khM.view.amount (.dma q) = NH := rfl
theorem amtV (q : DmaSem sig) : vhM.view.amount (.dma q) = NH := rfl
theorem credK : khM.view.dmaCredit = NH := rfl
theorem credV : vhM.view.dmaCredit = NH := rfl
theorem Above_start : Above 0 (Orun c 0) := Above_Orun c (by decide) (by decide)
theorem zero2 : (![0, 0] : Fin 2 → ℕ) = fun _ => 0 := by decide

theorem rd_kh (f : (cc0_scratch4 : Ref sig .tc).ty.Contents (Elt F)) (w : (cc0_scratch4 : Ref sig .tc).ty.Contents (Elt F)) :
    khM.view.readAt (Elt F) (Rect.unit (s := S2048x128) ![0, 0] S2048x128.size inb_S2048x128_S2048x128_0_0).toLoadRect (khM.view.write (Elt F) f w Finset.univ) = w :=
  (Memref.readAt_unit_zero (Elt F) cc0_scratch4 zero2 _ _).trans (View.write_whole_univ cc0_scratch4 f w)
theorem rd_vh (f : (cc0_scratch5 : Ref sig .tc).ty.Contents (Elt F)) (w : (cc0_scratch5 : Ref sig .tc).ty.Contents (Elt F)) :
    vhM.view.readAt (Elt F) (Rect.unit (s := S2048x128) ![0, 0] S2048x128.size inb_S2048x128_S2048x128_0_0).toLoadRect (vhM.view.write (Elt F) f w Finset.univ) = w :=
  (Memref.readAt_unit_zero (Elt F) cc0_scratch5 zero2 _ _).trans (View.write_whole_univ cc0_scratch5 f w)
theorem wr_qh (f w : (cc0_scratch6 : Ref sig .tc).ty.Contents (Elt F)) :
    (qM.access (Rect.unit (s := S2048x128) ![0, 0] S2048x128.size inb_S2048x128_S2048x128_0_0)).write (Elt F) f w Finset.univ = w :=
  Memref.write_access_unit_zero_univ (Elt F) cc0_scratch6 zero2 _ f w

theorem wp_head (h : Fin 8) (Q : PUnit → sProp 𝕄) :
    iprop((env m K J ∗ headSt m c h.val) ∗ ((env m K J ∗ headSt m c (h.val + 1)) -∗ Q ⟨⟩)) ⊢ wpc c (headN c (x12 m c) h) Q := by
  unfold headN head enqK enqV headMid
  simp only [Prog.lift, Prog.bind_op, Prog.bind_ret, Prog.pure_eq_ret]
  unfold headSt ow
  iintro ⟨⟨#He, ⟨%f, %hf, Hc⟩, ⟨%g, %hg, Hm⟩, ⟨%k, Hk4⟩, ⟨%v, Hv5⟩, ⟨%q, Hq⟩, Hw, HK, HV, Hs0, Hs1, %W, Ho⟩, Hk⟩
  ihave HK := (pointsTo_split_subset (Finset.subset_univ (headC kM ![0, 0, h.val, 0] (inbHead h)).view.set)).1 $$ HK
  icases HK with ⟨HK, HKo⟩
  ihave HV := (pointsTo_split_subset (Finset.subset_univ (headC vM ![0, 0, h.val, 0] (inbHead h)).view.set)).1 $$ HV
  icases HV with ⟨HV, HVo⟩
  iapply (Transfers.wp_dmaLocal EC 𝒱₀ (c : Thread nD τ) none (src := headC kM ![0, 0, h.val, 0] (inbHead h)) (via := .same) (dst := khM) 0 NH (amtK _) NH_pos (Finset.subset_univ _)) $$ [HK Hk4 Hs0]
  · isplitl [HK]; · iexact HK
    isplitl [Hk4]; · iexact Hk4
    iexact Hs0
  iintro HfK
  iapply (Transfers.wp_dmaLocal EC 𝒱₀ (c : Thread nD τ) none (src := headC vM ![0, 0, h.val, 0] (inbHead h)) (via := .same) (dst := vhM) 0 NH (amtV _) NH_pos (Finset.subset_univ _)) $$ [HV Hv5 Hs1]
  · isplitl [HV]; · iexact HV
    isplitl [Hv5]; · iexact Hv5
    iexact Hs1
  iintro HfV
  iapply (Transfers.wp_waitLocalO EC 𝒱₀ (c : Thread nD τ) none 0 credK) $$ [HfK Ho]
  · isplitl [HfK]; · iexact HfK
    isplitl [Ho]; · iexact Ho
    iapply (env_mayWait_sem2 m K J c 0 (Above_start c)); iexact He
  iintro ⟨⟨Hk4, HK⟩, Hs0, Ho⟩
  iapply (Transfers.wp_waitLocalO EC 𝒱₀ (c : Thread nD τ) none 0 credV) $$ [HfV Ho]
  · isplitl [HfV]; · iexact HfV
    isplitl [Ho]; · iexact Ho
    iapply (env_mayWait_sem2 m K J c 1 (Above_start c)); iexact He
  iintro ⟨⟨Hv5, HV⟩, Hs1, Ho⟩
  iapply (wp_load 𝒱₀ (c : Thread nD τ) none Set.univ (m := wqM) (Finset.subset_univ _)) $$ Hw; iintro Hw
  iapply (wp_load 𝒱₀ (c : Thread nD τ) none Set.univ (m := qM) (Finset.subset_univ _)) $$ Hq; iintro Hq
  iapply (wp_store 𝒱₀ (c : Thread nD τ) none Set.univ (m := qM) (r := Rect.unit (s := S2048x128) ![0, 0] S2048x128.size inb_S2048x128_S2048x128_0_0) (Mk := Finset.univ) (Finset.subset_univ _)) $$ Hq; iintro Hq
  iapply (wp_load 𝒱₀ (c : Thread nD τ) none Set.univ (m := khM) (Finset.subset_univ _)) $$ Hk4; iintro Hk4
  iapply (wp_load 𝒱₀ (c : Thread nD τ) none Set.univ (m := vhM) (Finset.subset_univ _)) $$ Hv5; iintro Hv5
  rw [rd_kh, rd_vh, wr_qh]
  iapply (wp_tiles m c h _)
  isplitl [Hc Hm Hq]
  · unfold tileSt
    iexists f, g
    isplitr; · ipureintro; exact ⟨hf, hg⟩
    isplitl [Hc]; · iexact Hc
    isplitl [Hm]; · iexact Hm
    iexact Hq
  unfold tileSt
  iintro ⟨%f', %g', %hfg, Hc, Hm, Hq⟩
  iapply Hk
  isplitr; · iexact He
  isplitl [Hc]
  · iexists f'; isplitr; · ipureintro; exact ctxDone_next m c hfg.1
    iexact Hc
  isplitl [Hm]
  · iexists g'; isplitr; · ipureintro; exact msDone_next m c hfg.2
    iexact Hm
  isplitl [Hk4]; · iexists _; iexact Hk4
  isplitl [Hv5]; · iexists _; iexact Hv5
  isplitl [Hq]; · iexists _; iexact Hq
  isplitl [Hw]; · iexact Hw
  isplitl [HK HKo]
  · iapply (pointsTo_split_subset (Finset.subset_univ (headC kM ![0, 0, h.val, 0] (inbHead h)).view.set)).2
    isplitl [HK] <;> iassumption
  isplitl [HV HVo]
  · iapply (pointsTo_split_subset (Finset.subset_univ (headC vM ![0, 0, h.val, 0] (inbHead h)).view.set)).2
    isplitl [HV] <;> iassumption
  isplitl [Hs0]; · iexact Hs0
  isplitl [Hs1]; · iexact Hs1
  iexists _; iexact Ho

end Cert.KernelIdeal.Ring
end
end
-- ==== Proof.Body.lean ====
module

public import proofs.«01_k».proof.Proof.Heads

@[expose] public section

set_option maxRecDepth 8000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)
variable (K : Dev nD × CK → ℕ) (J : Dev nD × Fin 2 → ℕ) (c : Dev nD)

/-! ## The handshake -/

theorem bar_duties : (Rd (F := F) m).duties ((c : Thread nD τ), .reg barS) 0 = {0} := duties_cell m c kbar
theorem bar_payload (d : ℕ) : (Rd (F := F) m).payload ((c : Thread nD τ), .reg barS) 0 d = barPay c := payload_cell m c kbar 0 d
theorem pay_bar : pay m kbar c 0 = barPay c := rfl
theorem csem_bar : csem kbar = .reg barS := rfl
theorem zero3 : (![0, 0, 0] : Fin 3 → ℕ) = fun _ => 0 := by decide

theorem rd_x (f : (cc0_stg0_0 : Ref sig .tc).ty.Contents (Elt F)) :
    xM.view.readAt (Elt F) (Rect.unit (s := S1x2048x1024) ![0, 0, 0] S1x2048x1024.size inb_S1x2048x1024_S1x2048x1024_0_0_0).toLoadRect f = f :=
  Memref.readAt_unit_zero (Elt F) cc0_stg0_0 zero3 _ f

theorem barPay_eq : barPay (F := F) (prv c) = iprop(released ES (c, 0) 1 ∗ released ES (c, 1) 1
    ∗ bigSep Finset.univ fun n : Fin 15 => iprop(∃ f, outPts c (oChunk (prv c) n) f)) := by
  unfold barPay; rw [nxt_prv]

theorem ow_open (O : CellTallies nD τ sig ℕ) : ow (F := F) c O ⊢ iprop(∃ W : Waits sig ℕ, owes (c : Thread nD τ) O W) := by
  unfold ow; exact BI.Entails.refl _

theorem wp_handshake (Q : FVec F S2048x1024 .f32 → sProp 𝕄) :
    iprop(env m K J ∗ (readerAt ES (c, 0) 0 ∗ readerAt ES (c, 1) 0 ∗ slotAny (c, 0) ∗ slotAny (c, 1)
          ∗ (bigSep Finset.univ fun n : Fin 15 => iprop(∃ f, outPts c (oChunk (prv c) n) f))
          ∗ dutyTok ER (cell (prv c) kbar) 0 0 ∗ cred (tallyAt (cell c kbar) 0 1) ∗ atPos ER (cell c kbar) 0 ∅ 0
          ∗ ((c : Thread nD τ).loc cc0_stg0_0 ↦{fullShare} xs m c) ∗ ow c (O₀ c))
        ∗ ((rdrs c 0 ∗ released ES (nxt c, 0) 1 ∗ released ES (nxt c, 1) 1 ∗ bigSep Finset.univ (agDst c)
          ∗ semVal (cell c kbar) 0 ∗ ((c : Thread nD τ).loc cc0_stg0_0 ↦{fullShare} xs m c) ∗ ow c (Orun c 0)) -∗ Q (x12 m c)))
      ⊢ wpc c (handshake (prv c)) Q := by
  unfold handshake
  simp only [semSignalWord, semWaitWord, Prog.lift, Prog.bind_op, Prog.bind_ret, Prog.pure_eq_ret]
  iintro ⟨#He, ⟨Hr0, Hr1, Hs0, Hs1, Ho15, Ht, Hc, Hat, Hx, Ho⟩, Hk⟩
  unfold wpc
  imod (slot_release ES (k := (c, 0)) (ι := J (c, 0)) (Set.mem_univ _) (slot_excl (F := F) (c, 0)) 0) $$ [Hr0 Hs0] with ⟨Hr0, #Hl0⟩
  · isplitr; · iapply (env_slot m K J (c, 0)); iexact He
    isplitl [Hr0] <;> iassumption
  imod (slot_release ES (k := (c, 1)) (ι := J (c, 1)) (Set.mem_univ _) (slot_excl (F := F) (c, 1)) 0) $$ [Hr1 Hs1] with ⟨Hr1, #Hl1⟩
  · isplitr; · iapply (env_slot m K J (c, 1)); iexact He
    isplitl [Hr1] <;> iassumption
  unfold ow
  icases Ho with ⟨%W, Ho⟩
  iapply (Rounds.wp_signal 𝒱₀ ER (Rd m) (c : Thread nD τ) none (dst := (prv c : Thread nD τ)) (κ := K (prv c, kbar)) (sem := barS) (r := 0)
      (d := 0) (k' := 1) (by rw [bar_duties]; exact Finset.mem_singleton_self _) (amount_cell m (prv c) kbar 0 0) 0
      (Orun c 0) (rfl : O₀ c = Orun c 0 + tallyAt (cell (prv c) kbar) 0 1)) $$ [Ho Ht Ho15]
  · isplitr; · iapply (env_cell m K J (prv c) kbar); iexact He
    isplitl [Ho]; · iexact Ho
    isplitl [Ht]; · iexact Ht
    isplitl [Ho15]
    · iapply (Entails.of_eq ((bar_payload m (prv c) 0).trans (barPay_eq c)).symm)
      isplitr; · iexact Hl0
      isplitr; · iexact Hl1
      iexact Ho15
    iapply (env_reached m K J (prv c) kbar); iexact He
  iintro Ho
  iapply (wp_wait_cell m K J c kbar rfl csem_bar (fun K' => wpE_semWait_eq 𝒱₀ (c : Thread nD τ) none Set.univ K') (Orun c 0)
      (Above_Orun c (by decide) (by decide))) $$ [Hc Ho Hat]
  · isplitr; · iexact He
    isplitl [Hc]; · iexact Hc
    isplitl [Ho]; · unfold ow; iexists _; iexact Ho
    iexact Hat
  iintro ⟨Ho, Hp, Hz⟩
  ihave Hp := (Entails.of_eq (pay_bar m c)) $$ Hp
  unfold barPay
  icases Hp with ⟨#Hn0, #Hn1, Hd⟩
  unfold wpc
  iapply (wp_load 𝒱₀ (c : Thread nD τ) none Set.univ (m := xM) (Finset.subset_univ _)) $$ Hx; iintro Hx
  iapply (wpc_ret c)
  rw [rd_x, show k0_pay81 (xs m c) = x12 m c from rfl]
  iapply Hk
  isplitl [Hr0 Hr1]
  · unfold rdrs rdr
    rw [show cnt 0 0 = 1 from by decide, show cnt 0 1 = 1 from by decide]
    isplitl [Hr0]
    · isplitl [Hr0]; · iexact Hr0
      iexact Hl0
    · isplitl [Hr1]; · iexact Hr1
      iexact Hl1
  isplitr; · iexact Hn0
  isplitr; · iexact Hn1
  isplitl [Hd]; · iexact Hd
  isplitl [Hz]; · iexact Hz
  isplitl [Hx]; · iexact Hx
  iapply (ow_open c (Orun c 0)); iexact Ho

/-! ## A run of like steps from its beginning -/

theorem wp_runs {n : ℕ} (s : Fin n → P F PUnit) (I : ℕ → sProp 𝕄)
    (hstep : ∀ (t : Fin n) (Q : PUnit → sProp 𝕄), iprop(I t.val ∗ (I (t.val + 1) -∗ Q ⟨⟩)) ⊢ wpc c (s t) Q)
    (k : P F PUnit) (Q : PUnit → sProp 𝕄) :
    iprop(I 0 ∗ (I n -∗ wpc c k Q)) ⊢ wpc c (runThen s (List.finRange n) k) Q :=
  wp_runThen c s I hstep k Q 0 (Nat.zero_le n)

/-! ## What is left over -/

/-- The credit cell, all its credits taken, closes. -/
theorem cr_close (S : Finset ℕ) (h : S ⊆ Finset.range 13) (hc : 13 ≤ S.card) :
    iprop(env m K J ∗ atPos ER (cell c kcr) 0 S 13) ⊢ iprop(|={Set.univ}=> semVal (cell c kcr) 0) := by
  obtain rfl : S = Finset.range 13 := Finset.eq_of_subset_of_card_le h (by rw [Finset.card_range]; exact hc)
  iintro ⟨#He, Hat⟩
  imod (Rounds.fupd_skip ER (Rd m) (κ := K (c, kcr)) (g := cell c kcr) (R := 0) (m := 13) (T := Finset.range 13)
      (Finset.Subset.refl _) (cr_expect m c).symm (Set.mem_univ _)) $$ [Hat] with ⟨Hat, -⟩
  · isplitr; · iapply (env_cell m K J c kcr); iexact He
    iexact Hat
  iapply (Rounds.cell_close ER (Rd m) (Set.mem_univ (K (c, kcr))) (fun h => h) (R := 0 + 1) (duties_later m (cell c kcr)))
  isplitr; · iapply (env_cell m K J c kcr); iexact He
  iexact Hat

def rowDone (t : Fin 15) : sProp 𝕄 :=
  iprop(semVal (cell c (kx 0 t)) 0 ∗ semVal (cell c (kx 1 t)) 0 ∗ semVal (cell c (kx 2 t)) 0 ∗ semVal (cell c (kx 3 t)) 0)

theorem two_last (Φ : Fin 15 → sProp 𝕄) : bigSep Finset.univ Φ ⊢ iprop(Φ 13 ∗ Φ 14) := by
  have h14 : (14 : Fin 15) ∈ (Finset.univ : Finset (Fin 15)).erase 13 := by decide
  rw [show bigSep Finset.univ Φ = iprop(Φ 13 ∗ Φ 14 ∗ bigSep ((Finset.univ.erase 13).erase 14) Φ) from by
    rw [bigSep_erase (Finset.mem_univ (13 : Fin 15)), bigSep_erase h14]; rfl]
  iintro ⟨H, H', -⟩
  isplitl [H] <;> iassumption

theorem done_split : bigSep Finset.univ (doneRes (F := F) c) ⊢ iprop(bigSep Finset.univ (rowDone (F := F) c) ∗ slotAny (c, 0) ∗ slotAny (c, 1)) := by
  have h : bigSep Finset.univ (doneRes (F := F) c) = iprop(bigSep Finset.univ (rowDone (F := F) c)
      ∗ bigSep Finset.univ (fun t : Fin 15 => (if t.val ≤ 12 then iprop(emp) else slotAny (c, par t) : sProp 𝕄))) :=
    bigSep_sep' Finset.univ _ _
  rw [h]
  have h2 := two_last (fun t : Fin 15 => (if t.val ≤ 12 then iprop(emp) else slotAny (c, par t) : sProp 𝕄))
  have h3 : iprop((fun t : Fin 15 => (if t.val ≤ 12 then iprop(emp) else slotAny (c, par t) : sProp 𝕄)) 13
      ∗ (fun t : Fin 15 => (if t.val ≤ 12 then iprop(emp) else slotAny (c, par t) : sProp 𝕄)) 14) ⊢ iprop(slotAny (c, 0) ∗ slotAny (c, 1)) := by
    dsimp only
    rw [if_neg (by decide), if_neg (by decide), show par 13 = 1 from by decide, show par 14 = 0 from by decide]
    iintro ⟨H, H'⟩
    isplitl [H'] <;> iassumption
  iintro ⟨H, H'⟩
  isplitl [H]; · iexact H
  iapply (h2.trans h3); iexact H'

/-! ## The whole body -/

def lin : sProp 𝕄 :=
  iprop(bigSep Finset.univ (stepRes c) ∗ bigSep Finset.univ (agRes c) ∗ atPos ER (cell c kbar) 0 ∅ 0 ∗ atPos ER (cell c kcr) 0 ∅ 0
    ∗ dutyTok ER (cell (prv c) kbar) 0 0 ∗ cred (tallyAt (cell c kbar) 0 1) ∗ readerAt ES (c, 0) 0 ∗ readerAt ES (c, 1) 0)

/-- The scratch buffers at any contents. -/
def scr : sProp 𝕄 :=
  iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f) ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f) ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f))

/-- What the body only reads: the keys and values, and the local copies' two semaphores, which it leaves at zero. -/
def args : sProp 𝕄 :=
  iprop(((c : Thread nD τ).loc main_arg2 ↦{fullShare} argK m c) ∗ ((c : Thread nD τ).loc main_arg3 ↦{fullShare} argV m c)
    ∗ semVal ((c : Thread nD τ), .dma (sem2 0)) 0 ∗ semVal ((c : Thread nD τ), .dma (sem2 1)) 0)

def stgs : sProp 𝕄 :=
  iprop(((c : Thread nD τ).loc cc0_stg0_0 ↦{fullShare} xs m c) ∗ ((c : Thread nD τ).loc cc0_stg1_0 ↦{fullShare} wqs m c)
    ∗ ((c : Thread nD τ).loc cc0_stg2_0 ↦{fullShare} wos m c))

def semsDone : sProp 𝕄 :=
  iprop(bigSep Finset.univ (rowDone c) ∗ bigSep Finset.univ (agDone c) ∗ semVal (cell c kbar) 0 ∗ semVal (cell c kcr) 0)

theorem crSt_zero : atPos ER (cell c kcr) 0 ∅ 0 ⊢ crSt (F := F) c 0 := by
  unfold crSt
  iintro H
  iexists ∅
  isplitr; · ipureintro; exact ⟨Finset.empty_subset _, Nat.zero_le _⟩
  isplitl [H]; · iexact H
  rw [bigSep_empty]; iempintro

/-- The projection and the gathering of the slices. -/
theorem wp_tail (f : (cc0_stg3_0 : Ref sig .tc).ty.Contents (Elt F)) (Q : PUnit → sProp 𝕄) :
    iprop(env m K J ∗ (((c : Thread nD τ).loc cc0_scratch0 ↦{fullShare} accC m 15 c) ∗ ((c : Thread nD τ).loc cc0_scratch1 ↦{fullShare} accM m 15 c)
          ∗ ((c : Thread nD τ).loc cc0_stg2_0 ↦{fullShare} wos m c) ∗ outPts c (nxt c) f
          ∗ bigSep Finset.univ (agRes c) ∗ bigSep Finset.univ (agDst c) ∗ ow c (Orun c 15))
        ∗ ((((c : Thread nD τ).loc cc0_scratch0 ↦{fullShare} accC m 15 c) ∗ ((c : Thread nD τ).loc cc0_scratch1 ↦{fullShare} accM m 15 c)
          ∗ ((c : Thread nD τ).loc cc0_stg2_0 ↦{fullShare} wos m c) ∗ ((c : Thread nD τ).loc cc0_stg3_0 ↦{fullShare} outF m)
          ∗ bigSep Finset.univ (agDone c) ∗ ow c 0) -∗ Q ⟨⟩))
      ⊢ wpc c (final c >>= fun _ => runThen (fun j => hop c (nxt c) j) (List.finRange 15) (pure ⟨⟩)) Q := by
  unfold wpc
  rw [wp_bind]
  iintro ⟨#He, ⟨Hc, Hm, Hw, Hf, Hr, Hd, Ho⟩, Hk⟩
  iapply (wp_final m c f _)
  isplitl [Hc]; · iexact Hc
  isplitl [Hm]; · iexact Hm
  isplitl [Hw]; · iexact Hw
  isplitl [Hf]; · iexact Hf
  iintro ⟨Hc, Hm, Hw, Hf⟩
  iapply (wp_runs c (fun j => hop c (nxt c) j) (fun n => iprop(env m K J ∗ Hst m c n)) (wp_hop m K J c) _ _)
  isplitl [Hf Hr Hd Ho]
  · isplitr; · iexact He
    unfold Hst
    rw [held_zero, bigSep_singleton, och_zero, fr_zero, til_zero, bigSep_empty, Orun_end]
    isplitl [Hf]; · iexact Hf
    isplitl [Hr]; · iexact Hr
    isplitl [Hd]; · iexact Hd
    isplitr; · iempintro
    iexact Ho
  unfold Hst
  rw [held_end, fr_end, til_end, Oag_end]
  iintro ⟨-, Hout, -, -, Hz, Ho⟩
  iapply (wpc_ret c)
  iapply Hk
  isplitl [Hc]; · iexact Hc
  isplitl [Hm]; · iexact Hm
  isplitl [Hw]; · iexact Hw
  isplitl [Hout]; · iapply (Entails.of_eq (out_och c (outF m)).symm); iexact Hout
  isplitl [Hz]; · iexact Hz
  iexact Ho

theorem wp_body (Q : PUnit → sProp 𝕄) :
    iprop(env m K J ∗ lin c ∗ scr c ∗ args m c ∗ stgs m c ∗ (∃ f : Buf (Elt F) ((c : Thread nD τ).loc cc0_stg3_0), ((c : Thread nD τ).loc cc0_stg3_0) ↦{fullShare} f) ∗ ow c (O₀ c)
        ∗ ((scr c ∗ args m c ∗ stgs m c ∗ ((c : Thread nD τ).loc cc0_stg3_0 ↦{fullShare} outF m) ∗ semsDone c ∗ ow c 0) -∗ Q ⟨⟩))
      ⊢ wpc c chain Q := by
  rw [chain_eq_run]
  simp only [Prog.lift, Prog.bind_op, Prog.bind_ret, Prog.pure_eq_ret]
  unfold wpc
  rw [wp_deviceId, wp_bind]
  unfold lin scr args stgs
  iintro ⟨#He, ⟨Hst, Hag, Hab, Hac, Htb, Hcb, Hr0, Hr1⟩, ⟨⟨%f0, H0⟩, ⟨%f1, H1⟩, ⟨%f2, H2⟩, ⟨%f3, H3⟩, H4, H5, H6⟩, ⟨HK, HV, Hs0, Hs1⟩, ⟨Hx, Hq, Hw⟩, ⟨%fo, Hout⟩, Ho, Hk⟩
  ihave Hsl := (slots_split c f2 f3) $$ [H2 H3]
  · isplitl [H2] <;> iassumption
  icases Hsl with ⟨Hsl0, Hsl1⟩
  ihave Hout := (out_give c fo) $$ Hout
  icases Hout with ⟨Hown, Hgive⟩
  iapply (wp_handshake m K J c _)
  isplitr; · iexact He
  isplitl [Hr0 Hr1 Hsl0 Hsl1 Hgive Htb Hcb Hab Hx Ho]
  · isplitl [Hr0]; · iexact Hr0
    isplitl [Hr1]; · iexact Hr1
    isplitl [Hsl0]; · iexact Hsl0
    isplitl [Hsl1]; · iexact Hsl1
    isplitl [Hgive]; · iexact Hgive
    isplitl [Htb]; · iexact Htb
    isplitl [Hcb]; · iexact Hcb
    isplitl [Hab]; · iexact Hab
    isplitl [Hx]; · iexact Hx
    iexact Ho
  iintro ⟨Hrd, #Hn0, #Hn1, Hdst, Hzb, Hx, Ho⟩
  iapply (wp_runs c (headN c (x12 m c)) (fun n => iprop(env m K J ∗ headSt m c n)) (wp_head m K J c) _ _)
  isplitl [H0 H1 H4 H5 H6 Hq HK HV Hs0 Hs1 Ho]
  · isplitr; · iexact He
    unfold headSt
    isplitl [H0]; · iexists f0; isplitr; · ipureintro; exact ctxDone_zero m c f0
                    iexact H0
    isplitl [H1]; · iexists f1; isplitr; · ipureintro; exact msDone_zero m c f1
                    iexact H1
    isplitl [H4]; · iexact H4
    isplitl [H5]; · iexact H5
    isplitl [H6]; · iexact H6
    isplitl [Hq]; · iexact Hq
    isplitl [HK]; · iexact HK
    isplitl [HV]; · iexact HV
    isplitl [Hs0]; · iexact Hs0
    isplitl [Hs1]; · iexact Hs1
    iexact Ho
  unfold headSt
  iintro ⟨-, ⟨%g0, %hg0, H0⟩, ⟨%g1, %hg1, H1⟩, H4, H5, H6, Hq, HK, HV, Hs0, Hs1, Ho⟩
  obtain rfl : g0 = accC m 0 c := ctxDone_all m c hg0
  obtain rfl : g1 = accM m 0 c := msDone_all m c hg1
  rw [show rest (c : Thread nD τ).1 = rest (F := F) c from rfl, rest_eq_runs]
  iapply (wp_runs c (ringStep c) (fun n => iprop(env m K J ∗ Jst m c n)) (wp_ringStep m K J c) _ _)
  isplitl [H0 H1 Hst Hac Hrd Ho]
  · isplitr; · iexact He
    unfold Jst
    rw [fr_zero, til_zero, bigSep_empty]
    isplitl [H0]; · iexact H0
    isplitl [H1]; · iexact H1
    isplitl [Hst]; · iexact Hst
    isplitr; · iempintro
    isplitl [Hac]; · iapply (crSt_zero c); iexact Hac
    isplitl [Hrd]; · iexact Hrd
    isplitr; · iexact Hn0
    isplitr; · iexact Hn1
    iexact Ho
  unfold Jst
  rw [fr_end, til_end]
  iintro ⟨-, H0, H1, -, Hdone, Hcr, -, -, -, Ho⟩
  ihave Hdone := (done_split c) $$ Hdone
  icases Hdone with ⟨Hrows, Hsl0, Hsl1⟩
  ihave Hsl := (slots_join c) $$ [Hsl0 Hsl1]
  · isplitl [Hsl0] <;> iassumption
  icases Hsl with ⟨H2, H3⟩
  unfold crSt
  icases Hcr with ⟨%S, %hS, Hac, -⟩
  unfold wpc
  imod (cr_close m K J c S hS.1 hS.2) $$ [Hac] with Hzc
  · isplitr; · iexact He
    iexact Hac
  iapply (wp_tail m K J c fo _)
  isplitr; · iexact He
  isplitl [H0 H1 Hw Hown Hag Hdst Ho]
  · isplitl [H0]; · iexact H0
    isplitl [H1]; · iexact H1
    isplitl [Hw]; · iexact Hw
    isplitl [Hown]; · iexact Hown
    isplitl [Hag]; · iexact Hag
    isplitl [Hdst]; · iexact Hdst
    iexact Ho
  iintro ⟨H0, H1, Hw, Hout, Hzg, Ho⟩
  iapply Hk
  isplitl [H0 H1 H2 H3 H4 H5 H6]
  · isplitl [H0]; · iexists _; iexact H0
    isplitl [H1]; · iexists _; iexact H1
    isplitl [H2]; · iexact H2
    isplitl [H3]; · iexact H3
    isplitl [H4]; · iexact H4
    isplitl [H5]; · iexact H5
    iexact H6
  isplitl [HK HV Hs0 Hs1]
  · isplitl [HK]; · iexact HK
    isplitl [HV]; · iexact HV
    isplitl [Hs0]; · iexact Hs0
    iexact Hs1
  isplitl [Hx Hq Hw]
  · isplitl [Hx]; · iexact Hx
    isplitl [Hq]; · iexact Hq
    iexact Hw
  isplitl [Hout]; · iexact Hout
  isplitl [Hrows Hzg Hzb Hzc]
  · unfold semsDone
    isplitl [Hrows]; · iexact Hrows
    isplitl [Hzg]; · iexact Hzg
    isplitl [Hzb]; · iexact Hzb
    iexact Hzc
  iexact Ho

end Cert.KernelIdeal.Ring
end
end
-- ==== Proof.Deal.lean ====
module

public import proofs.«01_k».proof.Proof.Body

@[expose] public section

set_option maxRecDepth 8000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)

/-! ## Conjunctions over the cells -/

omit [FloatOps F] in
theorem bigSep_six (Φ : Fin 6 → sProp 𝕄) : bigSep Finset.univ Φ = iprop(Φ 0 ∗ Φ 1 ∗ Φ 2 ∗ Φ 3 ∗ Φ 4 ∗ Φ 5) :=
  bigSep_univ_eq_bigSepL [0, 1, 2, 3, 4, 5] (by decide) (by decide) Φ

omit [FloatOps F] in
theorem bigSep_sum' {α β : Type} [Fintype α] [Fintype β] (Φ : α ⊕ β → sProp 𝕄) :
    bigSep Finset.univ Φ = iprop(bigSep Finset.univ (fun a => Φ (.inl a)) ∗ bigSep Finset.univ (fun b => Φ (.inr b))) := bigSep_univ_sum Φ

omit [FloatOps F] in
theorem bigSep_rows (Φ : Fin 6 × Fin 15 → sProp 𝕄) : bigSep Finset.univ Φ
    = iprop(bigSep Finset.univ (fun t => Φ (0, t)) ∗ bigSep Finset.univ (fun t => Φ (1, t)) ∗ bigSep Finset.univ (fun t => Φ (2, t))
      ∗ bigSep Finset.univ (fun t => Φ (3, t)) ∗ bigSep Finset.univ (fun t => Φ (4, t)) ∗ bigSep Finset.univ (fun t => Φ (5, t))) :=
  (bigSep_univ_prod Φ).trans (bigSep_six _)

theorem bigSep_cells (Φ : CK → sProp 𝕄) : bigSep Finset.univ Φ
    = iprop((bigSep Finset.univ fun x : Fin 6 × Fin 15 => Φ (.inl x)) ∗ Φ kbar ∗ Φ kcr) := by
  rw [bigSep_sum', bigSep_fin2]

omit [FloatOps F] in
theorem bigSep_ring (Φ : Dev nD → sProp 𝕄) : bigSep Finset.univ Φ = bigSep Finset.univ fun c => Φ (nxt c) := bigSep_univ_equiv ring Φ
omit [FloatOps F] in
theorem bigSep_ring' (Φ : Dev nD → sProp 𝕄) : bigSep Finset.univ Φ = bigSep Finset.univ fun c => Φ (prv c) := bigSep_univ_equiv ring.symm Φ

/-! ## The tokens -/

/-- The duties of a device's cells. -/
abbrev TK : Type := (Fin 6 × Fin 15) ⊕ (Unit ⊕ {t : Fin 15 // t.val ≤ 12})
abbrev tokOf (x : Dev nD × TK) : GSem nD τ sig × ℕ × ℕ := match x.2 with
  | .inl y => (cell x.1 (.inl y), 0, 0)
  | .inr (.inl _) => (cell x.1 kbar, 0, 0)
  | .inr (.inr t) => (cell x.1 kcr, 0, t.1.val)

theorem tokOf_injective : Function.Injective tokOf := by
  rintro ⟨c, j⟩ ⟨c', j'⟩ h
  have h2 : (tokOf (c, j)).2.2 = (tokOf (c', j')).2.2 := by rw [h]
  have h1 : (tokOf (c, j)).1 = (tokOf (c', j')).1 := by rw [h]
  rcases j with y | u | t <;> rcases j' with y' | u' | t' <;> obtain ⟨rfl, hk⟩ := cell_inj h1
  · cases hk; rfl
  · cases hk
  · cases hk
  · cases hk
  · rfl
  · cases hk
  · cases hk
  · cases hk
  · have : t = t' := Subtype.ext (Fin.ext h2)
    subst this; rfl

theorem cells_injective : Function.Injective (fun x : Dev nD × CK => cell x.1 x.2) := fun ⟨c, k⟩ ⟨c', k'⟩ h => by
  obtain ⟨rfl, rfl⟩ := cell_inj h; rfl

def ringCells : Finset (GSem nD τ sig) := Finset.univ.map ⟨fun x : Dev nD × CK => cell x.1 x.2, cells_injective⟩
def ringToks : Finset (GSem nD τ sig × ℕ × ℕ) := Finset.univ.map ⟨tokOf, tokOf_injective⟩

variable (c : Dev nD)

/-- The credits' tokens of the cell of device `e`. -/
def crToks (e : Dev nD) : sProp 𝕄 :=
  bigSep Finset.univ fun t : Fin 15 => (if t.val ≤ 12 then dutyTok ER (cell e kcr) 0 t.val else iprop(emp) : sProp 𝕄)
def rowToks (a : Fin 6) (e : Dev nD) : sProp 𝕄 := bigSep Finset.univ fun t : Fin 15 => (dutyTok ER (cell e (kx a t)) 0 0 : sProp 𝕄)

/-- The tokens of a device's own cells; those of the duties the device pays. -/
def toks : sProp 𝕄 :=
  iprop((rowToks 0 c ∗ rowToks 1 c ∗ rowToks 2 c ∗ rowToks 3 c ∗ rowToks 4 c ∗ rowToks 5 c) ∗ dutyTok ER (cell c kbar) 0 0 ∗ crToks c)
def payToks : sProp 𝕄 :=
  iprop((rowToks 0 c ∗ rowToks 1 (nxt c) ∗ rowToks 2 c ∗ rowToks 3 (nxt c) ∗ rowToks 4 c ∗ rowToks 5 (nxt c)) ∗ dutyTok ER (cell (prv c) kbar) 0 0 ∗ crToks (prv c))

omit [FloatOps F] in
theorem toks_eq : bigSep Finset.univ (fun k : TK => (dutyTok ER (tokOf (c, k)).1 (tokOf (c, k)).2.1 (tokOf (c, k)).2.2 : sProp 𝕄)) = toks c := by
  rw [bigSep_sum', bigSep_sum', bigSep_rows,
    bigSep_subtype (fun t : Fin 15 => t.val ≤ 12) (fun t => (dutyTok ER (cell c kcr) 0 t.val : sProp 𝕄)), bigSep_filter]
  rw [show bigSep Finset.univ (fun a : Unit => (dutyTok ER (tokOf (c, Sum.inr (Sum.inl a))).1 (tokOf (c, Sum.inr (Sum.inl a))).2.1 (tokOf (c, Sum.inr (Sum.inl a))).2.2 : sProp 𝕄))
    = dutyTok ER (cell c kbar) 0 0 from bigSep_univ_of_subsingleton ()]
  rfl

omit [FloatOps F] in
theorem toks_around : bigSep Finset.univ (fun c : Dev nD => (toks c : sProp 𝕄)) ⊢ bigSep Finset.univ (fun c : Dev nD => payToks c) := by
  unfold toks payToks
  simp only [bigSep_sep']
  rw [bigSep_ring (rowToks (F := F) 1), bigSep_ring (rowToks (F := F) 3), bigSep_ring (rowToks (F := F) 5), bigSep_ring' (fun c => (dutyTok ER (cell c kbar) 0 0 : sProp 𝕄)),
    bigSep_ring' (crToks (F := F))]

/-! ## The launch credits -/

theorem cred_sum {I : Type} [DecidableEq I] (s : Finset I) (T : I → CellTallies nD τ sig ℕ) : (cred (∑ i ∈ s, T i) : sProp 𝕄) = bigSep s fun i => cred (T i) := by
  induction s using Finset.induction_on with
  | empty => rw [Finset.sum_empty, cred_zero, bigSep_empty]; rfl
  | insert a s ha ih => rw [Finset.sum_insert ha, bigSep_ins ha, BI.Entails.antisymm (cred_add _ _).1 (cred_add _ _).2, ih]

/-- What all devices together owe a cell through one kind of due. -/
theorem sum_tally (e : Dev nD ≃ Dev nD) (k' k : CK) (ι n : ℕ) :
    ∑ d : Dev nD, (tallyAt (cell (e d) k') ι n : CellTallies nD τ sig ℕ) (cell c k) = if k' = k then Finsupp.single ι n else 0 := by
  rw [Equiv.sum_comp e (fun d => (tallyAt (cell d k') ι n : CellTallies nD τ sig ℕ) (cell c k))]
  split
  · rename_i h; subst h
    rw [Finset.sum_eq_single c]
    · exact tallyOn_self _ _
    · intro d _ hd; exact tallyOn_ne (fun h => hd (cell_inj h).1.symm) _
    · intro h; exact absurd (Finset.mem_univ _) h
  · rename_i h
    exact Finset.sum_eq_zero fun d _ => tallyOn_ne (fun h' => h (cell_inj h').2.symm) _

def owedTo (k : CK) : ℕ →₀ ℕ :=
  (∑ t : Fin 15, if kx 5 t = k then Finsupp.single 0 NO else 0)
    + (∑ t : Fin 15, ((if t.val ≤ 12 then (if kcr = k then Finsupp.single t.val 1 else 0) else 0) + (if kx 3 t = k then Finsupp.single 0 NM else 0)
        + (if kx 1 t = k then Finsupp.single 0 NC else 0)))
    + (if kbar = k then Finsupp.single 0 1 else 0)

theorem sum_Ocr (k : CK) (t : Fin 15) : ∑ d : Dev nD, Ocr d t (cell c k) = if t.val ≤ 12 then (if kcr = k then Finsupp.single t.val 1 else 0) else 0 := by
  unfold Ocr
  split
  · exact sum_tally c ring.symm kcr k t.val 1
  · exact Finset.sum_eq_zero fun d _ => rfl

theorem sum_O₀ (k : CK) : ∑ d : Dev nD, O₀ d (cell c k) = owedTo k := by
  unfold O₀ Orun Oag Ost owedTo
  rw [fr_zero]
  simp only [Pi.add_apply, Finset.sum_apply, Finset.sum_add_distrib]
  congr 1
  · congr 1
    · rw [Finset.sum_comm]
      exact Finset.sum_congr rfl fun t _ => sum_tally c ring (kx 5 t) k 0 NO
    · congr 1
      · congr 1
        · rw [Finset.sum_comm]; exact Finset.sum_congr rfl fun t _ => sum_Ocr c k t
        · rw [Finset.sum_comm]; exact Finset.sum_congr rfl fun t _ => sum_tally c ring (kx 3 t) k 0 NM
      · rw [Finset.sum_comm]; exact Finset.sum_congr rfl fun t _ => sum_tally c ring (kx 1 t) k 0 NC
  · exact sum_tally c ring.symm kbar k 0 1

theorem launch_cell (k : CK) : launchCredit (Pipeline.owing O₀) 0 (cell c k) = owedTo k := by
  rw [← sum_O₀ c k]
  refine Finsupp.ext fun i => ?_
  rw [Pipeline.launchCredit_owing, Finsupp.finset_sum_apply]

theorem kx_inj {a a' : Fin 6} {t t' : Fin 15} : kx a t = kx a' t' ↔ a = a' ∧ t = t' := by
  constructor
  · intro h; exact ⟨congrArg Prod.fst (Sum.inl.inj h), congrArg Prod.snd (Sum.inl.inj h)⟩
  · rintro ⟨rfl, rfl⟩; rfl

theorem owed1 (t : Fin 15) : owedTo (kx 1 t) = Finsupp.single 0 NC := by
  simp [owedTo, kx_inj, show ¬ (kbar = kx 1 t) from fun h => Sum.inr_ne_inl h, show ¬ (kcr = kx 1 t) from fun h => Sum.inr_ne_inl h]
theorem owed3 (t : Fin 15) : owedTo (kx 3 t) = Finsupp.single 0 NM := by
  simp [owedTo, kx_inj, show ¬ (kbar = kx 3 t) from fun h => Sum.inr_ne_inl h, show ¬ (kcr = kx 3 t) from fun h => Sum.inr_ne_inl h]
theorem owed5 (t : Fin 15) : owedTo (kx 5 t) = Finsupp.single 0 NO := by
  simp [owedTo, kx_inj, show ¬ (kbar = kx 5 t) from fun h => Sum.inr_ne_inl h, show ¬ (kcr = kx 5 t) from fun h => Sum.inr_ne_inl h]
theorem owedBar : owedTo kbar = Finsupp.single 0 1 := by
  simp [owedTo, show ¬ (kcr = kbar) from by decide]
theorem owedCr : owedTo kcr = ∑ t : Fin 15, if t.val ≤ 12 then Finsupp.single t.val 1 else 0 := by
  simp [owedTo, show ¬ (kbar = kcr) from by decide]

/-- The steps turned by two. -/
def turn : Fin 15 ≃ Fin 15 where
  toFun t := ⟨(t.val + 13) % 15, Nat.mod_lt _ (by decide)⟩
  invFun t := ⟨(t.val + 2) % 15, Nat.mod_lt _ (by decide)⟩
  left_inv := by decide
  right_inv := by decide

/-- The credits' dues by the step that waits for each. -/
theorem shift_sum : (∑ t : Fin 15, if t.val ≤ 12 then Finsupp.single t.val 1 else 0 : ℕ →₀ ℕ)
    = ∑ t : Fin 15, if 2 ≤ t.val then Finsupp.single (t.val - 2) 1 else 0 := by
  rw [← Equiv.sum_comp turn]
  refine Finset.sum_congr rfl fun t _ => ?_
  have h : ∀ t : Fin 15, ((turn t).val ≤ 12 ∧ 2 ≤ t.val ∧ (turn t).val = t.val - 2)
      ∨ (¬ (turn t).val ≤ 12 ∧ ¬ 2 ≤ t.val) := by decide
  rcases h t with ⟨h1, h2, h3⟩ | ⟨h1, h2⟩
  · rw [if_pos h1, if_pos h2, h3]
  · rw [if_neg h1, if_neg h2]

theorem tallyOn_sum {I : Type} [DecidableEq I] (g : GSem nD τ sig) (s : Finset I) (f : I → ℕ →₀ ℕ) :
    (tallyOn g (∑ i ∈ s, f i) : CellTallies nD τ sig ℕ) = ∑ i ∈ s, tallyOn g (f i) := by
  induction s using Finset.induction_on with
  | empty => rw [Finset.sum_empty, Finset.sum_empty, tallyOn_zero]
  | insert a s ha ih => rw [Finset.sum_insert ha, Finset.sum_insert ha, ← ih]; exact Pi.single_add (f := fun _ : GSem nD τ sig => ℕ →₀ ℕ) g _ _

/-- The credits a device waits with. -/
def credits : sProp 𝕄 :=
  iprop((bigSep Finset.univ fun t : Fin 15 => cred (tallyAt (cell c (kx 1 t)) 0 NC)) ∗ (bigSep Finset.univ fun t : Fin 15 => cred (tallyAt (cell c (kx 3 t)) 0 NM))
    ∗ (bigSep Finset.univ fun t : Fin 15 => cred (tallyAt (cell c (kx 5 t)) 0 NO)) ∗ cred (tallyAt (cell c kbar) 0 1)
    ∗ bigSep Finset.univ fun t : Fin 15 => (if 2 ≤ t.val then cred (tallyAt (cell c kcr) (t.val - 2) 1) else iprop(emp) : sProp 𝕄))

theorem cr_creds : (cred (tallyOn (cell c kcr) (owedTo kcr)) : sProp 𝕄)
    = bigSep Finset.univ fun t : Fin 15 => (if 2 ≤ t.val then cred (tallyAt (cell c kcr) (t.val - 2) 1) else iprop(emp) : sProp 𝕄) := by
  rw [owedCr, shift_sum, tallyOn_sum, cred_sum]
  refine bigSep_congr fun t _ => ?_
  split
  · rfl
  · rw [tallyOn_zero, cred_zero]

theorem creds_intro : (Pipeline.launchCred O₀ c : sProp 𝕄) ⊢ credits c := by
  have h : (Pipeline.launchCred O₀ c : sProp 𝕄) ⊢ bigSep Finset.univ fun k : CK => (cred (tallyOn (cell c k) (owedTo k)) : sProp 𝕄) := by
    unfold Pipeline.launchCred
    refine (bigSep_subset (Finset.subset_univ (Finset.univ.map ⟨csem, csem_injective⟩))).trans ?_
    rw [bigSep_map]
    exact bigSep_mono fun k _ => by rw [← launch_cell c k]; exact BI.Entails.refl _
  refine h.trans ?_
  rw [bigSep_cells, bigSep_rows, cr_creds, owedBar]
  simp only [owed1, owed3, owed5]
  unfold credits
  iintro ⟨⟨-, H1, -, H3, -, H5⟩, Hb, Hc⟩
  isplitl [H1]; · iexact H1
  isplitl [H3]; · iexact H3
  isplitl [H5]; · iexact H5
  isplitl [Hb]; · iexact Hb
  iexact Hc

/-! ## What a device starts from -/

def posn : sProp 𝕄 := bigSep Finset.univ fun k : CK => (atPos ER (cell c k) 0 ∅ 0 : sProp 𝕄)
def rdToks : sProp 𝕄 := iprop(readerAt ES (c, 0) 0 ∗ readerAt ES (c, 1) 0)
def wrToks : sProp 𝕄 := bigSep Finset.univ fun t : Fin 15 => (writeTok ES (c, par t) (t.val / 2 + 1) : sProp 𝕄)

theorem lin_intro : iprop((posn c ∗ payToks c ∗ rdToks c ∗ wrToks (nxt c)) ∗ credits c) ⊢ (lin c : sProp 𝕄) := by
  unfold posn payToks rdToks wrToks credits lin stepRes agRes rowToks crToks
  rw [bigSep_cells, bigSep_rows]
  simp only [bigSep_sep']
  iintro ⟨⟨⟨⟨A0, A1, A2, A3, A4, A5⟩, Ab, Ac⟩, ⟨⟨T0, T1, T2, T3, T4, T5⟩, Tb, Tc⟩, ⟨R0, R1⟩, Wt⟩, C1, C3, C5, Cb, Cc⟩
  isplitl [A0 A1 A2 A3 T0 T1 T2 T3 C1 C3 Wt Cc Tc]
  · isplitl [A0]; · iexact A0
    isplitl [A1]; · iexact A1
    isplitl [A2]; · iexact A2
    isplitl [A3]; · iexact A3
    isplitl [T0]; · iexact T0
    isplitl [T1]; · iexact T1
    isplitl [T2]; · iexact T2
    isplitl [T3]; · iexact T3
    isplitl [C1]; · iexact C1
    isplitl [C3]; · iexact C3
    isplitl [Wt]; · iexact Wt
    isplitl [Cc]; · iexact Cc
    iexact Tc
  isplitl [A4 A5 T4 T5 C5]
  · isplitl [A4]; · iexact A4
    isplitl [A5]; · iexact A5
    isplitl [T4]; · iexact T4
    isplitl [T5]; · iexact T5
    iexact C5
  isplitl [Ab]; · iexact Ab
  isplitl [Ac]; · iexact Ac
  isplitl [Tb]; · iexact Tb
  isplitl [Cb]; · iexact Cb
  isplitl [R0]; · iexact R0
  iexact R1

/-! ## The slots' tokens -/

def slotKeys : Finset (Dev nD × Fin 2) := Finset.univ

theorem wr_injective : Function.Injective (fun x : Dev nD × Fin 15 => (((x.1, par x.2), x.2.val / 2) : (Dev nD × Fin 2) × ℕ)) := by
  rintro ⟨c, t⟩ ⟨c', t'⟩ h
  have h1 : c = c' := congrArg (fun y : (Dev nD × Fin 2) × ℕ => y.1.1) h
  have h2 : (par t).val = (par t').val := congrArg (fun y : (Dev nD × Fin 2) × ℕ => y.1.2.val) h
  have h3 : t.val / 2 = t'.val / 2 := congrArg (fun y : (Dev nD × Fin 2) × ℕ => y.2) h
  have h2' : t.val % 2 = t'.val % 2 := h2
  subst h1
  have : t = t' := Fin.ext (by omega)
  subst this; rfl

omit [FloatOps F] in
theorem wr_deal : bigSep ((Finset.univ : Finset (Dev nD × Fin 2)) ×ˢ Finset.range 8) (fun x => (writeTok ES x.1 (x.2 + 1) : sProp 𝕄))
    ⊢ bigSep Finset.univ fun c : Dev nD => (wrToks c : sProp 𝕄) := by
  refine (bigSep_subset (t := Finset.univ.map ⟨_, wr_injective⟩) ?_).trans ?_
  · intro y hy
    obtain ⟨⟨c, t⟩, -, rfl⟩ := Finset.mem_map.mp hy
    exact Finset.mem_product.mpr ⟨Finset.mem_univ _, Finset.mem_range.mpr (by show t.val / 2 < 8; omega)⟩
  · rw [bigSep_map, bigSep_univ_prod]; exact BI.Entails.refl _

theorem rd_deal : bigSep (Finset.univ : Finset (Dev nD × Fin 2)) (fun k => (readerAt ES k 0 : sProp 𝕄)) = bigSep Finset.univ fun c : Dev nD => (rdToks c : sProp 𝕄) := by
  rw [bigSep_univ_prod]
  exact bigSep_congr fun c _ => bigSep_fin2 _

end Cert.KernelIdeal.Ring
end
end
-- ==== Proof.Launch.lean ====
module

public import proofs.«01_k».proof.Proof.Deal
public import Idealize.ShloMosaic.Lib.Pipeline.Launch
public import Idealize.ShloMosaic.Lib.Pipeline.Kit
public import Idealize.ShloMosaic.Lib.Pipeline.CollectiveSegs

@[expose] public section

set_option maxRecDepth 8000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)

/-! ## The kernel's own semaphores -/

/-- The scoped semaphores that are no window's: the local copies' two, the six rows, the credits'. -/
abbrev OK : Type := Fin 2 ⊕ ((Fin 6 × Fin 15) ⊕ Unit)
def osem : OK → SemLoc sig
  | .inl p => .dma (sem2 p)
  | .inr (.inl y) => csem (.inl y)
  | .inr (.inr _) => csem kcr

theorem sem2_kind : ∀ p : Fin 2, kindOf (.dma (sem2 p)) = none := by decide
theorem sem2_inj : Function.Injective sem2 := by decide
theorem stage_kind : ∀ (w : Fin 4) (s : Fin (spec0 w).nbuf), kindOf (.dma ((spec0 w).sem s)) = none := by decide

theorem osem_inj : Function.Injective osem := by
  have hne : ∀ p k, SemLoc.dma (sem2 p) ≠ csem k := fun p k h => by
    have := congrArg kindOf h
    rw [sem2_kind, kindOf_csem] at this; cases this
  rintro (p | y | u) (p' | y' | u') h
  · exact congrArg Sum.inl (sem2_inj (SemLoc.dma.inj h))
  · exact absurd h (hne p (.inl y'))
  · exact absurd h (hne p kcr)
  · exact absurd h.symm (hne p' (.inl y))
  · have := csem_injective (show csem (.inl y) = csem (.inl y') from h)
    cases this; rfl
  · have := csem_injective (show csem (.inl y) = csem (kcr) from h)
    cases this
  · exact absurd h.symm (hne p' kcr)
  · have := csem_injective (show csem (kcr) = csem (.inl y') from h)
    cases this
  · rfl

theorem ownSemFacts : Pipeline.OwnSemFacts cfg0.spec osem where
  isScoped := by decide +kernel
  inj := osem_inj
  disj := by
    have hk : ∀ k (w : Fin 4) (s : Fin (spec0 w).nbuf), csem k ≠ .dma ((spec0 w).sem s) := fun k w s h => by
      have := congrArg kindOf h
      rw [stage_kind, kindOf_csem] at this; cases this
    rintro (p | y | u) w s
    · exact (show ∀ (p : Fin 2) (w : Fin 4) (s : Fin (spec0 w).nbuf), SemLoc.dma (sem2 p) ≠ .dma ((spec0 w).sem s) by decide) p w s
    · exact hk (.inl y) w s
    · exact hk kcr w s

variable (c : Dev nD)

/-- The local copies' two semaphores at zero. -/
def dma2 : sProp 𝕄 := iprop(semVal ((c : Thread nD τ), .dma (sem2 0)) 0 ∗ semVal ((c : Thread nD τ), .dma (sem2 1)) 0)

theorem unscopedSems0_eq : (unscopedSems0 c : sProp 𝕄) = semVal (cell c kbar) 0 := by
  unfold unscopedSems0; rw [bigSep_eq_bigSepL_of_eq [SemLoc.reg barS] (by decide) (by decide)]; rfl

theorem ownSems0_eq : (Pipeline.ownSems0 (Ix := ℕ) (Name := ℕ) (U := UU) (Lvl := ℕ) (Val := Elt F) (τ := τ) osem c : sProp 𝕄)
    = iprop(dma2 c ∗ (bigSep Finset.univ fun y : Fin 6 × Fin 15 => semVal (cell c (.inl y)) 0) ∗ semVal (cell c kcr) 0) := by
  unfold Pipeline.ownSems0
  rw [bigSep_sum', bigSep_sum', bigSep_fin2]
  rw [show bigSep Finset.univ (fun b : Unit => (semVal ((c : Thread nD τ), osem (.inr (.inr b))) 0 : sProp 𝕄)) = semVal (cell c kcr) 0 from bigSep_univ_of_subsingleton ()]
  rfl

theorem sems0_open : iprop(Pipeline.ownSems0 (Ix := ℕ) (Name := ℕ) (U := UU) (Lvl := ℕ) (Val := Elt F) (τ := τ) osem c ∗ unscopedSems0 c)
    ⊢ iprop(dma2 c ∗ bigSep Finset.univ fun k : CK => (semVal (cell c k) 0 : sProp 𝕄)) := by
  rw [ownSems0_eq, unscopedSems0_eq, bigSep_cells]
  iintro ⟨⟨Hd, Hr, Hc⟩, Hb⟩
  isplitl [Hd]; · iexact Hd
  isplitl [Hr]; · iexact Hr
  isplitl [Hb] <;> iassumption

theorem sems0_close : iprop(dma2 c ∗ semsDone c)
    ⊢ iprop(Pipeline.ownSems0 (Ix := ℕ) (Name := ℕ) (U := UU) (Lvl := ℕ) (Val := Elt F) (τ := τ) osem c ∗ unscopedSems0 c : sProp 𝕄) := by
  rw [ownSems0_eq, unscopedSems0_eq, bigSep_rows]
  unfold semsDone rowDone agDone
  simp only [bigSep_sep']
  iintro ⟨Hd, ⟨H0, H1, H2, H3⟩, ⟨H4, H5⟩, Hb, Hc⟩
  isplitr [Hb]
  · isplitl [Hd]; · iexact Hd
    isplitr [Hc]
    · isplitl [H0]; · iexact H0
      isplitl [H1]; · iexact H1
      isplitl [H2]; · iexact H2
      isplitl [H3]; · iexact H3
      isplitl [H4] <;> iassumption
    iexact Hc
  iexact Hb

/-! ## What the launch deals, and what a device makes of it -/

def slotRec (J : Dev nD × Fin 2 → ℕ) : sProp 𝕄 := bigSep Finset.univ fun k : Dev nD × Fin 2 => slotInv ES (J k) k (slotAny (F := F) k)
instance slotRec_persistent (J : Dev nD × Fin 2 → ℕ) : BI.Persistent (slotRec (F := F) J) := by unfold slotRec; infer_instance

def G : sProp 𝕄 :=
  iprop((bigSep Finset.univ fun k : CK => roundState ER (Rd m) (cell c k) 0) ∗ (bigSep Finset.univ fun k : CK => reached ER (cell c k) 0)
    ∗ (∃ J, slotRec (F := F) J) ∗ posn c ∗ toks c ∗ rdToks c ∗ wrToks c)

def recs (K : Dev nD × CK → ℕ) (J : Dev nD × Fin 2 → ℕ) : sProp 𝕄 :=
  iprop((bigSep Finset.univ fun x : Dev nD × CK => cellInv ER (Rd m) (K x) (cell x.1 x.2))
    ∗ (bigSep Finset.univ fun x : Dev nD × CK => reached ER (cell x.1 x.2) 0) ∗ slotRec J)
instance recs_persistent (K : Dev nD × CK → ℕ) (J : Dev nD × Fin 2 → ℕ) : BI.Persistent (recs (F := F) m K J) := by unfold recs; infer_instance

def G' : sProp 𝕄 := iprop((∃ K J, recs m K J) ∗ (posn c ∗ payToks c ∗ rdToks c ∗ wrToks (nxt c)) ∗ dma2 c)

def u₀ : UU :=
  (initOf (Pipeline.cells cfgs cellOf_inj) (Pipeline.launchToks cfgs cellOf_inj),
    (initOf ringCells ringToks, (initSlots (Finset.univ : Finset (Dev nD × Fin 2)) 8, (1 : Counters))))

theorem fund_cells : BI.own (ER (initOf ringCells ringToks)) ⊢ (|==> iprop((bigSep Finset.univ fun c : Dev nD => bigSep Finset.univ fun k : CK => roundState ER (Rd m) (cell c k) 0)
      ∗ (bigSep Finset.univ fun c : Dev nD => bigSep Finset.univ fun k : CK => reached ER (cell c k) 0)
      ∗ (bigSep Finset.univ fun c : Dev nD => posn c) ∗ bigSep Finset.univ fun c : Dev nD => toks c) : sProp 𝕄) := by
  have hX (Φ : GSem nD τ sig → sProp 𝕄) : bigSep ringCells Φ = bigSep Finset.univ fun c : Dev nD => bigSep Finset.univ fun k : CK => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => toks_eq c
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  isplitl [Hst']; · iexact Hst'
  isplitl [Hr']; · iexact Hr'
  isplitl [Hat']; · unfold posn; iexact Hat'
  iexact Htok'

theorem fund_slots : BI.own (ES (initSlots (Finset.univ : Finset (Dev nD × Fin 2)) 8)) ⊢ (|={Set.univ}=> iprop((∃ J, slotRec (F := F) J)
      ∗ (bigSep Finset.univ fun c : Dev nD => rdToks c) ∗ bigSep Finset.univ fun c : Dev nD => wrToks c) : sProp 𝕄) := by
  iintro H
  imod (slots_init ES (Finset.univ : Finset (Dev nD × Fin 2)) 8 (fun k => slotAny (F := F) k)) $$ H with ⟨%J, -, HI, Hr, Hw⟩
  imodintro
  isplitl [HI]; · iexists J; unfold slotRec; iexact HI
  isplitl [Hr]
  · ihave Hr' := (Entails.of_eq (rd_deal (F := F))) $$ Hr
    iexact Hr'
  ihave Hw' := (wr_deal (F := F)) $$ Hw
  iexact Hw'

theorem fund_all : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  ihave H := (own_pair_emb embR _ _) $$ HX
  icases H with ⟨HR, HX⟩
  ihave H := (own_pair_emb ((Emb.inr : Emb (US × Counters) (UB × (US × Counters))).trans embR) _ _) $$ HX
  icases H with ⟨HS, -⟩
  imod (fund_cells m) $$ HR with ⟨H1, H2, H3, H4⟩
  imod (fund_slots (F := F)) $$ HS with ⟨#H5, H6, H7⟩
  imodintro
  isplitl [HP]; · iexact HP
  unfold G
  simp only [bigSep_sep']
  isplitl [H1]; · iexact H1
  isplitl [H2]; · iexact H2
  isplitr; · iapply (BI.bigSep_of_persistent Finset.univ iprop(∃ J, slotRec (F := F) J)); iexact H5
  isplitl [H3]; · iexact H3
  isplitl [H4]; · iexact H4
  isplitl [H6]; · iexact H6
  iexact H7

theorem core_alloc :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (cell c k))) ∗ (bigSep Finset.univ fun k : CK => reached ER (cell c k) 0)
          ∗ (∃ J, slotRec (F := F) J) ∗ posn c ∗ toks c ∗ rdToks c ∗ wrToks c ∗ dma2 c) := by
  unfold G
  iintro ⟨Hos, Hus, Hst, Hre, HJ, Hat, Htok, Hrd, Hwr⟩
  ihave Hv := (sems0_open (F := F) c) $$ [Hos Hus]
  · isplitl [Hos] <;> iassumption
  icases Hv with ⟨Hd, Hv⟩
  imod (show iprop((bigSep Finset.univ fun k : CK => semVal (cell c k) 0) ∗ bigSep Finset.univ fun k : CK => roundState ER (Rd m) (cell c k) 0)
      ⊢ (|={Set.univ}=> bigSep Finset.univ fun k : CK => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hre]; · iexact Hre
  isplitl [HJ]; · iexact HJ
  isplitl [Hat]; · iexact Hat
  isplitl [Htok]; · iexact Htok
  isplitl [Hrd]; · iexact Hrd
  isplitl [Hwr]; · iexact Hwr
  iexact Hd

theorem any_slot : bigSep Finset.univ (fun _ : Dev nD => iprop(∃ J, slotRec (F := F) J)) ⊢ iprop(∃ J, slotRec (F := F) J) :=
  bigSep_elim (Φ := fun _ : Dev nD => iprop(∃ J, slotRec (F := F) J)) (Finset.mem_univ (0 : Dev nD))

theorem regroup :
    (bigSep Finset.univ fun c : Dev nD => iprop((bigSep Finset.univ fun k : CK => iprop(∃ κ : ℕ, cellInv ER (Rd m) κ (cell c k))) ∗ (bigSep Finset.univ fun k : CK => reached ER (cell c k) 0)
          ∗ (∃ J, slotRec (F := F) J) ∗ posn c ∗ toks c ∗ rdToks c ∗ wrToks c ∗ dma2 c) : sProp 𝕄)
      ⊢ bigSep Finset.univ (G' m) := by
  unfold G'
  simp only [bigSep_sep']
  rw [← bigSep_univ_prod (fun x : Dev nD × CK => iprop(∃ κ : ℕ, cellInv ER (Rd m) κ (cell x.1 x.2))), ← bigSep_univ_prod (fun x : Dev nD × CK => (reached ER (cell x.1 x.2) 0 : sProp 𝕄)),
    ← bigSep_ring (wrToks (F := F))]
  iintro ⟨HI, #HR, HJ, Hat, Htok, Hrd, Hwr, Hd⟩
  ihave HK := (BI.bigSep_exists_pi Finset.univ (fun (x : Dev nD × CK) (κ : ℕ) => (cellInv ER (Rd m) κ (cell x.1 x.2) : sProp 𝕄))) $$ HI
  icases HK with ⟨%K, #HI⟩
  ihave HJ' := (any_slot (F := F)) $$ HJ
  icases HJ' with ⟨%J, #HJ⟩
  ihave Htk := (toks_around (F := F)) $$ Htok
  isplitr
  · iapply (BI.bigSep_of_persistent Finset.univ iprop(∃ K J, recs (F := F) m K J))
    iexists K; iexists J
    unfold recs
    isplitr; · iexact HI
    isplitr; · iexact HR
    iexact HJ
  isplitr [Hd]
  · isplitl [Hat]; · iexact Hat
    isplitl [Htk]; · iexact Htk
    isplitl [Hrd] <;> iassumption
  iexact Hd

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Ring
end
end
-- ==== Proof.Run.lean ====
module

public import proofs.«01_k».proof.Proof.Launch

@[expose] public section

set_option maxRecDepth 8000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)
variable (c : Dev nD) (ρ : Dev nD → PrngReg)

/-! ## The pipeline's proof data -/

/-- What device `c`'s body starts from beside its scratch: what every device knows, its tokens, and its arguments. -/
def X : sProp 𝕄 := iprop((∃ K J, env m K J) ∗ lin c ∗ args m c)
def Φ₀ : sProp 𝕄 := iprop(X m c ∗ scr c)
def Φ₁ : sProp 𝕄 := iprop(args m c ∗ semsDone c ∗ scr c)
/-- What is read off the final state beside the windows' arrays. -/
def Y : sProp 𝕄 := iprop(unscopedSems0 c ∗ ((c : Thread nD τ).loc main_arg2 ↦{fullShare} argK m c) ∗ ((c : Thread nD τ).loc main_arg3 ↦{fullShare} argV m c))

def t₀ : Fin cfg0.N := t0_0
theorem fin_N (t : Fin cfg0.N) : t = t₀ := fin_N0 t

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => xs m c
    | ⟨1, _⟩ => wqs m c
    | ⟨2, _⟩ => wos m c
    | ⟨3, _⟩ => outF m
  Φ t := match t with
    | ⟨0, _⟩ => Φ₀ m c
    | ⟨_ + 1, _⟩ => Φ₁ m c
  q _ := fullShare
  owed t := match t with
    | ⟨0, _⟩ => O₀ c
    | ⟨_ + 1, _⟩ => 0

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem fetch_0 (t : Fin cfg0.N) : (cfg0.win (0 : Fin 4)).fetch t = true := by rw [fin_N t]; rfl
theorem fetch_1 (t : Fin cfg0.N) : (cfg0.win (1 : Fin 4)).fetch t = true := by rw [fin_N t]; rfl
theorem fetch_2 (t : Fin cfg0.N) : (cfg0.win (2 : Fin 4)).fetch t = true := by rw [fin_N t]; rfl

theorem before_0 (d) : (dats m ρ 0 c).before (0 : Fin 4) t₀ d = xs m c := by
  unfold Pipeline.Dat.before; rw [if_pos (fetch_0 t₀)]; rfl
theorem before_1 (d) : (dats m ρ 0 c).before (1 : Fin 4) t₀ d = wqs m c := by
  unfold Pipeline.Dat.before; rw [if_pos (fetch_1 t₀)]; rfl
theorem before_2 (d) : (dats m ρ 0 c).before (2 : Fin 4) t₀ d = wos m c := by
  unfold Pipeline.Dat.before; rw [if_pos (fetch_2 t₀)]; rfl

theorem owns_whole_eq (b : Ref sig .tc) (A : b.ty.Contents (Elt F)) :
    (owns (Ix := ℕ) (Name := ℕ) (U := UU) (Lvl := ℕ) (c : Thread nD τ) (Memref.whole b) fullShare A : sProp 𝕄)
      = iprop(∃ f : Buf (Elt F) (((c : Dev nD) : Thread nD τ).loc b), ⌜f = A⌝ ∗ (((c : Thread nD τ).loc b) ↦{fullShare} f)) := by
  unfold owns; simp only [Memref.view_whole, View.read_whole, View.set_whole]

abbrev stg (b : Ref sig .tc) (A : b.ty.Contents (Elt F)) : sProp 𝕄 :=
  iprop(∃ f : Buf (Elt F) (((c : Dev nD) : Thread nD τ).loc b), ⌜f = A⌝ ∗ (((c : Thread nD τ).loc b) ↦{fullShare} f))

def bodyPre : sProp 𝕄 :=
  iprop(Φ₀ m c ∗ (dats m ρ 0 c).owesAt 0 t₀.castSucc
    ∗ (∃ d, stg c cc0_stg0_0 ((dats m ρ 0 c).before (0 : Fin 4) t₀ d))
    ∗ (∃ d, stg c cc0_stg1_0 ((dats m ρ 0 c).before (1 : Fin 4) t₀ d))
    ∗ (∃ d, stg c cc0_stg2_0 ((dats m ρ 0 c).before (2 : Fin 4) t₀ d))
    ∗ (∃ d, stg c cc0_stg3_0 ((dats m ρ 0 c).before (3 : Fin 4) t₀ d)))

def bodyPost : sProp 𝕄 :=
  iprop(Φ₁ m c ∗ (dats m ρ 0 c).owesAt 0 t₀.succ ∗ stg c cc0_stg0_0 (xs m c) ∗ stg c cc0_stg1_0 (wqs m c) ∗ stg c cc0_stg2_0 (wos m c) ∗ stg c cc0_stg3_0 (outF m))

theorem pre_x : iprop(∃ d, stg c cc0_stg0_0 ((dats m ρ 0 c).before (0 : Fin 4) t₀ d)) ⊢ ((c : Thread nD τ).loc cc0_stg0_0 ↦{fullShare} xs m c : sProp 𝕄) := by
  iintro ⟨%d, %f, %h, H⟩; rw [before_0] at h; subst h; iexact H
theorem pre_q : iprop(∃ d, stg c cc0_stg1_0 ((dats m ρ 0 c).before (1 : Fin 4) t₀ d)) ⊢ ((c : Thread nD τ).loc cc0_stg1_0 ↦{fullShare} wqs m c : sProp 𝕄) := by
  iintro ⟨%d, %f, %h, H⟩; rw [before_1] at h; subst h; iexact H
theorem pre_o : iprop(∃ d, stg c cc0_stg2_0 ((dats m ρ 0 c).before (2 : Fin 4) t₀ d)) ⊢ ((c : Thread nD τ).loc cc0_stg2_0 ↦{fullShare} wos m c : sProp 𝕄) := by
  iintro ⟨%d, %f, %h, H⟩; rw [before_2] at h; subst h; iexact H
theorem pre_out : iprop(∃ d, stg c cc0_stg3_0 ((dats m ρ 0 c).before (3 : Fin 4) t₀ d))
    ⊢ (∃ f : Buf (Elt F) ((c : Thread nD τ).loc cc0_stg3_0), ((c : Thread nD τ).loc cc0_stg3_0) ↦{fullShare} f : sProp 𝕄) := by
  iintro ⟨%d, %f, %h, H⟩; iexists f; iexact H

theorem owes_open : (dats m ρ 0 c).owesAt 0 t₀.castSucc ⊢ ow (F := F) c (O₀ c) := by
  unfold Pipeline.Dat.owesAt Pipeline.owesWithin ow
  iintro ⟨%W, %hW, H⟩
  iexists W
  rw [show (dats m ρ 0 c).owed t₀.castSucc = O₀ c from rfl]
  iexact H
theorem owes_close : ow (F := F) c 0 ⊢ (dats m ρ 0 c).owesAt 0 t₀.succ := by
  unfold Pipeline.Dat.owesAt Pipeline.owesWithin ow
  iintro ⟨%W, H⟩
  iexists W
  rw [show (dats m ρ 0 c).owed t₀.succ = 0 from rfl]
  isplitr; · ipureintro; exact fun _ _ => Or.inl trivial
  iexact H

theorem sound_body : bodyPre m c ρ ⊢ wpc c (chain (F := F)) fun _ => bodyPost m c ρ := by
  unfold bodyPre Φ₀ X
  iintro ⟨⟨⟨⟨%K, %J, #He⟩, Hl, Ha⟩, Hs⟩, Ho, Hx, Hq, Hw, Hout⟩
  ihave Hx := (pre_x m c ρ) $$ Hx
  ihave Hq := (pre_q m c ρ) $$ Hq
  ihave Hw := (pre_o m c ρ) $$ Hw
  ihave Hout := (pre_out m c ρ) $$ Hout
  ihave Ho := (owes_open m c ρ) $$ Ho
  iapply (wp_body m K J c _)
  isplitr; · iexact He
  isplitl [Hl]; · iexact Hl
  isplitl [Hs]; · iexact Hs
  isplitl [Ha]; · iexact Ha
  isplitl [Hx Hq Hw]
  · unfold stgs
    isplitl [Hx]; · iexact Hx
    isplitl [Hq] <;> iassumption
  isplitl [Hout]; · iexact Hout
  isplitl [Ho]; · iexact Ho
  unfold bodyPost Φ₁ stgs
  iintro ⟨Hs, Ha, ⟨Hx, Hq, Hw⟩, Hout, Hd, Ho⟩
  isplitl [Hs Ha Hd]
  · isplitl [Ha]; · iexact Ha
    isplitl [Hd] <;> iassumption
  isplitl [Ho]; · iapply (owes_close m c ρ); iexact Ho
  isplitl [Hx]
  · iexists _; isplitr; · (ipureintro; rfl)
    iexact Hx
  isplitl [Hq]
  · iexists _; isplitr; · (ipureintro; rfl)
    iexact Hq
  isplitl [Hw]
  · iexists _; isplitr; · (ipureintro; rfl)
    iexact Hw
  iexists _; isplitr; · (ipureintro; rfl)
  iexact Hout

theorem body_obligation : Pipeline.BodyObligation (dats (F := F) m ρ 0 c) (defs₀ (F := F)) 𝒱₀ 0 Set.univ := fun t => by
  rw [fin_N t]
  rw [bigSep_W, bigSep_W]
  simp only [owns_whole_eq]
  show bodyPre m c ρ ⊢ wpc c (body (F := F)) (fun _ => bodyPost m c ρ)
  rw [body_eq_chain]
  exact sound_body m c ρ

/-! ## The launch's side conditions -/

theorem share_eq (w : Fin cfg0.W) : (dats m ρ 0 c).share w = fullShare := by unfold Pipeline.Dat.share; split <;> rfl

theorem rest_args : (Pipeline.unscopedRestP Pipeline.Prefetch.none cfg0.spec c (fun b => m ((c : Thread nD τ).loc b)) : sProp 𝕄)
    = iprop(((c : Thread nD τ).loc main_arg2 ↦{fullShare} argK m c) ∗ ((c : Thread nD τ).loc main_arg3 ↦{fullShare} argV m c)) :=
  Pipeline.unscopedRestP_eq_of_list cfg0.spec c Pipeline.Prefetch.none _ [main_arg2, main_arg3] (by decide) (by decide)

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(X m c ∗ emp) := by
  rw [rest_args]
  unfold G' dma2 X args
  iintro ⟨⟨HK, HV⟩, #Hlev, Hcr, -, ⟨%K, %J, #Hrec⟩, Hlin, Hs0, Hs1⟩
  ihave Hc := (creds_intro (F := F) c) $$ Hcr
  ihave Hl := (lin_intro (F := F) c) $$ [Hlin Hc]
  · isplitl [Hlin] <;> iassumption
  imodintro
  isplitl
  · isplitr
    · iexists K; iexists J
      unfold recs slotRec env
      icases Hrec with ⟨H1, H2, H3⟩
      isplitr; · iexact H1
      isplitr; · iexact H2
      isplitr; · iexact H3
      iexact Hlev
    isplitl [Hl]; · iexact Hl
    isplitl [HK]; · iexact HK
    isplitl [HV]; · iexact HV
    isplitl [Hs0] <;> iassumption
  · iempintro

theorem scr_eq : (Pipeline.scopedRest cfg0.spec c : sProp 𝕄) = scr c := (scopedRest0_eq c).trans rfl

theorem phi0_intro :
    iprop(X m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scr_eq]
  unfold Φ₀
  iintro ⟨Hs, -, Hr⟩
  isplitl [Hs] <;> iassumption

theorem phi1_exit : (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ m c from rfl, scr_eq]
  unfold Φ₁ args Y
  iintro ⟨⟨HK, HV, Hs0, Hs1⟩, Hd, Hscr⟩
  ihave H := (sems0_close (F := F) c) $$ [Hs0 Hs1 Hd]
  · isplitl [Hs0 Hs1]
    · unfold dma2; isplitl [Hs0] <;> iassumption
    iexact Hd
  icases H with ⟨Hown, Hun⟩
  isplitl [Hun HK HV]
  · isplitl [Hun]; · iexact Hun
    isplitl [HK] <;> iassumption
  isplitl [Hown] <;> iassumption

theorem mayWait_stage (w : Fin 4) (s : Fin (spec0 w).nbuf) {O : CellTallies nD τ sig ℕ} (hO : O = O₀ c ∨ O = 0) :
    (levAts L lv : sProp 𝕄) ⊢ MayWait (c : Thread nD τ) (.dma ((spec0 w).sem s)) 0 O := by
  refine mayWait c _ 0 (by decide) ?_
  rw [show lv ((c : Thread nD τ), .dma ((spec0 w).sem s)) 0 = 0 from by unfold lv; dsimp only; rw [stage_kind]]
  rcases hO with rfl | rfl
  · exact Above_O₀ c
  · exact Above.zero 0

theorem waits : (levAts L lv : sProp 𝕄) ⊢ Pipeline.cellsWaits cfgs (dats m ρ) 0 0 c :=
  Pipeline.cellsWaits_intro cfgs (dats m ρ) 0 0 c fun w s t =>
    mayWait_stage c w s (by
      rcases t with ⟨_ | _, ht⟩
      · exact Or.inl rfl
      · exact Or.inr rfl)

/-! ## The run -/

def finalA (w : Fin cfg0.W) : Buf (Elt F) ((cfg0.win w).arr.view.loc (c : Thread nD τ)) := (dats m ρ 0 c).arrAt w cfg0.N

/-- What a final memory holds: the windows' arrays, and the keys and values as launched. -/
def QC (r : PUnit × MemSt nD τ sig (Elt F)) : Prop := ∀ c : Dev nD, (∀ w : Fin cfg0.W, r.2.mem ((cfg0.win w).arr.view.loc (c : Thread nD τ)) = finalA m c ρ w)
  ∧ r.2.mem ((c : Thread nD τ).loc main_arg2) = m ((c : Thread nD τ).loc main_arg2) ∧ r.2.mem ((c : Thread nD τ).loc main_arg3) = m ((c : Thread nD τ).loc main_arg3)

def QY (c : Dev nD) (s : MemSt nD τ sig (Elt F)) : Prop :=
  (∀ sm : SemLoc sig, sm.isScoped .tc = false → s.sem ((c.tc : Thread nD τ), sm) = 0)
  ∧ s.mem ((c : Thread nD τ).loc main_arg2) = m ((c : Thread nD τ).loc main_arg2) ∧ s.mem ((c : Thread nD τ).loc main_arg3) = m ((c : Thread nD τ).loc main_arg3)

theorem arg_read (b : Ref sig .tc) (f : Buf (Elt F) ((c : Thread nD τ).loc b)) (s' : Phys nD τ sig (Elt F)) :
    iprop(((c : Thread nD τ).loc b ↦{fullShare} f) ∗ SI s') ⊢ (iprop(⌜s'.mem.mem ((c : Thread nD τ).loc b) = f⌝ ∗ SI s') : sProp 𝕄) := by
  iintro ⟨Hi, HSI⟩
  icombine HSI Hi gives %h
  isplitr; · ipureintro; exact Buf.eq_of_forall_mem_univ h
  iexact HSI

theorem readY (s' : Phys nD τ sig (Elt F)) : iprop(Y m c ∗ emp ∗ SI s') ⊢ |={Set.univ}=> iprop(⌜QY m c s'.mem⌝ ∗ SI s') := by
  unfold Y
  iintro ⟨⟨Hu, HK, HV⟩, -, HSI⟩
  ihave H := (arg_read c main_arg2 (argK m c) s') $$ [HK HSI]
  · isplitl [HK] <;> iassumption
  icases H with ⟨%h2, HSI⟩
  ihave H := (arg_read c main_arg3 (argV m c) s') $$ [HV HSI]
  · isplitl [HV] <;> iassumption
  icases H with ⟨%h3, HSI⟩
  imod (Pipeline.unscopedSems0_read (X := unscopedSems0 c) (c := c) fupd_intro s') $$ [Hu HSI] with ⟨%h1, HSI⟩
  · isplitl [Hu] <;> iassumption
  imodintro
  isplitr; · ipureintro; exact ⟨h1, h2, h3⟩
  iexact HSI

/-- For any float values, from any memory with zero counters: every weakly fair execution terminates, with the windows'
    arrays at the computed contents, the keys and values unchanged, and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ 𝒱₀ m ρ main
    (hmain := fun _ => rfl)
    (hbody := fun c => (body_obligation m c ρ).loose) (hne := block_pos0) (harr := arr_whole0) (hstage := stage_whole0) (hshare := fun c => share_eq m c ρ)
    (hdistinct := winFacts0.arr_inj)
    (O₀ := O₀) (howed₀ := fun _ => rfl) (howedN := fun _ => rfl)
    (L := L) (lv := lv) (hL := L_of_ne) (hwaits := fun c => waits m c ρ)
    (G := G m) (G' := G' m) (u₀ := u₀)
    (hu₀ := fund_all m) (hglob := glob m)
    (hA := fun _ _ => rfl) (hpf := fun _ k => k.elim0)
    (X := X m) (Y := Y m) (Z := fun _ => iprop(emp))
    (hX := fun c => start_intro m c ρ) (hin := fun c => phi0_intro m c ρ) (hout := fun c => phi1_exit m c ρ)
    (QY := QY m) (hY := readY m)
    (hQ := fun _ h hs => ⟨fun c => ⟨fun w => (h c).1 w, (h c).2.2.2⟩, sem_eq_zero hs fun c => (h c).2.2.1⟩)

end Cert.KernelIdeal.Ring
end
end
-- ==== Proof.Read.lean ====
module

public import proofs.«01_k».proof.Proof.Run

@[expose] public section

set_option maxRecDepth 8000

noncomputable section

namespace Cert.KernelIdeal.Ring

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ)
variable (c : Dev nD) (ρ : Dev nD → PrngReg)

/-- What a run leaves in the five arguments: what they held at the launch. -/
def ArgsKept (m : (ℓ : Loc nD τ sig) → Buf (Elt F) ℓ) (r : (ℓ : Loc nD τ sig) → Buf (Elt F) ℓ) (c : Dev nD) : Prop :=
  r ((c : Thread nD τ).loc main_arg0) = m ((c : Thread nD τ).loc main_arg0) ∧ r ((c : Thread nD τ).loc main_arg1) = m ((c : Thread nD τ).loc main_arg1)
    ∧ r ((c : Thread nD τ).loc main_arg2) = m ((c : Thread nD τ).loc main_arg2) ∧ r ((c : Thread nD τ).loc main_arg3) = m ((c : Thread nD τ).loc main_arg3)
    ∧ r ((c : Thread nD τ).loc main_arg4) = m ((c : Thread nD τ).loc main_arg4)

theorem finalA_0 : finalA m c ρ (0 : Fin 4) = m ((c : Thread nD τ).loc main_arg0) := (dats m ρ 0 c).arrAt_in (0 : Fin 4) rfl _
theorem finalA_1 : finalA m c ρ (1 : Fin 4) = m ((c : Thread nD τ).loc main_arg1) := (dats m ρ 0 c).arrAt_in (1 : Fin 4) rfl _
theorem finalA_2 : finalA m c ρ (2 : Fin 4) = m ((c : Thread nD τ).loc main_arg4) := (dats m ρ 0 c).arrAt_in (2 : Fin 4) rfl _

/-- The result array after the run, read through its one window. -/
theorem finalA_3 : (win0_3.blk (0 : Fin 1)).view.read (Elt F) (finalA m c ρ (3 : Fin 4)) = outF m := by
  unfold finalA
  rw [show cfg0.N = ((0 : Fin 1) : Fin cfg0.N).val + 1 from rfl, (dats m ρ 0 c).arrAt_succ (3 : Fin 4) (0 : Fin 1)]
  rw [show (cfg0.win (3 : Fin 4)).flush (0 : Fin 1) = true from by decide, if_pos rfl]
  exact View.read_write_univ _ _

/-- The run read at the arguments and at the result. -/
theorem run_read : θ_run defs (onTc (τ := τ) (main (F := F))) ⟨m, fun _ => 0, ρ⟩ (fun r =>
    (∀ c : Dev nD, (win0_3.blk (0 : Fin 1)).view.read (Elt F) (r.2.mem ((c : Thread nD τ).loc main_v1)) = outF m ∧ ArgsKept m r.2.mem c)
      ∧ r.2.sem = fun _ => 0) :=
  (θ_run defs _ _).mono (fun r h => ⟨fun c =>
    ⟨(congrArg ((win0_3.blk (0 : Fin 1)).view.read (Elt F)) ((h.1 c).1 (3 : Fin 4))).trans (finalA_3 m c ρ),
      ((h.1 c).1 (0 : Fin 4)).trans (finalA_0 m c ρ), ((h.1 c).1 (1 : Fin 4)).trans (finalA_1 m c ρ),
      (h.1 c).2.1, (h.1 c).2.2, ((h.1 c).1 (2 : Fin 4)).trans (finalA_2 m c ρ)⟩, h.2⟩) (run_main m ρ)

end Cert.KernelIdeal.Ring

end

end
-- ==== Proof.Finite.lean ====
module

public import proofs.«01_k».proof.Defs
public import Idealize.ShloMosaic.Lib.ReduceAll
public import Idealize.ShloMosaic.Lib.Pointwise

@[expose] public section

noncomputable section

namespace Cert.KernelIdeal.Ring

open Idealize.ShloMosaic

/-! ## What the precondition says: three arguments hold reals -/

/-- A value that is a real. -/
def IsReal (v : EReal) : Prop := ∃ r : ℝ, v = (r : EReal)

theorem IsReal.mul {v w : EReal} (a : IsReal v) (b : IsReal w) : IsReal (v * w) := by
  obtain ⟨r, rfl⟩ := a
  obtain ⟨t, rfl⟩ := b
  exact ⟨r * t, (EReal.coe_mul r t).symm⟩

theorem IsReal.add {v w : EReal} (a : IsReal v) (b : IsReal w) : IsReal (v + w) := by
  obtain ⟨r, rfl⟩ := a
  obtain ⟨t, rfl⟩ := b
  exact ⟨r + t, (EReal.coe_add r t).symm⟩

theorem IsReal.sum {ι : Type} (B : Finset ι) (f : ι → EReal) (a : ∀ i, IsReal (f i)) : IsReal (∑ i ∈ B, f i) := by
  classical
  induction B using Finset.induction_on with
  | empty => exact ⟨0, by simp⟩
  | insert x s hx ih =>
    rw [Finset.sum_insert hx]
    exact (a x).add ih

theorem IsReal.coe {v : EReal} (a : IsReal v) : ((v.toReal : ℝ) : EReal) = v := by
  obtain ⟨r, rfl⟩ := a
  rfl

theorem inf_word : Ideal.ofBits .f32 0x7F800000#32 = ⊤ := by
  simp [Ideal.ofBits, Ideal.ieee]
theorem ninf_word : Ideal.ofBits .f32 0xFF800000#32 = ⊥ := by
  simp [Ideal.ofBits, Ideal.ieee]
/-- A pattern whose exponent field is not all ones denotes a real. -/
theorem ieee_real (e m : ℕ) {w : ℕ} (b : BitVec w) (h : (b.extractLsb' m e).toNat ≠ 2 ^ e - 1) : IsReal (Ideal.ieee e m b) := by
  unfold Ideal.ieee
  simp only [if_neg h]
  split_ifs
  all_goals exact ⟨_, rfl⟩
theorem scale_word : IsReal (Ideal.ofBits .f32 0x3DB504F3#32) := by
  rw [show ∀ b : BitVec 32, Ideal.ofBits .f32 b = Ideal.ieee 8 23 b from fun _ => by simp only [Ideal.ofBits]]
  exact ieee_real 8 23 _ (by decide)
theorem masked_word : IsReal (Ideal.ofBits .f32 0xCE6E6B28#32) := by
  rw [show ∀ b : BitVec 32, Ideal.ofBits .f32 b = Ideal.ieee 8 23 b from fun _ => by simp only [Ideal.ofBits]]
  exact ieee_real 8 23 _ (by decide)

/-- A value whose magnitude is below infinity is a real. -/
theorem real_of_abs (v : EReal) (e : Ideal.cmp .olt (max v (-v)) (Ideal.ofBits .f32 0x7F800000#32) = 1#1) : IsReal v := by
  rw [inf_word] at e
  induction v with
  | bot => simp [Ideal.cmp] at e
  | top => simp [Ideal.cmp] at e
  | coe r => exact ⟨r, rfl⟩

instance facts_finite : Cert.Pre_scores_finite_KernelIdeal.Facts where
  bcast_S_S1x2048x1024 := by decide
  reducesTo_S1x2048x1024_S_d0_1_2 := by decide
  h_S_ := by decide
  bcast_S_S1024x1024 := by decide
  reducesTo_S1024x1024_S_d0_1 := by decide
  bcast_S_S1x2048x8x128 := by decide
  reducesTo_S1x2048x8x128_S_d0_1_2_3 := by decide

instance facts_finite_ref : Cert.Pre_scores_finite_ReferenceIdeal.Facts where
  bcast_S_S1x2048x1024 := by decide
  reducesTo_S1x2048x1024_S_d0_1_2 := by decide
  h_S_ := by decide
  bcast_S_S1024x1024 := by decide
  reducesTo_S1024x1024_S_d0_1 := by decide
  bcast_S_S1x32768x8x128 := by decide
  reducesTo_S1x32768x8x128_S_d0_1_2_3 := by decide

section
open Cert.Pre_scores_finite_KernelIdeal

theorem finite_args (x : FVec Ideal S1x2048x1024 .f32) (wq : FVec Ideal S1024x1024 .f32) (k v : FVec Ideal S1x2048x8x128 .f32) (wo : FVec Ideal S1024x1024 .f32)
    (e : Cert.Pre_scores_finite_KernelIdeal.fn (F := Ideal) x wq k v wo = fun _ => 1#1) :
    (∀ j, IsReal (x j)) ∧ (∀ j, IsReal (wq j)) ∧ ∀ j, IsReal (k j) := by
  have e0 := congrFun e ix0
  unfold Cert.Pre_scores_finite_KernelIdeal.fn at e0
  obtain ⟨e1, e4⟩ := IntOp.andi_eq_one.1 e0
  obtain ⟨e2, e3⟩ := IntOp.andi_eq_one.1 e1
  exact ⟨fun j => real_of_abs _ (Host.reduce_andi_all _ _ _ _ _ e2 j), fun j => real_of_abs _ (Host.reduce_andi_all _ _ _ _ _ e3 j),
    fun j => real_of_abs _ (Host.reduce_andi_all _ _ _ _ _ e4 j)⟩

end

end Cert.KernelIdeal.Ring
end
end
-- ==== Proof.Reads.lean ====
module

public import proofs.«01_k».proof.Proof.Contents
public import Idealize.ShloMosaic.Lib.Pointwise

@[expose] public section

noncomputable section

namespace Cert.KernelIdeal.Ring

open Idealize.ShloMosaic Idealize.ShloMosaic.TcCoe Idealize.SL Idealize.SL.Sem
open Cert.KernelIdeal Cert.KernelIdeal.Gen

/-! ## The body's loads at an index -/

variable {F : FTy → Type} [FloatOps F]
variable (m : (ℓ : Loc nD τ sig) → Buf (Elt F) ℓ) (c : Dev nD)

theorem xs_at (j : S1x2048x1024.Idx) : xs m c j = m ((c : Thread nD τ).loc main_arg0) j := by
  unfold xs
  refine congrArg (m ((c : Thread nD τ).loc main_arg0)) (funext fun a => Fin.ext ?_)
  refine Pipeline.Window.rect_emb_val_of_index_zero win0_0 (0 : Fin 1) a ?_ j
  fin_cases a <;> rfl
theorem wqs_at (j : S1024x1024.Idx) : wqs m c j = m ((c : Thread nD τ).loc main_arg1) j := by
  unfold wqs
  refine congrArg (m ((c : Thread nD τ).loc main_arg1)) (funext fun a => Fin.ext ?_)
  refine Pipeline.Window.rect_emb_val_of_index_zero win0_1 (0 : Fin 1) a ?_ j
  fin_cases a <;> rfl
theorem wos_at (j : S1024x1024.Idx) : wos m c j = m ((c : Thread nD τ).loc main_arg4) j := by
  unfold wos
  refine congrArg (m ((c : Thread nD τ).loc main_arg4)) (funext fun a => Fin.ext ?_)
  refine Pipeline.Window.rect_emb_val_of_index_zero win0_2 (0 : Fin 1) a ?_ j
  fin_cases a <;> rfl
/-- The written-back window is the whole result. -/
theorem out_read (f : (main_v1 : Ref sig .tc).ty.Contents (Elt F)) (j : S1x2048x1024.Idx) : (win0_3.blk (0 : Fin 1)).view.read (Elt F) f j = f j := by
  refine congrArg f (funext fun a => Fin.ext ?_)
  refine Pipeline.Window.rect_emb_val_of_index_zero win0_3 (0 : Fin 1) a ?_ j
  fin_cases a <;> rfl

theorem wqh_at (h : Fin 8) (a : Fin 1024) (d : Fin 128) : wqh m c h (ix2 a d) = wqs m c (ix2 a ⟨h.val * 128 + d.val, by omega⟩) := by
  unfold wqh
  refine congrArg (wqs m c) (funext fun u => Fin.ext ?_)
  fin_cases u
  · show 0 + 1 * a.val = a.val
    omega
  · show 128 * h.val + 1 * d.val = h.val * 128 + d.val
    omega
theorem woh_at (h : Fin 8) (d : Fin 128) (o : Fin 1024) : woh m c h (ix2 d o) = wos m c (ix2 ⟨h.val * 128 + d.val, by omega⟩ o) := by
  unfold woh
  refine congrArg (wos m c) (funext fun u => Fin.ext ?_)
  fin_cases u
  · show 128 * h.val + 1 * d.val = h.val * 128 + d.val
    omega
  · show 0 + 1 * o.val = o.val
    omega
theorem qt_at (h : Fin 8) (n : Fin 16) (r d : Fin 128) : qt m c h (tr n) (ix2 r d) = qh m c h (ix2 ⟨128 * n.val + r.val, by omega⟩ d) := by
  unfold qt
  refine congrArg (qh m c h) (funext fun u => Fin.ext ?_)
  fin_cases u
  · show 128 * n.val + 1 * r.val = 128 * n.val + r.val
    omega
  · show 0 + 1 * d.val = d.val
    omega

theorem head_idx (h : Fin 8) (e) (k : Fin 2048) (d : Fin 128) :
    (Rect.unit (s := S1x2048x8x128) ![0, 0, h.val, 0] S1x2048x1x128.size (inbHead h)).emb (Shape.reshapeEquiv (s' := S2048x128) (s := S1x2048x1x128) e (ix2 k d)) = (ix4 0 k h d : S1x2048x8x128.Idx) := by
  have e1 : Shape.reshapeEquiv (s' := S2048x128) (s := S1x2048x1x128) e (ix2 k d) = ix4 0 k 0 d := by pointwise
  rw [e1]
  funext u
  refine Fin.ext ?_
  fin_cases u
  · rfl
  · show 0 + 1 * k.val = k.val
    omega
  · show h.val + 1 * 0 = h.val
    omega
  · show 0 + 1 * d.val = d.val
    omega
theorem kh_at (h : Fin 8) (k : Fin 2048) (d : Fin 128) : kh m c h (ix2 k d) = m ((c : Thread nD τ).loc main_arg2) (ix4 0 k h d) := by
  unfold kh
  exact congrArg (m ((c : Thread nD τ).loc main_arg2)) (head_idx h _ k d)
theorem vh_at (h : Fin 8) (k : Fin 2048) (d : Fin 128) : vh m c h (ix2 k d) = m ((c : Thread nD τ).loc main_arg3) (ix4 0 k h d) := by
  unfold vh
  exact congrArg (m ((c : Thread nD τ).loc main_arg3)) (head_idx h _ k d)

/-! ## The chunks of the accumulators at an index -/

theorem rdC_at (s : Fin 16) (f : (cc0_scratch0 : Ref sig .tc).ty.Contents (Elt F)) (h : Fin 8) (r d : Fin 128) : rdC s f (ix4 0 h r d) = f (ix4 s h r d) := by
  unfold rdC
  refine congrArg f (funext fun u => Fin.ext ?_)
  fin_cases u
  · show s.val + 1 * 0 = s.val
    omega
  · show 0 + 1 * h.val = h.val
    omega
  · show 0 + 1 * r.val = r.val
    omega
  · show 0 + 1 * d.val = d.val
    omega
theorem rdM_at (s : Fin 16) (u : Fin 2) (f : (cc0_scratch1 : Ref sig .tc).ty.Contents (Elt F)) (h : Fin 8) (r : Fin 128) : rdM s u f (ix4 0 0 h r) = f (ix4 s u h r) := by
  unfold rdM
  refine congrArg f (funext fun a => Fin.ext ?_)
  fin_cases a
  · show s.val + 1 * 0 = s.val
    omega
  · show u.val + 1 * 0 = u.val
    omega
  · show 0 + 1 * h.val = h.val
    omega
  · show 0 + 1 * r.val = r.val
    omega

theorem wrC_at (s s' : Fin 16) (f : (cc0_scratch0 : Ref sig .tc).ty.Contents (Elt F)) (w : Vec F S1x8x128x128 .f32) (h : Fin 8) (r d : Fin 128) :
    wrC s f w (ix4 s' h r d) = if s' = s then w (ix4 0 h r d) else f (ix4 s' h r d) := by
  unfold wrC
  refine (write_box (b := cc0_scratch0) (inbC s) f w (ix4 s' h r d)).trans ?_
  by_cases e : s' = s
  · subst e
    rw [if_pos rfl, dif_pos]
    · refine congrArg w (funext fun a => Fin.ext ?_)
      fin_cases a
      · show s'.val - s'.val = 0
        omega
      · rfl
      · rfl
      · rfl
    · intro a
      fin_cases a
      · exact ⟨le_refl _, Nat.lt_succ_self _⟩
      · exact ⟨Nat.zero_le _, by simpa using h.isLt⟩
      · exact ⟨Nat.zero_le _, by simpa using r.isLt⟩
      · exact ⟨Nat.zero_le _, by simpa using d.isLt⟩
  · rw [if_neg e, dif_neg]
    intro H
    have h0 : s.val ≤ s'.val ∧ s'.val < s.val + 1 := H 0
    exact e (Fin.ext (by omega))
theorem wrM_at (s s' : Fin 16) (u u' : Fin 2) (f : (cc0_scratch1 : Ref sig .tc).ty.Contents (Elt F)) (w : Vec F S1x1x8x128 .f32) (h : Fin 8) (r : Fin 128) :
    wrM s u f w (ix4 s' u' h r) = if s' = s ∧ u' = u then w (ix4 0 0 h r) else f (ix4 s' u' h r) := by
  unfold wrM
  refine (write_box (b := cc0_scratch1) (inbM1 s u) f w (ix4 s' u' h r)).trans ?_
  by_cases e : s' = s ∧ u' = u
  · obtain ⟨e1, e2⟩ := e
    subst e1 e2
    rw [if_pos ⟨rfl, rfl⟩, dif_pos]
    · refine congrArg w (funext fun a => Fin.ext ?_)
      fin_cases a
      · show s'.val - s'.val = 0
        omega
      · show u'.val - u'.val = 0
        omega
      · rfl
      · rfl
    · intro a
      fin_cases a
      · exact ⟨le_refl _, Nat.lt_succ_self _⟩
      · exact ⟨le_refl _, Nat.lt_succ_self _⟩
      · exact ⟨Nat.zero_le _, by simpa using h.isLt⟩
      · exact ⟨Nat.zero_le _, by simpa using r.isLt⟩
  · rw [if_neg e, dif_neg]
    intro H
    have h0 : s.val ≤ s'.val ∧ s'.val < s.val + 1 := H 0
    have h1 : u.val ≤ u'.val ∧ u'.val < u.val + 1 := H 1
    exact e ⟨Fin.ext (by omega), Fin.ext (by omega)⟩

end Cert.KernelIdeal.Ring
end
end
-- ==== Proof.Mask.lean ====
module

public import proofs.«01_k».proof.Proof.Contents
public import Idealize.ShloMosaic.Lib.Pointwise

@[expose] public section

noncomputable section

namespace Cert.KernelIdeal.Ring

open Idealize.ShloMosaic Idealize.ShloMosaic.TcCoe

/-! ## The block mask as both programs compute it -/

/-- The word of a number. -/
abbrev wd (n : ℕ) : BitVec 32 := BitVec.ofNat 32 n

/-- The reference's floor division by 64. -/
abbrev refDiv (x : BitVec 32) : BitVec 32 :=
  Scalar.select
      (IntOp.andi (IntOp.cmpi (w := 32) .ne (if x = 0 then 0 else if x.msb = true then -1 else 1) (if (64#32) = 0 then 0 else if (64#32).msb = true then -1 else 1))
        (IntOp.cmpi .ne (IntOp.remsi .host x 64#32) 0#32))
      (IntOp.subi (IntOp.divsi .host x 64#32) 1#32) (IntOp.divsi .host x 64#32)

/-- The kernel's. -/
abbrev kerDiv (x : BitVec 32) : BitVec 32 :=
  Scalar.select
    (IntOp.andi
      (IntOp.cmpi .ne (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32) (IntOp.divsi .vector x 64#32)

theorem refDiv_wd : ∀ a : Fin 128, ∀ b : Fin 256, refDiv (wd (256 * a.val + b.val)) = wd ((256 * a.val + b.val) / 64) := by decide +kernel
theorem kerDiv_wd : ∀ a : Fin 16, ∀ b : Fin 128, kerDiv (wd (128 * a.val + b.val)) = wd ((128 * a.val + b.val) / 64) := by decide +kernel

/-- The query row's word in a tile. -/
theorem row_wd : ∀ a : Fin 16, ∀ b : Fin 128, IntOp.addi (BitVec.ofNat 32 b.val) (Scalar.muli (Scf.iv 0#32 1#32 a.val) 128#32) = wd (128 * a.val + b.val) := by
  decide +kernel
theorem key_wd : ∀ c : Dev nD, ∀ b : Fin 32, IntOp.addi (wd b.val) (Scalar.muli (w2 c) 32#32) = wd (32 * c.val + b.val) := by
  decide +kernel

/-- The kernel's mask of two blocks, the reference's. -/
abbrev kerSeen (q k : BitVec 32) : BitVec 1 :=
  IntOp.ori (IntOp.ori (IntOp.cmpi .eq q k) (IntOp.cmpi .eq k 0#32)) (IntOp.cmpi .eq (IntOp.remsi .vector (IntOp.addi q k) 3#32) 0#32)
abbrev refSeen (q k : BitVec 32) : BitVec 1 :=
  IntOp.ori (IntOp.ori (IntOp.cmpi .eq q k) (IntOp.cmpi .eq k 0#32))
    (IntOp.cmpi .eq (Scalar.select (IntOp.andi (IntOp.cmpi .ne (IntOp.cmpi .slt (IntOp.remsi .host (IntOp.addi q k) 3#32) 0#32) (IntOp.cmpi .slt 3#32 0#32))
      (IntOp.cmpi .ne (IntOp.remsi .host (IntOp.addi q k) 3#32) 0#32)) (IntOp.addi (IntOp.remsi .host (IntOp.addi q k) 3#32) 3#32)
        (IntOp.remsi .host (IntOp.addi q k) 3#32)) 0#32)

theorem rem_same : ∀ n : Fin 1024,
    IntOp.cmpi .eq (IntOp.remsi .vector (wd n.val) 3#32) 0#32
      = IntOp.cmpi .eq (Scalar.select (IntOp.andi (IntOp.cmpi .ne (IntOp.cmpi .slt (IntOp.remsi .host (wd n.val) 3#32) 0#32) (IntOp.cmpi .slt 3#32 0#32))
      (IntOp.cmpi .ne (IntOp.remsi .host (wd n.val) 3#32) 0#32)) (IntOp.addi (IntOp.remsi .host (wd n.val) 3#32) 3#32)
        (IntOp.remsi .host (wd n.val) 3#32)) 0#32 := by decide +kernel
theorem seen_same (a : Fin 32) (b : Fin 512) : kerSeen (wd a.val) (wd b.val) = refSeen (wd a.val) (wd b.val) := by
  have e : IntOp.addi (wd a.val) (wd b.val) = wd (a.val + b.val) := (BitVec.ofNat_add a.val b.val).symm
  unfold kerSeen refSeen
  rw [e]
  exact congrArg _ (rem_same ⟨a.val + b.val, by omega⟩)
theorem seen_first : ∀ a : Fin 32, refSeen (wd a.val) (wd 0) = 1#1 := by decide +kernel

end Cert.KernelIdeal.Ring
end
end
-- ==== Proof.Tile.lean ====
module

public import proofs.«01_k».proof.Proof.Reads
public import proofs.«01_k».proof.Proof.Mask

@[expose] public section

noncomputable section

namespace Cert.KernelIdeal.Ring

open Idealize.ShloMosaic Idealize.ShloMosaic.TcCoe Idealize.SL Idealize.SL.Sem
open Cert.KernelIdeal Cert.KernelIdeal.Gen

/-! ## The kernel's arithmetic at an index -/

variable (m : (ℓ : Loc nD τ sig) → Buf (Elt Ideal) ℓ) (c : Dev nD)

/-- The five arguments on device `c`. -/
abbrev aX : FVec Ideal S1x2048x1024 .f32 := m ((c : Thread nD τ).loc main_arg0)
abbrev aWq : FVec Ideal S1024x1024 .f32 := m ((c : Thread nD τ).loc main_arg1)
abbrev aK : FVec Ideal S1x2048x8x128 .f32 := m ((c : Thread nD τ).loc main_arg2)
abbrev aV : FVec Ideal S1x2048x8x128 .f32 := m ((c : Thread nD τ).loc main_arg3)
abbrev aWo : FVec Ideal S1024x1024 .f32 := m ((c : Thread nD τ).loc main_arg4)

theorem q_at (h : Fin 8) (i : Fin 2048) (d : Fin 128) :
    qh m c h (ix2 i d) = ∑ a : Fin 1024, aX m c (ix3 0 i a) * aWq m c (ix2 a ⟨h.val * 128 + d.val, by omega⟩) := by
  have e : ∀ (x : FVec Ideal S1x2048x1024 .f32) (w : Vec Ideal S1024x128 .f32),
      k0_pay82 (k0_pay81 x) w (ix2 i d) = ∑ a : Fin 1024, x (ix3 0 i a) * w (ix2 a d) := by
    intro x w
    pointwise [k0_pay82, k0_pay81]
  refine (e (xs m c) (wqh m c h)).trans (Finset.sum_congr rfl fun a _ => ?_)
  rw [xs_at, wqh_at, wqs_at]
theorem pay1_at (v : Vec Ideal S2048x128 .f32) (w : Vec Ideal S128x128 .f32) (r : Fin 128) (k : Fin 2048) :
    k0_pay1 v w (ix2 r k) = (∑ d : Fin 128, w (ix2 r d) * v (ix2 k d)) * Ideal.ofBits .f32 0x3DB504F3#32 := by
  pointwise [k0_pay1]

theorem pay2_at (n : Fin 16) (r : Fin 128) (k : Fin 2048) :
    k0_pay2 0#32 1#32 (tr n) (ix2 r k) = wd ((128 * n.val + r.val) / 64) := by
  refine Eq.trans (b := kerDiv (IntOp.addi (BitVec.ofNat 32 r.val) (Scalar.muli (Scf.iv 0#32 1#32 n.val) 128#32))) ?_ ?_
  · pointwise [k0_pay2]
  · rw [row_wd, kerDiv_wd]

/-- The masked scores of a tile. -/
def sc (h : Fin 8) (i : Trip) : FVec Ideal S128x2048 .f32 :=
  k0_pay5 (w2 c) (lg m c h i) (iota .tc S128x2048 32 [1] iota_S128x2048_d1_w32) (k0_pay2 0#32 1#32 i) 64#32 k0_pay3 k0_pay4 (Scalar.cmpi .sgt 64#32 0#32)

theorem pay5_at (w : BitVec 32) (l : FVec Ideal S128x2048 .f32) (q : IVec S128x2048 32) (r : Fin 128) (k : Fin 2048) :
    k0_pay5 w l (iota .tc S128x2048 32 [1] iota_S128x2048_d1_w32) q 64#32 k0_pay3 k0_pay4 (Scalar.cmpi .sgt 64#32 0#32) (ix2 r k)
      = Scalar.select (kerSeen (q (ix2 r k)) (IntOp.addi (kerDiv (wd k.val)) (Scalar.muli w 32#32))) (l (ix2 r k)) (Ideal.ofBits .f32 0xCE6E6B28#32) := by
  pointwise [k0_pay5, k0_pay3, k0_pay4]

theorem key_blk (k : Fin 2048) : kerDiv (wd k.val) = wd (k.val / 64) := by
  have := kerDiv_wd ⟨k.val / 128, by omega⟩ ⟨k.val % 128, by omega⟩
  simp only [Nat.div_add_mod] at this
  exact this

theorem sc_at (h : Fin 8) (n : Fin 16) (r : Fin 128) (k : Fin 2048) :
    sc m c h (tr n) (ix2 r k) = Scalar.select (refSeen (wd ((128 * n.val + r.val) / 64)) (wd (32 * c.val + k.val / 64)))
      (lg m c h (tr n) (ix2 r k)) (Ideal.ofBits .f32 0xCE6E6B28#32) := by
  have hc : c.val < 16 := c.isLt
  unfold sc
  rw [pay5_at, pay2_at, key_blk, key_wd c ⟨k.val / 64, by omega⟩]
  exact congrArg (Scalar.select · _ _) (seen_same ⟨(128 * n.val + r.val) / 64, by omega⟩ ⟨32 * c.val + k.val / 64, by omega⟩)

theorem lg_at (h : Fin 8) (n : Fin 16) (r : Fin 128) (k : Fin 2048) :
    lg m c h (tr n) (ix2 r k)
      = (∑ d : Fin 128, (∑ a : Fin 1024, aX m c (ix3 0 ⟨128 * n.val + r.val, by omega⟩ a) * aWq m c (ix2 a ⟨h.val * 128 + d.val, by omega⟩)) * aK m c (ix4 0 k h d))
          * Ideal.ofBits .f32 0x3DB504F3#32 := by
  unfold lg
  rw [pay1_at]
  refine congrArg (· * _) (Finset.sum_congr rfl fun d _ => ?_)
  rw [qt_at, q_at, kh_at]

section
variable (w : BitVec 32) (l : FVec Ideal S128x2048 .f32) (a b : IVec S128x2048 32) (n : BitVec 32) (e f : IVec S128x2048 32) (g : BitVec 1)

theorem pay6_at (v : FVec Ideal S1x128 .f32) (r : Fin 128) : k0_pay83 v (ix4 0 0 0 r) = v (ix2 0 r) := by
  pointwise [k0_pay83]
theorem pay10_at (r : Fin 128) : k0_pay10 w l a b n e f g (ix2 0 r)
    = Finset.univ.fold max (Ideal.ofBits .f32 0xFF800000#32) fun k : Fin 2048 => k0_pay5 w l a b n e f g (ix2 r k) := by
  pointwise [k0_pay10, k0_pay6]
theorem pay7_at (r : Fin 128) (k : Fin 2048) : k0_pay7 w l a b n e f g (ix2 r k)
    = Ideal.exp (k0_pay5 w l a b n e f g (ix2 r k) - Finset.univ.fold max (Ideal.ofBits .f32 0xFF800000#32) fun k : Fin 2048 => k0_pay5 w l a b n e f g (ix2 r k)) := by
  pointwise [k0_pay7, k0_pay6]
theorem pay8_at (r : Fin 128) : k0_pay84 (k0_pay8 w l a b n e f g) (ix4 0 0 0 r) = ∑ k : Fin 2048, k0_pay7 w l a b n e f g (ix2 r k) := by
  pointwise [k0_pay84, k0_pay8]
theorem pay9_at (v : Vec Ideal S2048x128 .f32) (r d : Fin 128) :
    k0_pay9 w v l a b n e f g (ix4 0 0 r d) = ∑ k : Fin 2048, k0_pay7 w l a b n e f g (ix2 r k) * v (ix2 k d) := by
  pointwise [k0_pay9]
end

/-- The maximum of a tile's row. -/
def mx (h : Fin 8) (n : Fin 16) (r : Fin 128) : EReal := Finset.univ.fold max (Ideal.ofBits .f32 0xFF800000#32) fun k : Fin 2048 => sc m c h (tr n) (ix2 r k)

theorem ms0_max (n : Fin 16) (h : Fin 8) (r : Fin 128) : ms0 m c (ix4 n 0 h r) = mx m c h n r := by
  unfold ms0
  refine Eq.trans (b := tM m c h (tr n) (ix4 0 0 0 r)) ?_ ?_
  · refine congrArg (tM m c h (tr n)) (funext fun a => Fin.ext ?_)
    fin_cases a
    · show n.val - n.val = 0
      omega
    · rfl
    · show h.val - h.val = 0
      omega
    · rfl
  · unfold tM mx sc
    rw [pay6_at, pay10_at]
theorem ms0_sum (n : Fin 16) (h : Fin 8) (r : Fin 128) : ms0 m c (ix4 n 1 h r) = ∑ k : Fin 2048, Ideal.exp (sc m c h (tr n) (ix2 r k) - mx m c h n r) := by
  unfold ms0
  refine Eq.trans (b := tS m c h (tr n) (ix4 0 0 0 r)) ?_ ?_
  · refine congrArg (tS m c h (tr n)) (funext fun a => Fin.ext ?_)
    fin_cases a
    · show n.val - n.val = 0
      omega
    · rfl
    · show h.val - h.val = 0
      omega
    · rfl
  · unfold tS mx sc
    rw [pay8_at]
    exact Finset.sum_congr rfl fun k _ => pay7_at _ _ _ _ _ _ _ _ r k
theorem ctx0_at (n : Fin 16) (h : Fin 8) (r d : Fin 128) : ctx0 m c (ix4 n h r d)
    = ∑ k : Fin 2048, Ideal.exp (sc m c h (tr n) (ix2 r k) - mx m c h n r) * aV m c (ix4 0 k h d) := by
  unfold ctx0
  refine Eq.trans (b := tC m c h (tr n) (ix4 0 0 r d)) ?_ ?_
  · refine congrArg (tC m c h (tr n)) (funext fun a => Fin.ext ?_)
    fin_cases a
    · show n.val - n.val = 0
      omega
    · show h.val - h.val = 0
      omega
    · rfl
    · rfl
  · unfold tC mx sc
    rw [pay9_at]
    exact Finset.sum_congr rfl fun k _ => by rw [pay7_at, vh_at]

/-! ## The merges at an index -/

section
variable (a b u v : Vec Ideal S1x1x8x128 .f32) (h : Fin 8) (r d : Fin 128)

theorem pay109_at : k0_pay109 a b (ix2 h r) = Ideal.exp (a (ix4 0 0 h r) - max (a (ix4 0 0 h r)) (b (ix4 0 0 h r))) := by
  pointwise [k0_pay109, k0_pay106, k0_pay107, k0_pay108]
theorem pay110_at : k0_pay110 a b (ix2 h r) = Ideal.exp (b (ix4 0 0 h r) - max (a (ix4 0 0 h r)) (b (ix4 0 0 h r))) := by
  pointwise [k0_pay110, k0_pay106, k0_pay107, k0_pay108]
theorem pay111_at : k0_pay111 a b (ix4 0 0 h r) = max (a (ix4 0 0 h r)) (b (ix4 0 0 h r)) := by
  pointwise [k0_pay111, k0_pay106, k0_pay107, k0_pay108]
theorem pay113_at : k0_pay113 (k0_pay112 a u b v) (ix4 0 0 h r)
    = k0_pay109 a b (ix2 h r) * u (ix4 0 0 h r) + k0_pay110 a b (ix2 h r) * v (ix4 0 0 h r) := by
  pointwise [k0_pay112, k0_pay113]
theorem pay114_at (p q : FVec Ideal S8x128 .f32) (s t : Vec Ideal S1x8x128x128 .f32) :
    k0_pay114 p q s t (ix4 0 h r d) = p (ix2 h r) * s (ix4 0 h r d) + q (ix2 h r) * t (ix4 0 h r d) := by
  pointwise [k0_pay114]
end

/-! ## The output's products at an index -/

theorem ctx_at (s : Vec Ideal S1x1x8x128 .f32) (a : Vec Ideal S1x8x128x128 .f32) (h : Fin 8) (r d : Fin 128) :
    k0_pay252 (k0_pay251 s) a (ix3 h r d) = Ideal.div (a (ix4 0 h r d)) (s (ix4 0 0 h r)) := by
  pointwise [k0_pay252, k0_pay251]

theorem prod_at (s : FVec Ideal S8x128 .f32) (a : Vec Ideal S1x8x128x128 .f32) (w : Fin 8 → Vec Ideal S128x1024 .f32) (r : Fin 128) (o : Fin 1024) :
    k0_pay254 (k0_pay252 s a) (k0_pay253 s a (w 0) (w 1) (w 2) (w 3) (w 4) (w 5)) (w 6) (w 7) (ix3 0 r o)
      = ∑ h : Fin 8, ∑ d : Fin 128, k0_pay252 s a (ix3 h r d) * w h (ix2 d o) := by
  rw [Fin.sum_univ_eight]
  pointwise [k0_pay254, k0_pay253]

end Cert.KernelIdeal.Ring
end
end
-- ==== Proof.Softmax.lean ====
module

public import Idealize.ShloMosaic.Lib.Pointwise

@[expose] public section

noncomputable section

namespace Cert.KernelIdeal.Ring

open Idealize.ShloMosaic

/-! ## Partial softmax rows over extended reals

A row's scores are reals, its values any extended reals. A triple (maximum, sum, weighted value) over a set of devices
is taken relative to some real in the maximum's place; which real it is does not matter to the quotient. -/

/-- A real that is not negative goes into a sum of extended reals. -/
theorem coe_mul_sum {ι : Type} (r : ℝ) (hr : 0 ≤ r) (B : Finset ι) (f : ι → EReal) :
    (r : EReal) * ∑ i ∈ B, f i = ∑ i ∈ B, (r : EReal) * f i := by
  classical
  induction B using Finset.induction_on with
  | empty => simp
  | insert a s ha ih =>
    rw [Finset.sum_insert ha, Finset.sum_insert ha,
      EReal.left_distrib_of_nonneg_of_ne_top (by exact_mod_cast hr) (EReal.coe_ne_top r), ih]

/-- A sum of reals is the real sum. -/
theorem coe_sum {ι : Type} (B : Finset ι) (f : ι → ℝ) : ((∑ i ∈ B, f i : ℝ) : EReal) = ∑ i ∈ B, (f i : EReal) := by
  classical
  induction B using Finset.induction_on with
  | empty => simp
  | insert a s ha ih => rw [Finset.sum_insert ha, Finset.sum_insert ha, EReal.coe_add, ih]

section
variable {δ κ : Type} [Fintype κ] (σ : δ → κ → ℝ) (V : δ → κ → EReal)

/-- The weighted sum over the devices in `B`, relative to `μ`. -/
def wsum (μ : ℝ) (B : Finset δ) : EReal := ∑ e ∈ B, ∑ k, (Real.exp (σ e k - μ) : EReal) * V e k
/-- The sum of the weights over the devices in `B`, relative to `μ`. -/
def ssum (μ : ℝ) (B : Finset δ) : ℝ := ∑ e ∈ B, ∑ k, Real.exp (σ e k - μ)

/-- The triple stands for the devices in `B`. -/
def Rep (B : Finset δ) (M S C : EReal) : Prop := ∃ μ : ℝ, M = (μ : EReal) ∧ S = (ssum σ μ B : EReal) ∧ C = wsum σ V μ B

theorem wsum_scale (μ ν : ℝ) (B : Finset δ) : ((Real.exp (μ - ν) : ℝ) : EReal) * wsum σ V μ B = wsum σ V ν B := by
  unfold wsum
  rw [coe_mul_sum _ (Real.exp_pos _).le]
  refine Finset.sum_congr rfl fun e _ => ?_
  rw [coe_mul_sum _ (Real.exp_pos _).le]
  refine Finset.sum_congr rfl fun k _ => ?_
  rw [← mul_assoc, ← EReal.coe_mul, ← Real.exp_add]
  congr 3
  ring

theorem ssum_scale (μ ν : ℝ) (B : Finset δ) : Real.exp (μ - ν) * ssum σ μ B = ssum σ ν B := by
  unfold ssum
  rw [Finset.mul_sum]
  refine Finset.sum_congr rfl fun e _ => ?_
  rw [Finset.mul_sum]
  refine Finset.sum_congr rfl fun k _ => ?_
  rw [← Real.exp_add]
  congr 1
  ring

/-- Two triples over disjoint devices merge into one. -/
theorem Rep.merge [DecidableEq δ] {A B : Finset δ} (hd : Disjoint A B) {M S C M' S' C' : EReal} (h : Rep σ V A M S C) (h' : Rep σ V B M' S' C') :
    Rep σ V (A ∪ B) (max M M') (Ideal.exp (M - max M M') * S + Ideal.exp (M' - max M M') * S')
      (Ideal.exp (M - max M M') * C + Ideal.exp (M' - max M M') * C') := by
  obtain ⟨μ, rfl, rfl, rfl⟩ := h
  obtain ⟨ν, rfl, rfl, rfl⟩ := h'
  have hm : max (μ : EReal) (ν : EReal) = ((max μ ν : ℝ) : EReal) := (EReal.coe_strictMono.monotone.map_max).symm
  refine ⟨max μ ν, hm, ?_, ?_⟩
  · rw [hm, ← EReal.coe_sub, ← EReal.coe_sub, Ideal.exp_coe, Ideal.exp_coe, ← EReal.coe_mul, ← EReal.coe_mul, ← EReal.coe_add,
      ssum_scale, ssum_scale]
    unfold ssum
    rw [Finset.sum_union hd]
  · rw [hm, ← EReal.coe_sub, ← EReal.coe_sub, Ideal.exp_coe, Ideal.exp_coe, wsum_scale, wsum_scale]
    unfold wsum
    rw [Finset.sum_union hd]

/-- The quotient of a triple is the sum of the values under the weights relative to any real. -/
theorem Rep.quot [Nonempty κ] {B : Finset δ} (hB : B.Nonempty) {M S C : EReal} (h : Rep σ V B M S C) (ν : ℝ) :
    Ideal.div C S = ∑ e ∈ B, ∑ k, Ideal.div ((Real.exp (σ e k - ν) : ℝ) : EReal) (ssum σ ν B : EReal) * V e k := by
  obtain ⟨μ, rfl, rfl, rfl⟩ := h
  have pos : ∀ a : ℝ, 0 < ssum σ a B := fun a =>
    Finset.sum_pos (fun e _ => Finset.sum_pos (fun k _ => Real.exp_pos _) Finset.univ_nonempty) hB
  rw [Ideal.div_coe (pos μ).ne', mul_comm]
  unfold wsum
  rw [coe_mul_sum _ (one_div_pos.mpr (pos μ)).le]
  refine Finset.sum_congr rfl fun e _ => ?_
  rw [coe_mul_sum _ (one_div_pos.mpr (pos μ)).le]
  refine Finset.sum_congr rfl fun k _ => ?_
  rw [Ideal.div_coe (pos ν).ne', ← mul_assoc, ← EReal.coe_mul, ← EReal.coe_mul]
  congr 2
  have e1 : Real.exp (σ e k - μ) = Real.exp (ν - μ) * Real.exp (σ e k - ν) := by rw [← Real.exp_add]; congr 1; ring
  have hp := (Real.exp_pos (ν - μ)).ne'
  have hs := (pos ν).ne'
  rw [← ssum_scale σ ν μ B, e1]
  field_simp

end

/-- The maximum of reals folded from minus infinity over a set that is not empty is a real. -/
theorem fold_max_real {κ : Type} [Fintype κ] [Nonempty κ] (f : κ → ℝ) :
    ∃ μ : ℝ, Finset.univ.fold max (⊥ : EReal) (fun k => (f k : EReal)) = (μ : EReal) := by
  classical
  suffices h : ∀ B : Finset κ, B.Nonempty → ∃ μ : ℝ, B.fold max (⊥ : EReal) (fun k => (f k : EReal)) = (μ : EReal) from
    h _ Finset.univ_nonempty
  intro B hB
  induction hB using Finset.Nonempty.cons_induction with
  | singleton a => exact ⟨f a, by simp⟩
  | cons a s ha hs ih =>
    obtain ⟨μ, h⟩ := ih
    refine ⟨max (f a) μ, ?_⟩
    rw [Finset.fold_cons, h]
    exact (EReal.coe_strictMono.monotone.map_max).symm

/-- What a device's own keys come to: the triple of its one row. -/
theorem Rep.own {δ κ : Type} [Fintype κ] [Nonempty κ] (σ : δ → κ → ℝ) (V : δ → κ → EReal) (e : δ) :
    Rep σ V {e} (Finset.univ.fold max (⊥ : EReal) fun k => (σ e k : EReal))
      (∑ k, Ideal.exp ((σ e k : EReal) - Finset.univ.fold max (⊥ : EReal) fun k => (σ e k : EReal)))
      (∑ k, Ideal.exp ((σ e k : EReal) - Finset.univ.fold max (⊥ : EReal) fun k => (σ e k : EReal)) * V e k) := by
  obtain ⟨μ, h⟩ := fold_max_real (σ e)
  rw [h]
  refine ⟨μ, rfl, ?_, ?_⟩
  · unfold ssum
    rw [Finset.sum_singleton, coe_sum]
    exact Finset.sum_congr rfl fun k _ => by rw [← EReal.coe_sub, Ideal.exp_coe]
  · unfold wsum
    rw [Finset.sum_singleton]
    exact Finset.sum_congr rfl fun k _ => by rw [← EReal.coe_sub, Ideal.exp_coe]

end Cert.KernelIdeal.Ring
end
end
-- ==== Proof.RingValue.lean ====
module

public import proofs.«01_k».proof.Proof.Tile
public import proofs.«01_k».proof.Proof.Softmax

@[expose] public section

noncomputable section

namespace Cert.KernelIdeal.Ring

open Idealize.ShloMosaic Idealize.ShloMosaic.TcCoe Idealize.SL Idealize.SL.Sem
open Cert.KernelIdeal Cert.KernelIdeal.Gen

/-! ## What the ring adds up -/

variable (m : (ℓ : Loc nD τ sig) → Buf (Elt Ideal) ℓ) (c : Dev nD)

/-- How far device `c` is from the device a chunk starts at. -/
abbrev far (s : Fin 16) (c : Dev nD) : ℕ := (c.val + 16 - s.val) % 16

/-- The devices a device's chunk stands for after `t` steps. -/
def heldBy (s : Fin 16) (t : ℕ) (c : Dev nD) : Finset (Dev nD) :=
  if far s c ≤ t then Finset.univ.filter fun e => far s e ≤ far s c else {c}

theorem heldBy_zero (s : Fin 16) : heldBy s 0 c = {c} := by
  revert s c
  decide +kernel
theorem far_prv (s : Fin 16) (t : Fin 15) (h : s = rChunk c t) : far s c = t.val + 1 ∧ far s (prv c) = t.val := by
  subst h
  revert c t
  decide +kernel
theorem far_of (s : Fin 16) (t : Fin 15) (h : far s c = t.val + 1) : s = rChunk c t := by
  revert s c t
  decide +kernel
theorem heldBy_other (s : Fin 16) (t : Fin 15) (h : s ≠ rChunk c t) : heldBy s (t.val + 1) c = heldBy s t.val c := by
  have hf : far s c ≠ t.val + 1 := fun e => h (far_of c s t e)
  unfold heldBy
  by_cases e : far s c ≤ t.val
  · rw [if_pos e, if_pos (by omega)]
  · rw [if_neg e, if_neg (by omega)]
theorem heldBy_last (s : Fin 16) : heldBy s 15 (prv s) = Finset.univ := by
  revert s
  decide +kernel
theorem far_inj (s : Fin 16) (e : Dev nD) (h : far s e = far s c) : e = c := by
  have h1 : e.val < 16 := e.isLt
  have h2 : c.val < 16 := c.isLt
  have h3 := s.isLt
  apply Fin.ext
  simp only [far] at h
  omega
theorem heldBy_merge (s : Fin 16) (t : Fin 15) (h : s = rChunk c t) :
    Disjoint (heldBy s t.val c) (heldBy s t.val (prv c)) ∧ heldBy s t.val c ∪ heldBy s t.val (prv c) = heldBy s (t.val + 1) c := by
  obtain ⟨h1, h2⟩ := far_prv c s t h
  unfold heldBy
  rw [if_neg (show ¬ far s c ≤ t.val by omega), if_pos (show far s (prv c) ≤ t.val by omega), if_pos (show far s c ≤ t.val + 1 by omega)]
  constructor
  · rw [Finset.disjoint_singleton_left, Finset.mem_filter]
    rintro ⟨-, h3⟩
    omega
  · ext e
    simp only [Finset.mem_union, Finset.mem_singleton, Finset.mem_filter, Finset.mem_univ, true_and]
    constructor
    · rintro (rfl | h3)
      · exact le_refl _
      · omega
    · intro h3
      by_cases h4 : far s e = far s c
      · exact .inl (far_inj c s e h4)
      · exact .inr (by omega)

section
variable (s s' : Fin 16) (f : FVec Ideal S16x8x128x128 .f32) (g : FVec Ideal S16x2x8x128 .f32)
  (cr : Vec Ideal S1x8x128x128 .f32) (mr sr : Vec Ideal S1x1x8x128 .f32) (h : Fin 8) (r d : Fin 128)

theorem mergeC_other (e : s' ≠ s) : mergeC s f g cr mr (ix4 s' h r d) = f (ix4 s' h r d) := by
  unfold mergeC
  rw [wrC_at, if_neg e]
theorem mergeM_other (u : Fin 2) (e : s' ≠ s) : mergeM s g mr sr (ix4 s' u h r) = g (ix4 s' u h r) := by
  unfold mergeM
  rw [wrM_at, if_neg (fun h => e h.1), wrM_at, if_neg (fun h => e h.1)]
theorem mergeM_max : mergeM s g mr sr (ix4 s 0 h r) = max (g (ix4 s 0 h r)) (mr (ix4 0 0 h r)) := by
  unfold mergeM
  rw [wrM_at, if_neg (fun h => absurd h.2 (by decide)), wrM_at, if_pos ⟨rfl, rfl⟩, pay111_at, rdM_at]
theorem mergeM_sum : mergeM s g mr sr (ix4 s 1 h r)
    = Ideal.exp (g (ix4 s 0 h r) - max (g (ix4 s 0 h r)) (mr (ix4 0 0 h r))) * g (ix4 s 1 h r)
      + Ideal.exp (mr (ix4 0 0 h r) - max (g (ix4 s 0 h r)) (mr (ix4 0 0 h r))) * sr (ix4 0 0 h r) := by
  unfold mergeM
  rw [wrM_at, if_pos ⟨rfl, rfl⟩, pay113_at, pay109_at, pay110_at, rdM_at, rdM_at]
theorem mergeC_own : mergeC s f g cr mr (ix4 s h r d)
    = Ideal.exp (g (ix4 s 0 h r) - max (g (ix4 s 0 h r)) (mr (ix4 0 0 h r))) * f (ix4 s h r d)
      + Ideal.exp (mr (ix4 0 0 h r) - max (g (ix4 s 0 h r)) (mr (ix4 0 0 h r))) * cr (ix4 0 h r d) := by
  unfold mergeC
  rw [wrC_at, if_pos rfl, pay114_at, pay109_at, pay110_at, rdM_at, rdC_at]
end

theorem accC_zero : accC m 0 c = ctx0 m c := by
  unfold accC
  rw [acc.eq_1]
theorem accM_zero : accM m 0 c = ms0 m c := by
  unfold accM
  rw [acc.eq_1]

/-- After `t` steps a device's chunk stands for the devices it has heard of. -/
theorem ring_rep {κ : Type} [Fintype κ] (σ : Dev nD → κ → ℝ) (V : Dev nD → κ → EReal) (s : Fin 16) (h : Fin 8) (r d : Fin 128)
    (H : ∀ e, Rep σ V {e} (ms0 m e (ix4 s 0 h r)) (ms0 m e (ix4 s 1 h r)) (ctx0 m e (ix4 s h r d))) (t : ℕ) (ht : t ≤ 15) :
    ∀ e, Rep σ V (heldBy s t e) (accM m t e (ix4 s 0 h r)) (accM m t e (ix4 s 1 h r)) (accC m t e (ix4 s h r d)) := by
  induction t with
  | zero =>
    intro e
    rw [heldBy_zero, accC_zero, accM_zero]
    exact H e
  | succ t ih =>
    intro e
    have ht' : t < 15 := by omega
    have ih := ih (by omega)
    have eC := accC_succ m e ⟨t, ht'⟩
    have eM := accM_succ m e ⟨t, ht'⟩
    simp only at eC eM
    rw [eC, eM]
    by_cases es : s = rChunk e ⟨t, ht'⟩
    · rw [← es, mergeM_max, mergeM_sum, mergeC_own, rdM_at, rdM_at, rdC_at, ← (heldBy_merge e s ⟨t, ht'⟩ es).2]
      exact Rep.merge σ V (heldBy_merge e s ⟨t, ht'⟩ es).1 (ih e) (ih (prv e))
    · rw [mergeM_other _ _ _ _ _ _ _ _ es, mergeM_other _ _ _ _ _ _ _ _ es, mergeC_other _ _ _ _ _ _ _ _ _ es]
      have := heldBy_other e s ⟨t, ht'⟩ es
      simp only at this
      rw [this]
      exact ih e

/-- The result at an index. -/
theorem outF_at (i : Fin 2048) (o : Fin 1024) (s : Fin 16) (r : Fin 128) (hi : i.val = 128 * s.val + r.val) :
    outF m (ix3 0 i o) = ∑ h : Fin 8, ∑ d : Fin 128,
      Ideal.div (accC m 15 (prv s) (ix4 s h r d)) (accM m 15 (prv s) (ix4 s 1 h r)) * aWo m (prv s) (ix2 ⟨h.val * 128 + d.val, by omega⟩ o) := by
  have es : sliceOf (ix3 0 i o) = s := Fin.ext (by
    show i.val / 128 = s.val
    omega)
  unfold outF
  refine Eq.trans (b := ownOut m (prv s) (ix3 0 r o)) ?_ ?_
  · have key : ∀ s', sliceOf (ix3 0 i o) = s' → ∀ hm, ownOut m (prv (sliceOf (ix3 0 i o))) (Rect.unitLocal (s := S1x2048x1024) (off := ![0, 128 * (sliceOf (ix3 0 i o)).val, 0]) (size := S1x128x1024.size) (ix3 0 i o) hm)
        = ownOut m (prv s') (ix3 0 r o) := by
      rintro s' rfl hm
      refine congrArg (ownOut m _) (funext fun a => Fin.ext ?_)
      fin_cases a
      · rfl
      · show i.val - 128 * (sliceOf (ix3 0 i o)).val = r.val
        rw [es]
        omega
      · rfl
    exact key s es _
  · unfold ownOut
    rw [nxt_prv]
    refine (prod_at _ _ (woh m (prv s)) r o).trans (Finset.sum_congr rfl fun h _ => Finset.sum_congr rfl fun d _ => ?_)
    rw [ctx_at, rdC_at, rdM_at, woh_at, wos_at]

end Cert.KernelIdeal.Ring
end
end
-- ==== Proof.RefTerm.lean ====
module

public import proofs.«01_k».proof.Proof.Gen.ReferenceIdeal.Run
public import Idealize.ShloMosaic.Lib.Pointwise
public import Idealize.ShloMosaic.Lib.IdealHost

@[expose] public section

noncomputable section

namespace Cert.ReferenceIdeal.Ref

open Idealize.ShloMosaic Idealize.ShloMosaic.TcCoe
open Cert.ReferenceIdeal Cert.ReferenceIdeal.Gen

/-! ## The reference's result cut into named steps -/

/-- The block of a query row. -/
def qBlk : IVec S2048 32 :=
  let n : IVec S2048 32 := iotaInDim S2048 32 0
  let k : IVec S2048 32 := broadcastInDim S2048 ![] bcast_S_S2048 (id (constantI S_ 32 64#32))
  let z : IVec S2048 32 := broadcastInDim S2048 ![] bcast_S_S2048 (constantI S_ 32 0#32)
  let o : IVec S2048 32 := broadcastInDim S2048 ![] bcast_S_S2048 (constantI S_ 32 1#32)
  select (andi (cmpi .ne (signi n) (broadcastInDim S2048 ![] bcast_S_S2048 (signi (id (constantI S_ 32 64#32))))) (cmpi .ne (Host.remsi n k) z))
    (subi (Host.divsi n k) o) (Host.divsi n k)

/-- The block of a key row. -/
def kBlk : IVec S32768 32 :=
  let n : IVec S32768 32 := iotaInDim S32768 32 0
  let k : IVec S32768 32 := broadcastInDim S32768 ![] bcast_S_S32768 (id (constantI S_ 32 64#32))
  let z : IVec S32768 32 := broadcastInDim S32768 ![] bcast_S_S32768 (constantI S_ 32 0#32)
  let o : IVec S32768 32 := broadcastInDim S32768 ![] bcast_S_S32768 (constantI S_ 32 1#32)
  select (andi (cmpi .ne (signi n) (broadcastInDim S32768 ![] bcast_S_S32768 (signi (id (constantI S_ 32 64#32))))) (cmpi .ne (Host.remsi n k) z))
    (subi (Host.divsi n k) o) (Host.divsi n k)

/-- Three, as the remainder takes it. -/
def three : IVec S_ 32 := select (cmpi .eq (id (constantI S_ 32 3#32)) (constantI S_ 32 0#32)) (constantI S_ 32 1#32) (id (constantI S_ 32 3#32))

/-- Which query rows see which key rows. -/
def seen : IVec S2048x32768 1 :=
  let q : IVec S2048x32768 32 := broadcastInDim S2048x32768 ![0, 1] bcast_S2048x1_S2048x32768_0_1 (broadcastInDim S2048x1 ![0] bcast_S2048_S2048x1_0 qBlk)
  let k' : IVec S1x32768 32 := broadcastInDim S1x32768 ![1] bcast_S32768_S1x32768_1 kBlk
  let k : IVec S2048x32768 32 := broadcastInDim S2048x32768 ![0, 1] bcast_S1x32768_S2048x32768_0_1 k'
  let z : IVec S2048x32768 32 := broadcastInDim S2048x32768 ![] bcast_S_S2048x32768 (constantI S_ 32 0#32)
  let t : IVec S2048x32768 32 := broadcastInDim S2048x32768 ![] bcast_S_S2048x32768 three
  let r : IVec S2048x32768 32 := Host.remsi (addi q k) t
  ori (ori (cmpi .eq q k) (broadcastInDim S2048x32768 ![0, 1] bcast_S1x32768_S2048x32768_0_1 (cmpi .eq k' (broadcastInDim S1x32768 ![] bcast_S_S1x32768 (constantI S_ 32 0#32)))))
    (cmpi .eq (select (andi (cmpi .ne (cmpi .slt r z) (broadcastInDim S2048x32768 ![] bcast_S_S2048x32768 (cmpi .slt three (constantI S_ 32 0#32)))) (cmpi .ne r z)) (addi r t) r) z)

/-- Whether a query row sees any key row. -/
def keep : IVec S2048 1 := Host.reduce IntOp.ori seen (constantI S_ 1 0#1) reducesTo_S2048x32768_S2048_d1 h_S_

/-- `keep` where the weights are divided. -/
def keep4 : IVec S1x1x2048x1 1 := broadcastInDim S1x1x2048x1 ![2] bcast_S2048_S1x1x2048x1_2 keep

section
variable (x : FVec Ideal S1x2048x1024 .f32) (wq : FVec Ideal S1024x1024 .f32) (k v : FVec Ideal S1x32768x8x128 .f32) (wo : FVec Ideal S1024x1024 .f32)

def qs : FVec Ideal S1x2048x8x128 .f32 :=
  shapeCast S1x2048x8x128 (Host.dotGeneral dot_S1x2048x1024_S1024x1024_S1x2048x1024_2_0_01_1_n_n none x wq) shapeCasts_S1x2048x1024_S1x2048x8x128

/-- The masked scores. -/
def score : FVec Ideal S1x8x2048x32768 .f32 :=
  select (broadcastInDim S1x8x2048x32768 ![0, 1, 2, 3] bcast_S1x1x2048x32768_S1x8x2048x32768_0_1_2_3 (broadcastInDim S1x1x2048x32768 ![2, 3] bcast_S2048x32768_S1x1x2048x32768_2_3 seen))
    (mulf (Host.dotGeneral dot_S1x2048x8x128_S1x32768x8x128_S1x8x2048x32768_3_3_1_1_02_02 none (qs x wq) k)
      (broadcastInDim S1x8x2048x32768 ![] bcast_S_S1x8x2048x32768 (constant S_ .f32 0x3DB504F3#32)))
    (broadcastInDim S1x8x2048x32768 ![] bcast_S_S1x8x2048x32768 (id (constant S_ .f32 0xCE6E6B28#32)))

def top : FVec Ideal S1x8x2048 .f32 := Host.reduce FloatOps.maximumf (score x wq k) (constant S_ .f32 0xFF800000#32) reducesTo_S1x8x2048x32768_S1x8x2048_d3 h_S_

/-- The weights before they are divided. -/
def raw : FVec Ideal S1x8x2048x32768 .f32 :=
  Host.exp (subf (score x wq k) (broadcastInDim S1x8x2048x32768 ![0, 1, 2, 3] bcast_S1x8x2048x1_S1x8x2048x32768_0_1_2_3 (broadcastInDim S1x8x2048x1 ![0, 1, 2] bcast_S1x8x2048_S1x8x2048x1_0_1_2 (top x wq k))))

def total : FVec Ideal S1x8x2048 .f32 := Host.reduceAdd (raw x wq k) (constant S_ .f32 0x00000000#32) reducesTo_S1x8x2048x32768_S1x8x2048_d3 h_S_

/-- What a row's weights are divided by. -/
def den : FVec Ideal S1x8x2048x1 .f32 :=
  select (broadcastInDim S1x8x2048x1 ![0, 1, 2, 3] bcast_S1x1x2048x1_S1x8x2048x1_0_1_2_3 keep4)
    (broadcastInDim S1x8x2048x1 ![0, 1, 2] bcast_S1x8x2048_S1x8x2048x1_0_1_2 (total x wq k))
    (broadcastInDim S1x8x2048x1 ![] bcast_S_S1x8x2048x1 (id (constant S_ .f32 0x3F800000#32)))

def weight : FVec Ideal S1x8x2048x32768 .f32 :=
  select (broadcastInDim S1x8x2048x32768 ![0, 1, 2, 3] bcast_S1x1x2048x1_S1x8x2048x32768_0_1_2_3 keep4)
    (Host.divf (raw x wq k) (broadcastInDim S1x8x2048x32768 ![0, 1, 2, 3] bcast_S1x8x2048x1_S1x8x2048x32768_0_1_2_3 (den x wq k)))
    (broadcastInDim S1x8x2048x32768 ![] bcast_S_S1x8x2048x32768 (id (constant S_ .f32 0x00000000#32)))

/-- The weighted values, heads side by side. -/
def mixed : FVec Ideal S1x2048x1024 .f32 :=
  shapeCast S1x2048x1024 (transpose S1x2048x8x128 [0, 3, 1, 2] (Host.dotGeneral dot_S1x32768x8x128_S1x8x2048x32768_S1x8x128x2048_1_3_3_2_02_01 none v (weight x wq k))
    transposes_S1x8x128x2048_S1x2048x8x128_0_3_1_2) shapeCasts_S1x2048x8x128_S1x2048x1024

def out : FVec Ideal S1x2048x1024 .f32 := Host.dotGeneral dot_S1x2048x1024_S1024x1024_S1x2048x1024_2_0_01_1_n_n none (mixed x wq k v) wo
end

set_option maxRecDepth 8000 in
theorem res_eq (m : (ℓ : Loc nD τ sig) → Buf (Elt Ideal) ℓ) (c : Dev nD) :
    Value.res_main_v44 m c = out (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  unfold Value.res_main_v44
  rfl

end Cert.ReferenceIdeal.Ref
end
end
-- ==== Proof.RefRead.lean ====
module

public import proofs.«01_k».proof.Proof.RefTerm
public import proofs.«01_k».proof.Proof.Mask

@[expose] public section

noncomputable section

namespace Cert.ReferenceIdeal.Ref

open Idealize.ShloMosaic Idealize.ShloMosaic.TcCoe
open Cert.ReferenceIdeal Cert.ReferenceIdeal.Gen
open Cert.KernelIdeal.Ring (wd refDiv refSeen refDiv_wd seen_first)

/-! ## The reference's steps at an index -/

variable (x : FVec Ideal S1x2048x1024 .f32) (wq : FVec Ideal S1024x1024 .f32) (k v : FVec Ideal S1x32768x8x128 .f32) (wo : FVec Ideal S1024x1024 .f32)
variable (i : Fin 2048) (j : Fin 32768) (h : Fin 8) (d : Fin 128) (o : Fin 1024)

theorem qs_at : qs x wq (ix4 0 i h d) = ∑ a, x (ix3 0 i a) * wq (ix2 a ⟨h.val * 128 + d.val, by omega⟩) := by
  pointwise [qs]
theorem score_at : score x wq k (ix4 0 h i j) = Scalar.select (seen (ix2 i j))
    ((∑ d, qs x wq (ix4 0 i h d) * k (ix4 0 j h d)) * Ideal.ofBits .f32 0x3DB504F3#32) (Ideal.ofBits .f32 0xCE6E6B28#32) := by
  pointwise [score]
  rfl
theorem top_at : top x wq k (ix3 0 h i) = Finset.univ.fold max (Ideal.ofBits .f32 0xFF800000#32) fun j => score x wq k (ix4 0 h i j) := by
  pointwise [top]
theorem raw_at : raw x wq k (ix4 0 h i j) = Ideal.exp (score x wq k (ix4 0 h i j) - top x wq k (ix3 0 h i)) := by
  pointwise [raw]
theorem total_at : total x wq k (ix3 0 h i) = ∑ j, raw x wq k (ix4 0 h i j) := by
  pointwise [total]
theorem out_at : out x wq k v wo (ix3 0 i o) = ∑ a, mixed x wq k v (ix3 0 i a) * wo (ix2 a o) := by
  pointwise [out]

theorem refDiv_of (n : ℕ) (hn : n < 32768) : refDiv (wd n) = wd (n / 64) := by
  have := refDiv_wd ⟨n / 256, by omega⟩ ⟨n % 256, by omega⟩
  simp only [Nat.div_add_mod] at this
  exact this
theorem qBlk_at : qBlk (ix1 i) = wd (i.val / 64) := by
  refine Eq.trans (b := refDiv (wd i.val)) ?_ (refDiv_of i.val (by omega))
  pointwise [qBlk]
  rfl
theorem kBlk_at : kBlk (ix1 j) = wd (j.val / 64) := by
  refine Eq.trans (b := refDiv (wd j.val)) ?_ (refDiv_of j.val j.isLt)
  pointwise [kBlk]
  rfl
theorem three_at : three ix0 = 3#32 := by decide +kernel
theorem seen_at : seen (ix2 i j) = refSeen (wd (i.val / 64)) (wd (j.val / 64)) := by
  rw [← qBlk_at, ← kBlk_at]
  pointwise [seen]
  rw [three_at]
/-- Every query row sees the first key row. -/
theorem keep_at : keep (ix1 i) = 1#1 := by
  have e : keep (ix1 i) = Finset.univ.fold IntOp.ori (0#1) fun j : Fin 32768 => seen (ix2 i j) := by
    pointwise [keep]
  rw [e, ← Finset.insert_erase (Finset.mem_univ (0 : Fin 32768)), Finset.fold_insert (Finset.notMem_erase _ _)]
  have h0 : seen (ix2 i 0) = 1#1 := by
    rw [seen_at]
    exact seen_first ⟨i.val / 64, by omega⟩
  rw [h0]
  generalize Finset.fold IntOp.ori (0#1) _ _ = y
  revert y
  decide
theorem select_one {S : Shape} {α : Type} (c : IVec S 1) (a b : S.Idx → α) (j : S.Idx) (h : c j = 1#1) : select c a b j = a j := by
  show Scalar.select (c j) (a j) (b j) = a j
  rw [h]
  rfl
theorem keep4_at : keep4 (ix4 0 0 i 0) = 1#1 := by
  rw [← keep_at i]
  pointwise [keep4]
theorem den_at : den x wq k (ix4 0 h i 0) = total x wq k (ix3 0 h i) := by
  unfold den
  rw [select_one]
  · pointwise
  · rw [← keep4_at i]
    pointwise
theorem weight_quot : weight x wq k (ix4 0 h i j)
    = Host.divf (raw x wq k) (broadcastInDim S1x8x2048x32768 ![0, 1, 2, 3] bcast_S1x8x2048x1_S1x8x2048x32768_0_1_2_3 (den x wq k)) (ix4 0 h i j) := by
  unfold weight
  refine select_one _ _ _ _ ?_
  rw [← keep4_at i]
  pointwise
theorem quot_at (z : FVec Ideal S1x8x2048x32768 .f32) (y : FVec Ideal S1x8x2048x1 .f32) :
    Host.divf z (broadcastInDim S1x8x2048x32768 ![0, 1, 2, 3] bcast_S1x8x2048x1_S1x8x2048x32768_0_1_2_3 y) (ix4 0 h i j) = Ideal.div (z (ix4 0 h i j)) (y (ix4 0 h i 0)) := by
  pointwise
theorem weight_at : weight x wq k (ix4 0 h i j) = Ideal.div (raw x wq k (ix4 0 h i j)) (total x wq k (ix3 0 h i)) :=
  (weight_quot x wq k i j h).trans ((quot_at i j h (raw x wq k) (den x wq k)).trans (congrArg _ (den_at x wq k i h)))
theorem mixed_at : mixed x wq k v (ix3 0 i o) = ∑ j, v (ix4 0 j ⟨o.val / 128, by omega⟩ ⟨o.val % 128, by omega⟩) * weight x wq k (ix4 0 ⟨o.val / 128, by omega⟩ i j) := by
  pointwise [mixed]

end Cert.ReferenceIdeal.Ref
end
end
-- ==== Proof.Value.lean ====
module

public import proofs.«01_k».proof.Proof.Finite
public import proofs.«01_k».proof.Proof.RingValue
public import proofs.«01_k».proof.Proof.RefRead
public import Idealize.ShloMosaic.Lib.Layout

@[expose] public section

noncomputable section

namespace Cert.KernelIdeal.Ring

open Idealize.ShloMosaic Idealize.ShloMosaic.TcCoe Idealize.SL Idealize.SL.Sem
open Cert.KernelIdeal Cert.KernelIdeal.Gen
open Cert.ReferenceIdeal.Ref

/-! ## The ring's result is the reference's -/

/-- Device `c`'s key row `k`, among all the key rows. -/
def gk (c : Dev nD) (k : Fin 2048) : Fin 32768 := ⟨k.val + 2048 * c.val, by
  have : c.val < 16 := c.isLt
  omega⟩

theorem gk_surj (j : Fin 32768) : ∃ (c : Dev nD) (k : Fin 2048), j = gk c k :=
  ⟨⟨j.val / 2048, by show j.val / 2048 < 16; omega⟩, ⟨j.val % 2048, by omega⟩, Fin.ext (Nat.mod_add_div _ _).symm⟩

/-- A sum over all the key rows, device by device. -/
theorem sum_keys (f : Fin 32768 → EReal) : ∑ j, f j = ∑ c : Dev nD, ∑ k : Fin 2048, f (gk c k) := by
  have e : ∑ p : Fin 16 × Fin 2048, f (finProdFinEquiv p) = ∑ j : Fin 32768, f j := Equiv.sum_comp (finProdFinEquiv (m := 16) (n := 2048)) f
  rw [← e, Fintype.sum_prod_type]
  rfl

/-- A sum over all the columns, head by head. -/
theorem sum_cols (f : Fin 1024 → EReal) : ∑ a, f a = ∑ h : Fin 8, ∑ d : Fin 128, f ⟨h.val * 128 + d.val, by omega⟩ := by
  have e : ∑ p : Fin 8 × Fin 128, f (finProdFinEquiv p) = ∑ j : Fin 1024, f j := Equiv.sum_comp (finProdFinEquiv (m := 8) (n := 128)) f
  rw [← e, Fintype.sum_prod_type]
  refine Finset.sum_congr rfl fun h _ => Finset.sum_congr rfl fun d _ => congrArg f (Fin.ext ?_)
  show d.val + 128 * h.val = h.val * 128 + d.val
  omega

section
variable (m : (ℓ : Loc nD τ sig) → Buf (Elt Ideal) ℓ)
variable (X : FVec Ideal S1x2048x1024 .f32) (Wq Wo : FVec Ideal S1024x1024 .f32) (K V : FVec Ideal Cert.ReferenceIdeal.S1x32768x8x128 .f32)

/-- Each device holds its part of the arrays, and the scores are reals. -/
structure Parts : Prop where
  x : ∀ c, aX m c = X
  wq : ∀ c, aWq m c = Wq
  wo : ∀ c, aWo m c = Wo
  k : ∀ c k h d, aK m c (ix4 0 k h d) = K (ix4 0 (gk c k) h d)
  v : ∀ c k h d, aV m c (ix4 0 k h d) = V (ix4 0 (gk c k) h d)
  fx : ∀ c j, IsReal (aX m c j)
  fwq : ∀ c j, IsReal (aWq m c j)
  fk : ∀ c j, IsReal (aK m c j)

/-- Row `r` of slice `n`. -/
abbrev rowOf (n : Fin 16) (r : Fin 128) : Fin 2048 := ⟨128 * n.val + r.val, by omega⟩

variable {m X Wq Wo K V}

theorem sc_eq (P : Parts m X Wq Wo K V) (c : Dev nD) (h : Fin 8) (n : Fin 16) (r : Fin 128) (k : Fin 2048) :
    sc m c h (tr n) (ix2 r k) = score X Wq K (ix4 0 h (rowOf n r) (gk c k)) := by
  have e : (gk c k).val / 64 = 32 * c.val + k.val / 64 := by
    show (k.val + 2048 * c.val) / 64 = _
    omega
  rw [sc_at, lg_at, score_at, seen_at, P.x, P.wq, e]
  refine congrArg (Scalar.select _ · _) (congrArg (· * _) (Finset.sum_congr rfl fun d _ => ?_))
  rw [qs_at, P.k]

theorem sc_real (P : Parts m X Wq Wo K V) (c : Dev nD) (h : Fin 8) (n : Fin 16) (r : Fin 128) (k : Fin 2048) :
    IsReal (sc m c h (tr n) (ix2 r k)) := by
  rw [sc_at, lg_at]
  unfold Scalar.select
  split_ifs
  · exact (IsReal.sum _ _ fun d => (IsReal.sum _ _ fun a => (P.fx _ _).mul (P.fwq _ _)).mul (P.fk _ _)).mul scale_word
  · exact masked_word

variable (m) in
/-- The score, as the real that it is. -/
def scoreR (h : Fin 8) (n : Fin 16) (r : Fin 128) (c : Dev nD) (k : Fin 2048) : ℝ := (sc m c h (tr n) (ix2 r k)).toReal

theorem sc_sig (P : Parts m X Wq Wo K V) (c : Dev nD) (h : Fin 8) (n : Fin 16) (r : Fin 128) (k : Fin 2048) :
    sc m c h (tr n) (ix2 r k) = (scoreR m h n r c k : EReal) := (sc_real P c h n r k).coe.symm

/-- What one device has before the ring. -/
theorem own_rep (P : Parts m X Wq Wo K V) (h : Fin 8) (n : Fin 16) (r d : Fin 128) (e : Dev nD) :
    Rep (scoreR m h n r) (fun e k => V (ix4 0 (gk e k) h d)) {e} (ms0 m e (ix4 n 0 h r)) (ms0 m e (ix4 n 1 h r)) (ctx0 m e (ix4 n h r d)) := by
  rw [ms0_max, ms0_sum, ctx0_at]
  unfold mx
  rw [ninf_word]
  simp only [sc_sig P, P.v]
  exact Rep.own (scoreR m h n r) (fun e k => V (ix4 0 (gk e k) h d)) e

/-- The reference's maximum of a row is a real. -/
theorem top_real (P : Parts m X Wq Wo K V) (h : Fin 8) (n : Fin 16) (r : Fin 128) :
    ∃ ν : ℝ, top X Wq K (ix3 0 h (rowOf n r)) = (ν : EReal) := by
  have real : ∀ j, IsReal (score X Wq K (ix4 0 h (rowOf n r) j)) := fun j => by
    obtain ⟨c, k, rfl⟩ := gk_surj j
    rw [← sc_eq P]
    exact sc_real P c h n r k
  choose f hf using real
  obtain ⟨ν, hν⟩ := fold_max_real f
  refine ⟨ν, ?_⟩
  rw [top_at, ninf_word, ← hν]
  exact congrArg (Finset.fold max ⊥ · _) (funext hf)

/-- The ring's quotient is the reference's weighted row. -/
theorem quot_eq (P : Parts m X Wq Wo K V) (h : Fin 8) (n : Fin 16) (r d : Fin 128) :
    Ideal.div (accC m 15 (prv n) (ix4 n h r d)) (accM m 15 (prv n) (ix4 n 1 h r))
      = ∑ j, V (ix4 0 j h d) * weight X Wq K (ix4 0 h (rowOf n r) j) := by
  have R := ring_rep m (scoreR m h n r) (fun e k => V (ix4 0 (gk e k) h d)) n h r d (own_rep P h n r d) 15 le_rfl (prv n)
  rw [heldBy_last] at R
  obtain ⟨ν, hν⟩ := top_real P h n r
  have hraw : ∀ c k, raw X Wq K (ix4 0 h (rowOf n r) (gk c k)) = ((Real.exp (scoreR m h n r c k - ν) : ℝ) : EReal) := fun c k => by
    rw [raw_at, hν, ← sc_eq P, sc_sig P, ← EReal.coe_sub, Ideal.exp_coe]
  have htot : total X Wq K (ix3 0 h (rowOf n r)) = ((ssum (scoreR m h n r) ν Finset.univ : ℝ) : EReal) := by
    rw [total_at, sum_keys]
    unfold ssum
    rw [coe_sum]
    refine Finset.sum_congr rfl fun c _ => ?_
    rw [coe_sum]
    exact Finset.sum_congr rfl fun k _ => hraw c k
  rw [R.quot (hB := ⟨prv n, Finset.mem_univ _⟩) _ _ ν, sum_keys]
  refine Finset.sum_congr rfl fun c _ => Finset.sum_congr rfl fun k _ => ?_
  rw [weight_at, hraw, htot, mul_comm]

/-- The ring's result, at row `r` of slice `n`. -/
theorem outF_row (P : Parts m X Wq Wo K V) (n : Fin 16) (r : Fin 128) (o : Fin 1024) :
    outF m (ix3 0 (rowOf n r) o) = out X Wq K V Wo (ix3 0 (rowOf n r) o) := by
  suffices key : (∑ h : Fin 8, ∑ d : Fin 128,
      Ideal.div (accC m 15 (prv n) (ix4 n h r d)) (accM m 15 (prv n) (ix4 n 1 h r)) * aWo m (prv n) (ix2 ⟨h.val * 128 + d.val, by omega⟩ o))
      = ∑ a, mixed X Wq K V (ix3 0 (rowOf n r) a) * Wo (ix2 a o) from
    (outF_at m (rowOf n r) o n r rfl).trans (key.trans (out_at X Wq K V Wo (rowOf n r) o).symm)
  rw [sum_cols]
  refine Finset.sum_congr rfl fun h _ => Finset.sum_congr rfl fun d _ => ?_
  have e1 : (⟨(h.val * 128 + d.val) / 128, by omega⟩ : Fin 8) = h := Fin.ext (by
    show (h.val * 128 + d.val) / 128 = h.val
    omega)
  have e2 : (⟨(h.val * 128 + d.val) % 128, by omega⟩ : Fin 128) = d := Fin.ext (by
    show (h.val * 128 + d.val) % 128 = d.val
    omega)
  rw [quot_eq P, P.wo, mixed_at]
  simp only [e1, e2]

/-- At every index. -/
theorem outF_eq (P : Parts m X Wq Wo K V) (j : S1x2048x1024.Idx) : outF m j = out X Wq K V Wo j := by
  obtain ⟨a, i, o, rfl⟩ : ∃ (a : Fin 1) (i : Fin 2048) (o : Fin 1024), j = ix3 a i o :=
    ⟨j 0, j 1, j 2, funext fun b => by fin_cases b <;> rfl⟩
  obtain rfl : a = 0 := Subsingleton.elim _ _
  obtain ⟨n, r, rfl⟩ : ∃ n r, i = rowOf n r :=
    ⟨⟨i.val / 128, by omega⟩, ⟨i.val % 128, by omega⟩, Fin.ext (Nat.div_add_mod _ _).symm⟩
  exact outF_row P n r o

/-- A block of the keys or of the values, at an index. -/
theorem block_at (A : FVec Ideal Cert.ReferenceIdeal.S1x32768x8x128 .f32) (c : Dev nD) (k : Fin 2048) (h : Fin 8) (d : Fin 128) :
    Layout.block ⟨4, ![1, 2048, 8, 128]⟩ ⟨4, ![1, 32768, 8, 128]⟩ 1 16 c A (by decide) (ix4 0 k h d) = A (ix4 0 (gk c k) h d) := by
  rw [Layout.block_apply]
  refine congrArg A (funext fun b => Fin.ext ?_)
  fin_cases b
  · rfl
  · show c.val * 2048 + k.val = k.val + 2048 * c.val
    omega
  · rfl
  · rfl

end

end Cert.KernelIdeal.Ring
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Read
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The two printings of the kernel have one text, so one table of bodies. -/
theorem defs₀_eq : (Cert.Kernel.defs₀ (F := Bits)) = Cert.KernelIdeal.defs₀ := by
  refine congrArg Defs.onTc (funext fun l => ?_)
  match l with
  | 0 => exact funext fun x => rfl
  | ⟨n + 1, h⟩ => exact absurd h (Nat.not_lt.2 (Nat.le_add_left _ _))

theorem defs_eq : (Cert.Kernel.defs (F := Bits)) = Cert.KernelIdeal.defs :=
  congrArg (Pipeline.defs Cert.KernelIdeal.pcfgs) defs₀_eq

/-- The kernel's frame: its text is the one the run is proved of, read at the floats as they are. -/
theorem frame_kernel : Cert.quiescent_Kernel := by
  intro m ρ _
  have h := (θ_run Cert.KernelIdeal.defs _ _).mono
    (Q' := fun r => (∀ c, Cert.KernelIdeal.Ring.ArgsKept (F := Bits) m r.2.mem c) ∧ r.2.sem = fun _ => 0)
    (fun _ h => ⟨fun c => (h.1 c).2, h.2⟩)
    (Cert.KernelIdeal.Ring.run_read (F := Bits) m ρ)
  rw [← defs_eq] at h
  exact h

/-- The same over the ideal values. -/
theorem frame_kernelIdeal : Cert.quiescent_KernelIdeal := fun m ρ _ =>
  (θ_run Cert.KernelIdeal.defs _ _).mono (fun _ h => ⟨fun c => (h.1 c).2, h.2⟩)
    (Cert.KernelIdeal.Ring.run_read (F := Ideal) m ρ)

/-- The reference is a straight line of host operations and declares no semaphore. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The device's blocks and the precondition, as the value proof takes them. -/
theorem parts (m : (ℓ : Loc Cert.KernelIdeal.nD Cert.KernelIdeal.τ Cert.KernelIdeal.sig) → Buf (Elt Ideal) ℓ)
    (X : FVec Ideal Cert.KernelIdeal.S1x2048x1024 .f32) (Wq Wo : FVec Ideal Cert.KernelIdeal.S1024x1024 .f32)
    (K V : FVec Ideal Cert.ReferenceIdeal.S1x32768x8x128 .f32) (hp : Cert.Pre_KernelIdeal_scores_finite_KernelIdeal m)
    (h : ∀ c : Dev Cert.KernelIdeal.nD,
      Cert.KernelIdeal.Ring.aX m c = X ∧ Cert.KernelIdeal.Ring.aWq m c = Wq
      ∧ Cert.KernelIdeal.Ring.aK m c = Layout.block ⟨4, ![1, 2048, 8, 128]⟩ ⟨4, ![1, 32768, 8, 128]⟩ 1 16 c K
      ∧ Cert.KernelIdeal.Ring.aV m c = Layout.block ⟨4, ![1, 2048, 8, 128]⟩ ⟨4, ![1, 32768, 8, 128]⟩ 1 16 c V
      ∧ Cert.KernelIdeal.Ring.aWo m c = Wo) :
    Cert.KernelIdeal.Ring.Parts m X Wq Wo K V where
  x c := (h c).1
  wq c := (h c).2.1
  wo c := (h c).2.2.2.2
  k c k g d := (congrFun (h c).2.2.1 _).trans (Cert.KernelIdeal.Ring.block_at K c k g d)
  v c k g d := (congrFun (h c).2.2.2.1 _).trans (Cert.KernelIdeal.Ring.block_at V c k g d)
  fx c := (Cert.KernelIdeal.Ring.finite_args _ _ _ _ _ (hp c)).1
  fwq c := (Cert.KernelIdeal.Ring.finite_args _ _ _ _ _ (hp c)).2.1
  fk c := (Cert.KernelIdeal.Ring.finite_args _ _ _ _ _ (hp c)).2.2

/-- The ring's result on every device is the reference's. -/
theorem value : Cert.algebraic_KernelIdeal_ReferenceIdeal_pre_scores_finite_KernelIdeal := by
  intro m g m' g' hp h
  refine ⟨Cert.ReferenceIdeal.Value.res_main_v44 m' 0, ?_, ?_⟩
  · refine (θ_run Cert.KernelIdeal.defs _ _).mono (fun r hr c => ⟨?_, (hr.1 c).2⟩)
      (Cert.KernelIdeal.Ring.run_read (F := Ideal) m g)
    rw [Cert.ReferenceIdeal.Ref.res_eq]
    refine funext fun j => ?_
    refine (Cert.KernelIdeal.Ring.out_read (r.2.mem ((c : Thread Cert.KernelIdeal.nD Cert.KernelIdeal.τ).loc Cert.KernelIdeal.main_v1)) j).symm.trans ?_
    refine (congrFun (hr.1 c).1 j).trans ?_
    exact Cert.KernelIdeal.Ring.outF_eq (parts m _ _ _ _ _ hp h) j
  · exact (θ_run Cert.ReferenceIdeal.defs _ _).mono (fun r hr => hr 0) (Cert.ReferenceIdeal.Value.run (F := Ideal) m' g')

theorem claim : Cert.Claim :=
  ⟨Cert.Kernel.Gen.facts, Cert.KernelIdeal.Gen.facts, Cert.ReferenceIdeal.Gen.facts, Cert.KernelIdeal.Ring.facts_finite,
    Cert.KernelIdeal.Ring.facts_finite_ref, frame_kernel, frame_kernelIdeal, fun m ρ _ => frame_kernelIdeal m ρ trivial,
    frame_referenceIdeal, fun m ρ _ => frame_referenceIdeal m ρ trivial, trivial, value⟩

end Cert.Proof

end
